-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Experts [hPre_experts_exist : Cert.Pre_experts_exist.Facts] (m : (ℓ : Loc Cert.Experts.nD Cert.Experts.τ Cert.Experts.sig) → Buf (Elt Bits) ℓ) : Prop :=
  ∀ c : Dev Cert.Experts.nD,
    (Cert.Pre_experts_exist.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_experts_exist : Cert.Pre_experts_exist.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_exist.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_exist [hPre_experts_exist : Cert.Pre_experts_exist.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_exist.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_scores_finite [hPre_scores_finite : Cert.Pre_scores_finite.Facts] (m : (ℓ : Loc Cert.LatentIdeal.nD Cert.LatentIdeal.τ Cert.LatentIdeal.sig) → Buf (Elt Ideal) ℓ) : Prop :=
  ∀ c : Dev Cert.LatentIdeal.nD,
    (Cert.Pre_scores_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4))) = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_scores_finite [hPre_scores_finite : Cert.Pre_scores_finite.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_scores_finite.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4))) = (fun _ => 1#1)

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_experts_exist : Cert.Pre_experts_exist.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_ExpertsReferenceIdeal_pre_experts_exist [hExpertsReferenceIdeal : Cert.ExpertsReferenceIdeal.Facts] [hPre_experts_exist : Cert.Pre_experts_exist.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_exist m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8)
      ∧ r.2.mem ((c.tc : Thread Cert.Dense.nD Cert.Dense.τ).loc Cert.Dense.main_arg9) = m ((c.tc : Thread Cert.Dense.nD Cert.Dense.τ).loc Cert.Dense.main_arg9)
      ∧ r.2.mem ((c.tc : Thread Cert.Dense.nD Cert.Dense.τ).loc Cert.Dense.main_arg10) = m ((c.tc : Thread Cert.Dense.nD Cert.Dense.τ).loc Cert.Dense.main_arg10))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
      ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
      ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7)
      ∧ r.2.mem ((c.tc : Thread Cert.DenseReferenceIdeal.nD Cert.DenseReferenceIdeal.τ).loc Cert.DenseReferenceIdeal.main_arg8) = m ((c.tc : Thread Cert.DenseReferenceIdeal.nD Cert.DenseReferenceIdeal.τ).loc Cert.DenseReferenceIdeal.main_arg8)
      ∧ r.2.mem ((c.tc : Thread Cert.DenseReferenceIdeal.nD Cert.DenseReferenceIdeal.τ).loc Cert.DenseReferenceIdeal.main_arg9) = m ((c.tc : Thread Cert.DenseReferenceIdeal.nD Cert.DenseReferenceIdeal.τ).loc Cert.DenseReferenceIdeal.main_arg9)
      ∧ r.2.mem ((c.tc : Thread Cert.DenseReferenceIdeal.nD Cert.DenseReferenceIdeal.τ).loc Cert.DenseReferenceIdeal.main_arg10) = m ((c.tc : Thread Cert.DenseReferenceIdeal.nD Cert.DenseReferenceIdeal.τ).loc Cert.DenseReferenceIdeal.main_arg10))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ r.2.sem = fun _ => 0)

def quiescent_LatentIdeal_pre_scores_finite [hLatentIdeal : Cert.LatentIdeal.Facts] [hPre_scores_finite : Cert.Pre_scores_finite.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_scores_finite m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4))
      ∧ r.2.sem = fun _ => 0)

def quiescent_LatentReferenceIdeal_pre_scores_finite [hLatentReferenceIdeal : Cert.LatentReferenceIdeal.Facts] [hPre_scores_finite : Cert.Pre_scores_finite.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_scores_finite m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v153) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)
      ∧ m' ((c.tc : Thread Cert.DenseReferenceIdeal.nD Cert.DenseReferenceIdeal.τ).loc Cert.DenseReferenceIdeal.main_arg8) = m ((c.tc : Thread Cert.DenseIdeal.nD Cert.DenseIdeal.τ).loc Cert.DenseIdeal.main_arg8)
      ∧ m' ((c.tc : Thread Cert.DenseReferenceIdeal.nD Cert.DenseReferenceIdeal.τ).loc Cert.DenseReferenceIdeal.main_arg9) = m ((c.tc : Thread Cert.DenseIdeal.nD Cert.DenseIdeal.τ).loc Cert.DenseIdeal.main_arg9)
      ∧ m' ((c.tc : Thread Cert.DenseReferenceIdeal.nD Cert.DenseReferenceIdeal.τ).loc Cert.DenseReferenceIdeal.main_arg10) = m ((c.tc : Thread Cert.DenseIdeal.nD Cert.DenseIdeal.τ).loc Cert.DenseIdeal.main_arg10)) →
    ∃ (v0 : (c : Dev Cert.DenseIdeal.nD) → Buf (Elt Ideal) ((c.tc : Thread Cert.DenseIdeal.nD Cert.DenseIdeal.τ).loc Cert.DenseIdeal.main_v11)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v11) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
          ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
          ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v140) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7)
          ∧ r.2.mem ((c.tc : Thread Cert.DenseReferenceIdeal.nD Cert.DenseReferenceIdeal.τ).loc Cert.DenseReferenceIdeal.main_arg8) = m' ((c.tc : Thread Cert.DenseReferenceIdeal.nD Cert.DenseReferenceIdeal.τ).loc Cert.DenseReferenceIdeal.main_arg8)
          ∧ r.2.mem ((c.tc : Thread Cert.DenseReferenceIdeal.nD Cert.DenseReferenceIdeal.τ).loc Cert.DenseReferenceIdeal.main_arg9) = m' ((c.tc : Thread Cert.DenseReferenceIdeal.nD Cert.DenseReferenceIdeal.τ).loc Cert.DenseReferenceIdeal.main_arg9)
          ∧ r.2.mem ((c.tc : Thread Cert.DenseReferenceIdeal.nD Cert.DenseReferenceIdeal.τ).loc Cert.DenseReferenceIdeal.main_arg10) = m' ((c.tc : Thread Cert.DenseReferenceIdeal.nD Cert.DenseReferenceIdeal.τ).loc Cert.DenseReferenceIdeal.main_arg10))

def preserves_Latent_LatentIdeal : Prop :=
  True

def algebraic_LatentIdeal_LatentReferenceIdeal_pre_scores_finite [hLatentIdeal : Cert.LatentIdeal.Facts] [hLatentReferenceIdeal : Cert.LatentReferenceIdeal.Facts] [hPre_scores_finite : Cert.Pre_scores_finite.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal_scores_finite m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)) →
    ∃ (v0 : (c : Dev Cert.LatentIdeal.nD) → Buf (Elt Ideal) ((c.tc : Thread Cert.LatentIdeal.nD Cert.LatentIdeal.τ).loc Cert.LatentIdeal.main_v44)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v44) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v45) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4))

def preserves_Projections_ProjectionsIdeal : Prop :=
  True

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)) →
    ∃ (v0 : (c : Dev Cert.ProjectionsIdeal.nD) → Buf (Elt Ideal) ((c.tc : Thread Cert.ProjectionsIdeal.nD Cert.ProjectionsIdeal.τ).loc Cert.ProjectionsIdeal.main_v39_0)) (v1 : (c : Dev Cert.ProjectionsIdeal.nD) → Buf (Elt Ideal) ((c.tc : Thread Cert.ProjectionsIdeal.nD Cert.ProjectionsIdeal.τ).loc Cert.ProjectionsIdeal.main_v46)) (v2 : (c : Dev Cert.ProjectionsIdeal.nD) → Buf (Elt Ideal) ((c.tc : Thread Cert.ProjectionsIdeal.nD Cert.ProjectionsIdeal.τ).loc Cert.ProjectionsIdeal.main_v53)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v39_0) = v0 c
          ∧ r.2.mem ((c.tc : Thread Cert.ProjectionsIdeal.nD Cert.ProjectionsIdeal.τ).loc Cert.ProjectionsIdeal.main_v46) = v1 c
          ∧ r.2.mem ((c.tc : Thread Cert.ProjectionsIdeal.nD Cert.ProjectionsIdeal.τ).loc Cert.ProjectionsIdeal.main_v53) = v2 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v70) = v0 c
          ∧ r.2.mem ((c.tc : Thread Cert.ProjectionsReferenceIdeal.nD Cert.ProjectionsReferenceIdeal.τ).loc Cert.ProjectionsReferenceIdeal.main_v71) = v1 c
          ∧ r.2.mem ((c.tc : Thread Cert.ProjectionsReferenceIdeal.nD Cert.ProjectionsReferenceIdeal.τ).loc Cert.ProjectionsReferenceIdeal.main_v72) = v2 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hDense : Cert.Dense.Facts) (hDenseIdeal : Cert.DenseIdeal.Facts) (hDenseReferenceIdeal : Cert.DenseReferenceIdeal.Facts) (hLatent : Cert.Latent.Facts) (hLatentIdeal : Cert.LatentIdeal.Facts) (hLatentReferenceIdeal : Cert.LatentReferenceIdeal.Facts) (hProjections : Cert.Projections.Facts) (hProjectionsIdeal : Cert.ProjectionsIdeal.Facts) (hProjectionsReferenceIdeal : Cert.ProjectionsReferenceIdeal.Facts) (hPre_finite : Cert.Pre_finite.Facts) (hPre_experts_exist : Cert.Pre_experts_exist.Facts) (hPre_scores_finite : Cert.Pre_scores_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_experts_exist := hPre_experts_exist)
    ∧ quiescent_ExpertsIdeal (hExpertsIdeal := hExpertsIdeal) (hPre_experts_exist := hPre_experts_exist)
    ∧ quiescent_ExpertsReferenceIdeal (hExpertsReferenceIdeal := hExpertsReferenceIdeal)
    ∧ quiescent_ExpertsReferenceIdeal_pre_experts_exist (hExpertsReferenceIdeal := hExpertsReferenceIdeal) (hPre_experts_exist := hPre_experts_exist)
    ∧ quiescent_Dense (hDense := hDense)
    ∧ quiescent_DenseIdeal (hDenseIdeal := hDenseIdeal)
    ∧ quiescent_DenseReferenceIdeal (hDenseReferenceIdeal := hDenseReferenceIdeal)
    ∧ quiescent_Latent (hLatent := hLatent)
    ∧ quiescent_LatentIdeal (hLatentIdeal := hLatentIdeal)
    ∧ quiescent_LatentIdeal_pre_scores_finite (hLatentIdeal := hLatentIdeal) (hPre_scores_finite := hPre_scores_finite)
    ∧ quiescent_LatentReferenceIdeal (hLatentReferenceIdeal := hLatentReferenceIdeal)
    ∧ quiescent_LatentReferenceIdeal_pre_scores_finite (hLatentReferenceIdeal := hLatentReferenceIdeal) (hPre_scores_finite := hPre_scores_finite)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_experts_exist := hPre_experts_exist)
    ∧ preserves_Dense_DenseIdeal
    ∧ algebraic_DenseIdeal_DenseReferenceIdeal (hDenseIdeal := hDenseIdeal) (hDenseReferenceIdeal := hDenseReferenceIdeal)
    ∧ preserves_Latent_LatentIdeal
    ∧ algebraic_LatentIdeal_LatentReferenceIdeal_pre_scores_finite (hLatentIdeal := hLatentIdeal) (hLatentReferenceIdeal := hLatentReferenceIdeal) (hPre_scores_finite := hPre_scores_finite)
    ∧ preserves_Projections_ProjectionsIdeal
    ∧ algebraic_ProjectionsIdeal_ProjectionsReferenceIdeal (hProjectionsIdeal := hProjectionsIdeal) (hProjectionsReferenceIdeal := hProjectionsReferenceIdeal)
-- ==== Pre_experts_exist.lean ====
abbrev S144 : Shape := ⟨1, ![144]⟩
abbrev S8 : Shape := ⟨1, ![8]⟩
abbrev S36864x1024 : Shape := ⟨2, ![36864, 1024]⟩
abbrev S8x1024x2816 : Shape := ⟨3, ![8, 1024, 2816]⟩
abbrev S8x1408x1024 : Shape := ⟨3, ![8, 1408, 1024]⟩
abbrev S_ : Shape := ⟨0, ![]⟩

class Facts : Prop where
  bcast_S_S144 : S_.BroadcastsInDim S144 (![] : Fin 0 → Fin S144.rank)
  reducesTo_S144_S_d0 : S144.ReducesTo [0] S_
  h_S_ : 0 < S_.numel

variable [Facts]

def fn {F : FTy → Type} [FloatOps F] (main_arg0 : IVec S144 32) (main_arg1 : IVec S8 32) (main_arg2 : FVec F S36864x1024 .f32) (main_arg3 : FVec F S8x1024x2816 .f32) (main_arg4 : FVec F S8x1408x1024 .f32) : IVec S_ 1 :=
  let main_c : IVec S_ 32 := constantI S_ 32 0#32
  let main_v0 : IVec S144 32 := broadcastInDim S144 ![] bcast_S_S144 main_c
  let main_v1 : IVec S144 1 := cmpi .sge main_arg0 main_v0
  let main_c_0 : IVec S_ 32 := constantI S_ 32 8#32
  let main_v2 : IVec S144 32 := broadcastInDim S144 ![] bcast_S_S144 main_c_0
  let main_v3 : IVec S144 1 := cmpi .slt main_arg0 main_v2
  let main_v4 : IVec S144 1 := andi main_v1 main_v3
  let main_c_1 : IVec S_ 1 := constantI S_ 1 1#1
  let main_v5 : IVec S_ 1 := (fun x v => Host.reduce IntOp.andi x v reducesTo_S144_S_d0 h_S_) main_v4 main_c_1
  main_v5
-- ==== Pre_finite.lean ====
abbrev S17408x1024 : Shape := ⟨2, ![17408, 1024]⟩
abbrev S17408x256 : Shape := ⟨2, ![17408, 256]⟩
abbrev S_ : Shape := ⟨0, ![]⟩

class Facts : Prop where
  bcast_S_S17408x1024 : S_.BroadcastsInDim S17408x1024 (![] : Fin 0 → Fin S17408x1024.rank)
  reducesTo_S17408x1024_S_d0_1 : S17408x1024.ReducesTo [0, 1] S_
  h_S_ : 0 < S_.numel
  bcast_S_S17408x256 : S_.BroadcastsInDim S17408x256 (![] : Fin 0 → Fin S17408x256.rank)
  reducesTo_S17408x256_S_d0_1 : S17408x256.ReducesTo [0, 1] S_

variable [Facts]

def fn {F : FTy → Type} [FloatOps F] (main_arg0 : FVec F S17408x1024 .f32) (main_arg1 : FVec F S17408x256 .f32) (main_arg2 : FVec F S17408x256 .f32) : IVec S_ 1 :=
  let main_v0 : FVec F S17408x1024 .f32 := Host.absf main_arg0
  let main_cst : FVec F S_ .f32 := constant S_ .f32 0x7F800000#32
  let main_v1 : FVec F S17408x1024 .f32 := broadcastInDim S17408x1024 ![] bcast_S_S17408x1024 main_cst
  let main_v2 : IVec S17408x1024 1 := cmpf .olt main_v0 main_v1
  let main_c : IVec S_ 1 := constantI S_ 1 1#1
  let main_v3 : IVec S_ 1 := (fun x v => Host.reduce IntOp.andi x v reducesTo_S17408x1024_S_d0_1 h_S_) main_v2 main_c
  let main_v4 : FVec F S17408x256 .f32 := Host.absf main_arg1
  let main_cst_0 : FVec F S_ .f32 := constant S_ .f32 0x7F800000#32
  let main_v5 : FVec F S17408x256 .f32 := broadcastInDim S17408x256 ![] bcast_S_S17408x256 main_cst_0
  let main_v6 : IVec S17408x256 1 := cmpf .olt main_v4 main_v5
  let main_c_1 : IVec S_ 1 := constantI S_ 1 1#1
  let main_v7 : IVec S_ 1 := (fun x v => Host.reduce IntOp.andi x v reducesTo_S17408x256_S_d0_1 h_S_) main_v6 main_c_1
  let main_v8 : IVec S_ 1 := andi main_v3 main_v7
  main_v8
-- ==== Pre_scores_finite.lean ====
abbrev S17408x1024 : Shape := ⟨2, ![17408, 1024]⟩
abbrev S17408x512 : Shape := ⟨2, ![17408, 512]⟩
abbrev S17408x32 : Shape := ⟨2, ![17408, 32]⟩
abbrev S_ : Shape := ⟨0, ![]⟩

class Facts : Prop where
  bcast_S_S17408x1024 : S_.BroadcastsInDim S17408x1024 (![] : Fin 0 → Fin S17408x1024.rank)
  reducesTo_S17408x1024_S_d0_1 : S17408x1024.ReducesTo [0, 1] S_
  h_S_ : 0 < S_.numel
  bcast_S_S17408x512 : S_.BroadcastsInDim S17408x512 (![] : Fin 0 → Fin S17408x512.rank)
  reducesTo_S17408x512_S_d0_1 : S17408x512.ReducesTo [0, 1] S_
  bcast_S_S17408x32 : S_.BroadcastsInDim S17408x32 (![] : Fin 0 → Fin S17408x32.rank)
  reducesTo_S17408x32_S_d0_1 : S17408x32.ReducesTo [0, 1] S_

variable [Facts]

def fn_part1 {F : FTy → Type} [FloatOps F] (main_v13 : IVec S_ 1) (main_v16 : IVec S17408x32 1) : IVec S_ 1 :=
  let main_c_5 : IVec S_ 1 := constantI S_ 1 1#1
  let main_v17 : IVec S_ 1 := (fun x v => Host.reduce IntOp.andi x v reducesTo_S17408x32_S_d0_1 h_S_) main_v16 main_c_5
  let main_v18 : IVec S_ 1 := andi main_v13 main_v17
  main_v18

def fn {F : FTy → Type} [FloatOps F] (main_arg0 : FVec F S17408x1024 .f32) (main_arg1 : FVec F S17408x512 .f32) (main_arg2 : FVec F S17408x1024 .f32) (main_arg3 : FVec F S17408x32 .f32) (main_arg4 : FVec F S17408x1024 .f32) : IVec S_ 1 :=
  let main_v0 : FVec F S17408x1024 .f32 := Host.absf main_arg0
  let main_cst : FVec F S_ .f32 := constant S_ .f32 0x7F800000#32
  let main_v1 : FVec F S17408x1024 .f32 := broadcastInDim S17408x1024 ![] bcast_S_S17408x1024 main_cst
  let main_v2 : IVec S17408x1024 1 := cmpf .olt main_v0 main_v1
  let main_c : IVec S_ 1 := constantI S_ 1 1#1
  let main_v3 : IVec S_ 1 := (fun x v => Host.reduce IntOp.andi x v reducesTo_S17408x1024_S_d0_1 h_S_) main_v2 main_c
  let main_v4 : FVec F S17408x512 .f32 := Host.absf main_arg1
  let main_cst_0 : FVec F S_ .f32 := constant S_ .f32 0x7F800000#32
  let main_v5 : FVec F S17408x512 .f32 := broadcastInDim S17408x512 ![] bcast_S_S17408x512 main_cst_0
  let main_v6 : IVec S17408x512 1 := cmpf .olt main_v4 main_v5
  let main_c_1 : IVec S_ 1 := constantI S_ 1 1#1
  let main_v7 : IVec S_ 1 := (fun x v => Host.reduce IntOp.andi x v reducesTo_S17408x512_S_d0_1 h_S_) main_v6 main_c_1
  let main_v8 : IVec S_ 1 := andi main_v3 main_v7
  let main_v9 : FVec F S17408x1024 .f32 := Host.absf main_arg2
  let main_cst_2 : FVec F S_ .f32 := constant S_ .f32 0x7F800000#32
  let main_v10 : FVec F S17408x1024 .f32 := broadcastInDim S17408x1024 ![] bcast_S_S17408x1024 main_cst_2
  let main_v11 : IVec S17408x1024 1 := cmpf .olt main_v9 main_v10
  let main_c_3 : IVec S_ 1 := constantI S_ 1 1#1
  let main_v12 : IVec S_ 1 := (fun x v => Host.reduce IntOp.andi x v reducesTo_S17408x1024_S_d0_1 h_S_) main_v11 main_c_3
  let main_v13 : IVec S_ 1 := andi main_v8 main_v12
  let main_v14 : FVec F S17408x32 .f32 := Host.absf main_arg3
  let main_cst_4 : FVec F S_ .f32 := constant S_ .f32 0x7F800000#32
  let main_v15 : FVec F S17408x32 .f32 := broadcastInDim S17408x32 ![] bcast_S_S17408x32 main_cst_4
  let main_v16 : IVec S17408x32 1 := cmpf .olt main_v14 main_v15
  fn_part1 (F := F) main_v13 main_v16
-- ==== Kernel.lean ====
abbrev S17408x1024 : Shape := ⟨2, ![17408, 1024]⟩
abbrev S17408x256 : Shape := ⟨2, ![17408, 256]⟩
abbrev S4x17408x128 : Shape := ⟨3, ![4, 17408, 128]⟩
abbrev S_ : Shape := ⟨0, ![]⟩
abbrev S17408x4x64 : Shape := ⟨3, ![17408, 4, 64]⟩
abbrev S4x17408x64 : Shape := ⟨3, ![4, 17408, 64]⟩
abbrev S4x1x17408x128 : Shape := ⟨4, ![4, 1, 17408, 128]⟩
abbrev S4x2x17408x128 : Shape := ⟨4, ![4, 2, 17408, 128]⟩
abbrev S4x2x128x17408 : Shape := ⟨4, ![4, 2, 128, 17408]⟩
abbrev S16384x1024 : Shape := ⟨2, ![16384, 1024]⟩
abbrev S1024x256 : Shape := ⟨2, ![1024, 256]⟩
abbrev S1x2x256x128 : Shape := ⟨4, ![1, 2, 256, 128]⟩
abbrev S1x2x128x256 : Shape := ⟨4, ![1, 2, 128, 256]⟩
abbrev S1x2x4096x128 : Shape := ⟨4, ![1, 2, 4096, 128]⟩
abbrev S1x2x128x4096 : Shape := ⟨4, ![1, 2, 128, 4096]⟩
abbrev S4352x512 : Shape := ⟨2, ![4352, 512]⟩
abbrev S256x128 : Shape := ⟨2, ![256, 128]⟩
abbrev S512x128 : Shape := ⟨2, ![512, 128]⟩
abbrev S1x1x256x128 : Shape := ⟨4, ![1, 1, 256, 128]⟩
abbrev S256x512 : Shape := ⟨2, ![256, 512]⟩
abbrev S32x8x512 : Shape := ⟨3, ![32, 8, 512]⟩
abbrev S8x512 : Shape := ⟨2, ![8, 512]⟩
abbrev S1x1x512x128 : Shape := ⟨4, ![1, 1, 512, 128]⟩
abbrev S512x512 : Shape := ⟨2, ![512, 512]⟩
abbrev S64x8x512 : Shape := ⟨3, ![64, 8, 512]⟩
abbrev S512 : Shape := ⟨1, ![512]⟩
abbrev S1x512 : Shape := ⟨2, ![1, 512]⟩
abbrev S128x512 : Shape := ⟨2, ![128, 512]⟩
abbrev S1x1x128x256 : Shape := ⟨4, ![1, 1, 128, 256]⟩
abbrev S128x256 : Shape := ⟨2, ![128, 256]⟩
abbrev S1x1x128x512 : Shape := ⟨4, ![1, 1, 128, 512]⟩

abbrev nBuf : Space → Nat
  | .hbm => 73
  | .vmem => 14
  | .smem => 0
  | _ => 0

abbrev bufTy : (tb : Table) → Fin (tcTables nBuf tb) → BufTy
  | .hbm, ⟨0, _⟩ => ⟨S17408x1024, .f32⟩
  | .hbm, ⟨1, _⟩ => ⟨S17408x256, .f32⟩
  | .hbm, ⟨2, _⟩ => ⟨S17408x256, .f32⟩
  | .hbm, ⟨3, _⟩ => ⟨S4x17408x128, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S17408x1024, .f32⟩
  | .hbm, ⟨9, _⟩ => ⟨S17408x1024, .f32⟩
  | .hbm, ⟨10, _⟩ => ⟨S17408x1024, .bf16⟩
  | .hbm, ⟨11, _⟩ => ⟨S17408x4x64, .f32⟩
  | .hbm, ⟨12, _⟩ => ⟨S4x17408x64, .f32⟩
  | .hbm, ⟨13, _⟩ => ⟨S4x17408x128, .f32⟩
  | .hbm, ⟨14, _⟩ => ⟨S_, .i32⟩
  | .hbm, ⟨15, _⟩ => ⟨S4x17408x128, .i32⟩
  | .hbm, ⟨16, _⟩ => ⟨S4x17408x128, .i1⟩
  | .hbm, ⟨17, _⟩ => ⟨S_, .f32⟩
  | .hbm, ⟨18, _⟩ => ⟨S_, .f32⟩
  | .hbm, ⟨19, _⟩ => ⟨S4x17408x128, .f32⟩
  | .hbm, ⟨20, _⟩ => ⟨S4x17408x128, .f32⟩
  | .hbm, ⟨21, _⟩ => ⟨S17408x4x64, .f32⟩
  | .hbm, ⟨22, _⟩ => ⟨S4x17408x64, .f32⟩
  | .hbm, ⟨23, _⟩ => ⟨S4x17408x128, .f32⟩
  | .hbm, ⟨24, _⟩ => ⟨S_, .i32⟩
  | .hbm, ⟨25, _⟩ => ⟨S4x17408x128, .i32⟩
  | .hbm, ⟨26, _⟩ => ⟨S4x17408x128, .i1⟩
  | .hbm, ⟨27, _⟩ => ⟨S_, .f32⟩
  | .hbm, ⟨28, _⟩ => ⟨S_, .f32⟩
  | .hbm, ⟨29, _⟩ => ⟨S4x17408x128, .f32⟩
  | .hbm, ⟨30, _⟩ => ⟨S4x17408x128, .f32⟩
  | .hbm, ⟨31, _⟩ => ⟨S4x1x17408x128, .f32⟩
  | .hbm, ⟨32, _⟩ => ⟨S4x1x17408x128, .f32⟩
  | .hbm, ⟨33, _⟩ => ⟨S4x2x17408x128, .f32⟩
  | .hbm, ⟨34, _⟩ => ⟨S4x2x17408x128, .bf16⟩
  | .hbm, ⟨35, _⟩ => ⟨S17408x4x64, .f32⟩
  | .hbm, ⟨36, _⟩ => ⟨S4x17408x64, .f32⟩
  | .hbm, ⟨37, _⟩ => ⟨S4x17408x128, .f32⟩
  | .hbm, ⟨38, _⟩ => ⟨S_, .i32⟩
  | .hbm, ⟨39, _⟩ => ⟨S4x17408x128, .i32⟩
  | .hbm, ⟨40, _⟩ => ⟨S4x17408x128, .i1⟩
  | .hbm, ⟨41, _⟩ => ⟨S_, .i32⟩
  | .hbm, ⟨42, _⟩ => ⟨S4x17408x128, .i32⟩
  | .hbm, ⟨43, _⟩ => ⟨S4x17408x128, .i1⟩
  | .hbm, ⟨44, _⟩ => ⟨S_, .f32⟩
  | .hbm, ⟨45, _⟩ => ⟨S_, .f32⟩
  | .hbm, ⟨46, _⟩ => ⟨S4x17408x128, .f32⟩
  | .hbm, ⟨47, _⟩ => ⟨S4x17408x128, .f32⟩
  | .hbm, ⟨48, _⟩ => ⟨S4x17408x128, .f32⟩
  | .hbm, ⟨49, _⟩ => ⟨S4x17408x128, .f32⟩
  | .hbm, ⟨50, _⟩ => ⟨S4x17408x128, .f32⟩
  | .hbm, ⟨51, _⟩ => ⟨S17408x4x64, .f32⟩
  | .hbm, ⟨52, _⟩ => ⟨S4x17408x64, .f32⟩
  | .hbm, ⟨53, _⟩ => ⟨S4x17408x128, .f32⟩
  | .hbm, ⟨54, _⟩ => ⟨S_, .i32⟩
  | .hbm, ⟨55, _⟩ => ⟨S4x17408x128, .i32⟩
  | .hbm, ⟨56, _⟩ => ⟨S4x17408x128, .i1⟩
  | .hbm, ⟨57, _⟩ => ⟨S_, .i32⟩
  | .hbm, ⟨58, _⟩ => ⟨S4x17408x128, .i32⟩
  | .hbm, ⟨59, _⟩ => ⟨S4x17408x128, .i1⟩
  | .hbm, ⟨60, _⟩ => ⟨S_, .f32⟩
  | .hbm, ⟨61, _⟩ => ⟨S_, .f32⟩
  | .hbm, ⟨62, _⟩ => ⟨S4x17408x128, .f32⟩
  | .hbm, ⟨63, _⟩ => ⟨S4x17408x128, .f32⟩
  | .hbm, ⟨64, _⟩ => ⟨S4x17408x128, .f32⟩
  | .hbm, ⟨65, _⟩ => ⟨S4x17408x128, .f32⟩
  | .hbm, ⟨66, _⟩ => ⟨S4x17408x128, .f32⟩
  | .hbm, ⟨67, _⟩ => ⟨S4x1x17408x128, .f32⟩
  | .hbm, ⟨68, _⟩ => ⟨S4x1x17408x128, .f32⟩
  | .hbm, ⟨69, _⟩ => ⟨S4x2x17408x128, .f32⟩
  | .hbm, ⟨70, _⟩ => ⟨S4x2x17408x128, .bf16⟩
  | .hbm, ⟨71, _⟩ => ⟨S4x2x128x17408, .bf16⟩
  | .hbm, ⟨72, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S1x2x256x128, .bf16⟩
  | .local _ .vmem, ⟨3, _⟩ => ⟨S1x2x256x128, .bf16⟩
  | .local _ .vmem, ⟨4, _⟩ => ⟨S1x2x128x256, .bf16⟩
  | .local _ .vmem, ⟨5, _⟩ => ⟨S1x2x128x256, .bf16⟩
  | .local _ .vmem, ⟨6, _⟩ => ⟨S1x2x4096x128, .bf16⟩
  | .local _ .vmem, ⟨7, _⟩ => ⟨S1x2x4096x128, .bf16⟩
  | .local _ .vmem, ⟨8, _⟩ => ⟨S1x2x128x4096, .bf16⟩
  | .local _ .vmem, ⟨9, _⟩ => ⟨S1x2x128x4096, .bf16⟩
  | .local _ .vmem, ⟨10, _⟩ => ⟨S1024x256, .bf16⟩
  | .local _ .vmem, ⟨11, _⟩ => ⟨S1024x256, .bf16⟩
  | .local _ .vmem, ⟨12, _⟩ => ⟨S4352x512, .f32⟩
  | .local _ .vmem, ⟨13, _⟩ => ⟨S4352x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_cst_7 : Ref sig .tc := ⟨.hbm, 45, rfl⟩
abbrev main_call2_v0 : Ref sig .tc := ⟨.hbm, 46, rfl⟩
abbrev main_call2_v1 : Ref sig .tc := ⟨.hbm, 47, rfl⟩
abbrev main_v29 : Ref sig .tc := ⟨.hbm, 48, rfl⟩
abbrev main_call3_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_cst_11 : Ref sig .tc := ⟨.hbm, 61, rfl⟩
abbrev main_call4_v0 : Ref sig .tc := ⟨.hbm, 62, rfl⟩
abbrev main_call4_v1 : Ref sig .tc := ⟨.hbm, 63, rfl⟩
abbrev main_v38 : Ref sig .tc := ⟨.hbm, 64, rfl⟩
abbrev main_call5_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![arg1.toNat, c0_i32.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![arg1.toNat, c0_i32.toNat, c0_i32_0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S17408x1024 : Shape := ⟨2, ![17408, 1024]⟩
abbrev S17408x256 : Shape := ⟨2, ![17408, 256]⟩
abbrev S16384x1024 : Shape := ⟨2, ![16384, 1024]⟩
abbrev S4x4096x4x4x64 : Shape := ⟨5, ![4, 4096, 4, 4, 64]⟩
abbrev S1024x1024 : Shape := ⟨2, ![1024, 1024]⟩
abbrev S4x256x4x4x64 : Shape := ⟨5, ![4, 256, 4, 4, 64]⟩
abbrev S16384x256 : Shape := ⟨2, ![16384, 256]⟩
abbrev S4x4096x4x64 : Shape := ⟨4, ![4, 4096, 4, 64]⟩
abbrev S1024x256 : Shape := ⟨2, ![1024, 256]⟩
abbrev S4x256x4x64 : Shape := ⟨4, ![4, 256, 4, 64]⟩
abbrev S4x4352x4x64 : Shape := ⟨4, ![4, 4352, 4, 64]⟩
abbrev S4x4x4352x4096x4 : Shape := ⟨5, ![4, 4, 4352, 4096, 4]⟩
abbrev S4x4x4x4096x4352 : Shape := ⟨5, ![4, 4, 4, 4096, 4352]⟩
abbrev S_ : Shape := ⟨0, ![]⟩
abbrev S4x4x4x4096 : Shape := ⟨4, ![4, 4, 4, 4096]⟩
abbrev S4x4x4x4096x1 : Shape := ⟨5, ![4, 4, 4, 4096, 1]⟩
abbrev S4x4x64x4x4096 : Shape := ⟨5, ![4, 4, 64, 4, 4096]⟩

abbrev nBuf : Space → Nat
  | .hbm => 40
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x256, .f32⟩
  | .hbm, ⟨2, _⟩ => ⟨S17408x256, .f32⟩
  | .hbm, ⟨3, _⟩ => ⟨S16384x1024, .f32⟩
  | .hbm, ⟨4, _⟩ => ⟨S4x4096x4x4x64, .f32⟩
  | .hbm, ⟨5, _⟩ => ⟨S1024x1024, .f32⟩
  | .hbm, ⟨6, _⟩ => ⟨S4x256x4x4x64, .f32⟩
  | .hbm, ⟨7, _⟩ => ⟨S16384x256, .f32⟩
  | .hbm, ⟨8, _⟩ => ⟨S4x4096x4x64, .f32⟩
  | .hbm, ⟨9, _⟩ => ⟨S1024x256, .f32⟩
  | .hbm, ⟨10, _⟩ => ⟨S4x256x4x64, .f32⟩
  | .hbm, ⟨11, _⟩ => ⟨S16384x256, .f32⟩
  | .hbm, ⟨12, _⟩ => ⟨S4x4096x4x64, .f32⟩
  | .hbm, ⟨13, _⟩ => ⟨S1024x256, .f32⟩
  | .hbm, ⟨14, _⟩ => ⟨S4x256x4x64, .f32⟩
  | .hbm, ⟨15, _⟩ => ⟨S4x4352x4x64, .f32⟩
  | .hbm, ⟨16, _⟩ => ⟨S4x4352x4x64, .f32⟩
  | .hbm, ⟨17, _⟩ => ⟨S4x4x4352x4096x4, .f32⟩
  | .hbm, ⟨18, _⟩ => ⟨S4x4x4x4096x4352, .f32⟩
  | .hbm, ⟨19, _⟩ => ⟨S_, .f32⟩
  | .hbm, ⟨20, _⟩ => ⟨S4x4x4x4096x4352, .f32⟩
  | .hbm, ⟨21, _⟩ => ⟨S4x4x4x4096x4352, .f32⟩
  | .hbm, ⟨22, _⟩ => ⟨S_, .f32⟩
  | .hbm, ⟨23, _⟩ => ⟨S4x4x4x4096, .f32⟩
  | .hbm, ⟨24, _⟩ => ⟨S_, .f32⟩
  | .hbm, ⟨25, _⟩ => ⟨S4x4x4x4096, .f32⟩
  | .hbm, ⟨26, _⟩ => ⟨S4x4x4x4096, .f32⟩
  | .hbm, ⟨27, _⟩ => ⟨S4x4x4x4096x1, .f32⟩
  | .hbm, ⟨28, _⟩ => ⟨S4x4x4x4096x4352, .f32⟩
  | .hbm, ⟨29, _⟩ => ⟨S4x4x4x4096x4352, .f32⟩
  | .hbm, ⟨30, _⟩ => ⟨S4x4x4x4096x4352, .f32⟩
  | .hbm, ⟨31, _⟩ => ⟨S_, .f32⟩
  | .hbm, ⟨32, _⟩ => ⟨S4x4x4x4096, .f32⟩
  | .hbm, ⟨33, _⟩ => ⟨S4x4x4x4096x1, .f32⟩
  | .hbm, ⟨34, _⟩ => ⟨S4x4x4x4096x4352, .f32⟩
  | .hbm, ⟨35, _⟩ => ⟨S4x4x4x4096x4352, .f32⟩
  | .hbm, ⟨36, _⟩ => ⟨S4x4x64x4x4096, .f32⟩
  | .hbm, ⟨37, _⟩ => ⟨S4x4096x4x4x64, .f32⟩
  | .hbm, ⟨38, _⟩ => ⟨S16384x1024, .f32⟩
  | .hbm, ⟨39, _⟩ => ⟨S16384x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Experts.lean ====
abbrev S144 : Shape := ⟨1, ![144]⟩
abbrev S8 : Shape := ⟨1, ![8]⟩
abbrev S36864x1024 : Shape := ⟨2, ![36864, 1024]⟩
abbrev S8x1024x2816 : Shape := ⟨3, ![8, 1024, 2816]⟩
abbrev S8x1408x1024 : Shape := ⟨3, ![8, 1408, 1024]⟩
abbrev S256x1024 : Shape := ⟨2, ![256, 1024]⟩
abbrev S1x1024x2816 : Shape := ⟨3, ![1, 1024, 2816]⟩
abbrev S1 : Shape := ⟨1, ![1]⟩
abbrev S1x1408x1024 : Shape := ⟨3, ![1, 1408, 1024]⟩
abbrev S1024x2816 : Shape := ⟨2, ![1024, 2816]⟩
abbrev S1408x1024 : Shape := ⟨2, ![1408, 1024]⟩
abbrev S256x2816 : Shape := ⟨2, ![256, 2816]⟩
abbrev S256x1408 : Shape := ⟨2, ![256, 1408]⟩

abbrev nBuf : Space → Nat
  | .hbm => 4
  | .vmem => 10
  | .smem => 2
  | _ => 0

abbrev bufTy : (tb : Table) → Fin (tcTables nBuf tb) → BufTy
  | .hbm, ⟨0, _⟩ => ⟨S36864x1024, .f32⟩
  | .hbm, ⟨1, _⟩ => ⟨S8x1024x2816, .f32⟩
  | .hbm, ⟨2, _⟩ => ⟨S8x1408x1024, .f32⟩
  | .hbm, ⟨3, _⟩ => ⟨S36864x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2816, .f32⟩
  | .local _ .vmem, ⟨3, _⟩ => ⟨S1x1024x2816, .f32⟩
  | .local _ .vmem, ⟨4, _⟩ => ⟨S1x1408x1024, .f32⟩
  | .local _ .vmem, ⟨5, _⟩ => ⟨S1x1408x1024, .f32⟩
  | .local _ .vmem, ⟨6, _⟩ => ⟨S256x1024, .f32⟩
  | .local _ .vmem, ⟨7, _⟩ => ⟨S256x1024, .f32⟩
  | .local _ .vmem, ⟨8, _⟩ => ⟨S1024x2816, .bf16⟩
  | .local _ .vmem, ⟨9, _⟩ => ⟨S1408x1024, .bf16⟩
  | .local _ .smem, ⟨0, _⟩ => ⟨S144, .i32⟩
  | .local _ .smem, ⟨1, _⟩ => ⟨S8, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![144], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v13 : BitVec 32 := Scalar.extui v1
  let c0_i32_2 : BitVec 32 := 0#32
  let v14 : BitVec 1 := Scalar.cmpi .ne v13 c0_i32_2
  v14

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v15 : BitVec 1 := Scalar.xori v1 v_true
  let v16 : BitVec 32 := Scalar.extui v15
  let c0_i32_3 : BitVec 32 := 0#32
  let v17 : BitVec 1 := Scalar.cmpi .ne v16 c0_i32_3
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S144 : Shape := ⟨1, ![144]⟩
abbrev S8 : Shape := ⟨1, ![8]⟩
abbrev S36864x1024 : Shape := ⟨2, ![36864, 1024]⟩
abbrev S8x1024x2816 : Shape := ⟨3, ![8, 1024, 2816]⟩
abbrev S8x1408x1024 : Shape := ⟨3, ![8, 1408, 1024]⟩
abbrev S144x256 : Shape := ⟨2, ![144, 256]⟩
abbrev S36864 : Shape := ⟨1, ![36864]⟩
abbrev S1 : Shape := ⟨1, ![1]⟩
abbrev S_ : Shape := ⟨0, ![]⟩
abbrev S1x1024x2816 : Shape := ⟨3, ![1, 1024, 2816]⟩
abbrev S1024x2816 : Shape := ⟨2, ![1024, 2816]⟩
abbrev S36864x2816 : Shape := ⟨2, ![36864, 2816]⟩
abbrev S36864x1408 : Shape := ⟨2, ![36864, 1408]⟩
abbrev S36864x1 : Shape := ⟨2, ![36864, 1]⟩
abbrev S1x1408x1024 : Shape := ⟨3, ![1, 1408, 1024]⟩
abbrev S1408x1024 : Shape := ⟨2, ![1408, 1024]⟩

abbrev nBuf : Space → Nat
  | .hbm => 232
  | .vmem => 0
  | .smem => 0
  | _ => 0

abbrev hbmTy0_0 (i : Nat) : BufTy := match i % 128 with
  | 0 => ⟨S144, .i32⟩
  | 1 => ⟨S8, .i32⟩
  | 2 => ⟨S36864x1024, .f32⟩
  | 3 => ⟨S8x1024x2816, .f32⟩
  | 4 => ⟨S8x1408x1024, .f32⟩
  | 5 => ⟨S144x256, .i32⟩
  | 6 => ⟨S36864, .i32⟩
  | 7 => ⟨S144, .i32⟩
  | 8 => ⟨S144x256, .i32⟩
  | 9 => ⟨S36864, .i32⟩
  | 10 => ⟨S1, .i32⟩
  | 11 => ⟨S_, .i32⟩
  | 12 => ⟨S36864, .i32⟩
  | 13 => ⟨S36864, .i1⟩
  | 14 => ⟨S_, .f32⟩
  | 15 => ⟨S36864x1024, .f32⟩
  | 16 => ⟨S1x1024x2816, .f32⟩
  | 17 => ⟨S1024x2816, .f32⟩
  | 18 => ⟨S36864x2816, .f32⟩
  | 19 => ⟨S36864x1408, .f32⟩
  | 20 => ⟨S36864x1408, .f32⟩
  | 21 => ⟨S_, .i32⟩
  | 22 => ⟨S36864, .i32⟩
  | 23 => ⟨S36864, .i1⟩
  | 24 => ⟨S36864, .i1⟩
  | 25 => ⟨S36864, .f32⟩
  | 26 => ⟨S36864x1, .f32⟩
  | 27 => ⟨S36864x1408, .f32⟩
  | 28 => ⟨S36864x1408, .f32⟩
  | 29 => ⟨S_, .f32⟩
  | 30 => ⟨S36864x1408, .f32⟩
  | 31 => ⟨S36864x1408, .f32⟩
  | 32 => ⟨S_, .f32⟩
  | 33 => ⟨S36864x1408, .f32⟩
  | 34 => ⟨S36864x1408, .f32⟩
  | 35 => ⟨S36864x1408, .f32⟩
  | 36 => ⟨S36864x1408, .f32⟩
  | 37 => ⟨S1x1408x1024, .f32⟩
  | 38 => ⟨S1408x1024, .f32⟩
  | 39 => ⟨S36864x1024, .f32⟩
  | 40 => ⟨S36864x1024, .f32⟩
  | 41 => ⟨S36864x1024, .f32⟩
  | 42 => ⟨S36864x1024, .f32⟩
  | 43 => ⟨S1x1024x2816, .f32⟩
  | 44 => ⟨S1024x2816, .f32⟩
  | 45 => ⟨S36864x2816, .f32⟩
  | 46 => ⟨S36864x1408, .f32⟩
  | 47 => ⟨S36864x1408, .f32⟩
  | 48 => ⟨S_, .i32⟩
  | 49 => ⟨S36864, .i32⟩
  | 50 => ⟨S36864, .i1⟩
  | 51 => ⟨S36864, .i1⟩
  | 52 => ⟨S36864, .f32⟩
  | 53 => ⟨S36864x1, .f32⟩
  | 54 => ⟨S36864x1408, .f32⟩
  | 55 => ⟨S36864x1408, .f32⟩
  | 56 => ⟨S_, .f32⟩
  | 57 => ⟨S36864x1408, .f32⟩
  | 58 => ⟨S36864x1408, .f32⟩
  | 59 => ⟨S_, .f32⟩
  | 60 => ⟨S36864x1408, .f32⟩
  | 61 => ⟨S36864x1408, .f32⟩
  | 62 => ⟨S36864x1408, .f32⟩
  | 63 => ⟨S36864x1408, .f32⟩
  | 64 => ⟨S1x1408x1024, .f32⟩
  | 65 => ⟨S1408x1024, .f32⟩
  | 66 => ⟨S36864x1024, .f32⟩
  | 67 => ⟨S36864x1024, .f32⟩
  | 68 => ⟨S36864x1024, .f32⟩
  | 69 => ⟨S36864x1024, .f32⟩
  | 70 => ⟨S1x1024x2816, .f32⟩
  | 71 => ⟨S1024x2816, .f32⟩
  | 72 => ⟨S36864x2816, .f32⟩
  | 73 => ⟨S36864x1408, .f32⟩
  | 74 => ⟨S36864x1408, .f32⟩
  | 75 => ⟨S_, .i32⟩
  | 76 => ⟨S36864, .i32⟩
  | 77 => ⟨S36864, .i1⟩
  | 78 => ⟨S36864, .i1⟩
  | 79 => ⟨S36864, .f32⟩
  | 80 => ⟨S36864x1, .f32⟩
  | 81 => ⟨S36864x1408, .f32⟩
  | 82 => ⟨S36864x1408, .f32⟩
  | 83 => ⟨S_, .f32⟩
  | 84 => ⟨S36864x1408, .f32⟩
  | 85 => ⟨S36864x1408, .f32⟩
  | 86 => ⟨S_, .f32⟩
  | 87 => ⟨S36864x1408, .f32⟩
  | 88 => ⟨S36864x1408, .f32⟩
  | 89 => ⟨S36864x1408, .f32⟩
  | 90 => ⟨S36864x1408, .f32⟩
  | 91 => ⟨S1x1408x1024, .f32⟩
  | 92 => ⟨S1408x1024, .f32⟩
  | 93 => ⟨S36864x1024, .f32⟩
  | 94 => ⟨S36864x1024, .f32⟩
  | 95 => ⟨S36864x1024, .f32⟩
  | 96 => ⟨S36864x1024, .f32⟩
  | 97 => ⟨S1x1024x2816, .f32⟩
  | 98 => ⟨S1024x2816, .f32⟩
  | 99 => ⟨S36864x2816, .f32⟩
  | 100 => ⟨S36864x1408, .f32⟩
  | 101 => ⟨S36864x1408, .f32⟩
  | 102 => ⟨S_, .i32⟩
  | 103 => ⟨S36864, .i32⟩
  | 104 => ⟨S36864, .i1⟩
  | 105 => ⟨S36864, .i1⟩
  | 106 => ⟨S36864, .f32⟩
  | 107 => ⟨S36864x1, .f32⟩
  | 108 => ⟨S36864x1408, .f32⟩
  | 109 => ⟨S36864x1408, .f32⟩
  | 110 => ⟨S_, .f32⟩
  | 111 => ⟨S36864x1408, .f32⟩
  | 112 => ⟨S36864x1408, .f32⟩
  | 113 => ⟨S_, .f32⟩
  | 114 => ⟨S36864x1408, .f32⟩
  | 115 => ⟨S36864x1408, .f32⟩
  | 116 => ⟨S36864x1408, .f32⟩
  | 117 => ⟨S36864x1408, .f32⟩
  | 118 => ⟨S1x1408x1024, .f32⟩
  | 119 => ⟨S1408x1024, .f32⟩
  | 120 => ⟨S36864x1024, .f32⟩
  | 121 => ⟨S36864x1024, .f32⟩
  | 122 => ⟨S36864x1024, .f32⟩
  | 123 => ⟨S36864x1024, .f32⟩
  | 124 => ⟨S1x1024x2816, .f32⟩
  | 125 => ⟨S1024x2816, .f32⟩
  | 126 => ⟨S36864x2816, .f32⟩
  | 127 => ⟨S36864x1408, .f32⟩
  | _ => ⟨S144, .i32⟩

abbrev hbmTy0_1 (i : Nat) : BufTy := match i % 128 with
  | 0 => ⟨S36864x1408, .f32⟩
  | 1 => ⟨S_, .i32⟩
  | 2 => ⟨S36864, .i32⟩
  | 3 => ⟨S36864, .i1⟩
  | 4 => ⟨S36864, .i1⟩
  | 5 => ⟨S36864, .f32⟩
  | 6 => ⟨S36864x1, .f32⟩
  | 7 => ⟨S36864x1408, .f32⟩
  | 8 => ⟨S36864x1408, .f32⟩
  | 9 => ⟨S_, .f32⟩
  | 10 => ⟨S36864x1408, .f32⟩
  | 11 => ⟨S36864x1408, .f32⟩
  | 12 => ⟨S_, .f32⟩
  | 13 => ⟨S36864x1408, .f32⟩
  | 14 => ⟨S36864x1408, .f32⟩
  | 15 => ⟨S36864x1408, .f32⟩
  | 16 => ⟨S36864x1408, .f32⟩
  | 17 => ⟨S1x1408x1024, .f32⟩
  | 18 => ⟨S1408x1024, .f32⟩
  | 19 => ⟨S36864x1024, .f32⟩
  | 20 => ⟨S36864x1024, .f32⟩
  | 21 => ⟨S36864x1024, .f32⟩
  | 22 => ⟨S36864x1024, .f32⟩
  | 23 => ⟨S1x1024x2816, .f32⟩
  | 24 => ⟨S1024x2816, .f32⟩
  | 25 => ⟨S36864x2816, .f32⟩
  | 26 => ⟨S36864x1408, .f32⟩
  | 27 => ⟨S36864x1408, .f32⟩
  | 28 => ⟨S_, .i32⟩
  | 29 => ⟨S36864, .i32⟩
  | 30 => ⟨S36864, .i1⟩
  | 31 => ⟨S36864, .i1⟩
  | 32 => ⟨S36864, .f32⟩
  | 33 => ⟨S36864x1, .f32⟩
  | 34 => ⟨S36864x1408, .f32⟩
  | 35 => ⟨S36864x1408, .f32⟩
  | 36 => ⟨S_, .f32⟩
  | 37 => ⟨S36864x1408, .f32⟩
  | 38 => ⟨S36864x1408, .f32⟩
  | 39 => ⟨S_, .f32⟩
  | 40 => ⟨S36864x1408, .f32⟩
  | 41 => ⟨S36864x1408, .f32⟩
  | 42 => ⟨S36864x1408, .f32⟩
  | 43 => ⟨S36864x1408, .f32⟩
  | 44 => ⟨S1x1408x1024, .f32⟩
  | 45 => ⟨S1408x1024, .f32⟩
  | 46 => ⟨S36864x1024, .f32⟩
  | 47 => ⟨S36864x1024, .f32⟩
  | 48 => ⟨S36864x1024, .f32⟩
  | 49 => ⟨S36864x1024, .f32⟩
  | 50 => ⟨S1x1024x2816, .f32⟩
  | 51 => ⟨S1024x2816, .f32⟩
  | 52 => ⟨S36864x2816, .f32⟩
  | 53 => ⟨S36864x1408, .f32⟩
  | 54 => ⟨S36864x1408, .f32⟩
  | 55 => ⟨S_, .i32⟩
  | 56 => ⟨S36864, .i32⟩
  | 57 => ⟨S36864, .i1⟩
  | 58 => ⟨S36864, .i1⟩
  | 59 => ⟨S36864, .f32⟩
  | 60 => ⟨S36864x1, .f32⟩
  | 61 => ⟨S36864x1408, .f32⟩
  | 62 => ⟨S36864x1408, .f32⟩
  | 63 => ⟨S_, .f32⟩
  | 64 => ⟨S36864x1408, .f32⟩
  | 65 => ⟨S36864x1408, .f32⟩
  | 66 => ⟨S_, .f32⟩
  | 67 => ⟨S36864x1408, .f32⟩
  | 68 => ⟨S36864x1408, .f32⟩
  | 69 => ⟨S36864x1408, .f32⟩
  | 70 => ⟨S36864x1408, .f32⟩
  | 71 => ⟨S1x1408x1024, .f32⟩
  | 72 => ⟨S1408x1024, .f32⟩
  | 73 => ⟨S36864x1024, .f32⟩
  | 74 => ⟨S36864x1024, .f32⟩
  | 75 => ⟨S36864x1024, .f32⟩
  | 76 => ⟨S36864x1024, .f32⟩
  | 77 => ⟨S1x1024x2816, .f32⟩
  | 78 => ⟨S1024x2816, .f32⟩
  | 79 => ⟨S36864x2816, .f32⟩
  | 80 => ⟨S36864x1408, .f32⟩
  | 81 => ⟨S36864x1408, .f32⟩
  | 82 => ⟨S_, .i32⟩
  | 83 => ⟨S36864, .i32⟩
  | 84 => ⟨S36864, .i1⟩
  | 85 => ⟨S36864, .i1⟩
  | 86 => ⟨S36864, .f32⟩
  | 87 => ⟨S36864x1, .f32⟩
  | 88 => ⟨S36864x1408, .f32⟩
  | 89 => ⟨S36864x1408, .f32⟩
  | 90 => ⟨S_, .f32⟩
  | 91 => ⟨S36864x1408, .f32⟩
  | 92 => ⟨S36864x1408, .f32⟩
  | 93 => ⟨S_, .f32⟩
  | 94 => ⟨S36864x1408, .f32⟩
  | 95 => ⟨S36864x1408, .f32⟩
  | 96 => ⟨S36864x1408, .f32⟩
  | 97 => ⟨S36864x1408, .f32⟩
  | 98 => ⟨S1x1408x1024, .f32⟩
  | 99 => ⟨S1408x1024, .f32⟩
  | 100 => ⟨S36864x1024, .f32⟩
  | 101 => ⟨S36864x1024, .f32⟩
  | 102 => ⟨S36864x1024, .f32⟩
  | 103 => ⟨S36864x1024, .f32⟩
  | _ => ⟨S144, .i32⟩

abbrev hbmTy (i : Nat) : BufTy := match i / 128 with
  | 0 => hbmTy0_0 i
  | 1 => hbmTy0_1 i
  | _ => ⟨S144, .i32⟩

abbrev bufTy : (tb : Table) → Fin (tcTables nBuf tb) → BufTy
  | .hbm, ⟨i, _⟩ => hbmTy i
  | _, _ => ⟨S144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_1 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_2 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_3 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_call4_v5 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_c_4 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_call5_v0 : Ref sig .tc := ⟨.hbm, 162, rfl⟩
abbrev main_call5_v1 : Ref sig .tc := ⟨.hbm, 163, rfl⟩
abbrev main_call5_cst : Ref sig .tc := ⟨.hbm, 164, rfl⟩
abbrev main_call5_v2 : Ref sig .tc := ⟨.hbm, 165, rfl⟩
abbrev main_call5_v3 : Ref sig .tc := ⟨.hbm, 166, rfl⟩
abbrev main_call5_cst_0 : Ref sig .tc := ⟨.hbm, 167, rfl⟩
abbrev main_call5_v4 : Ref sig .tc := ⟨.hbm, 168, rfl⟩
abbrev main_call5_v5 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_c_5 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_call6_v0 : Ref sig .tc := ⟨.hbm, 189, rfl⟩
abbrev main_call6_v1 : Ref sig .tc := ⟨.hbm, 190, rfl⟩
abbrev main_call6_cst : Ref sig .tc := ⟨.hbm, 191, rfl⟩
abbrev main_call6_v2 : Ref sig .tc := ⟨.hbm, 192, rfl⟩
abbrev main_call6_v3 : Ref sig .tc := ⟨.hbm, 193, rfl⟩
abbrev main_call6_cst_0 : Ref sig .tc := ⟨.hbm, 194, rfl⟩
abbrev main_call6_v4 : Ref sig .tc := ⟨.hbm, 195, rfl⟩
abbrev main_call6_v5 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_c_6 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_call7_v0 : Ref sig .tc := ⟨.hbm, 216, rfl⟩
abbrev main_call7_v1 : Ref sig .tc := ⟨.hbm, 217, rfl⟩
abbrev main_call7_cst : Ref sig .tc := ⟨.hbm, 218, rfl⟩
abbrev main_call7_v2 : Ref sig .tc := ⟨.hbm, 219, rfl⟩
abbrev main_call7_v3 : Ref sig .tc := ⟨.hbm, 220, rfl⟩
abbrev main_call7_cst_0 : Ref sig .tc := ⟨.hbm, 221, rfl⟩
abbrev main_call7_v4 : Ref sig .tc := ⟨.hbm, 222, rfl⟩
abbrev main_call7_v5 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩

abbrev nD : Nat := 1
abbrev τ : Topo := Topo.v7x

variable {F : FTy → Type} [FloatOps F]
-- ==== Dense.lean ====
abbrev S16384x1024 : Shape := ⟨2, ![16384, 1024]⟩
abbrev S1024x1024 : Shape := ⟨2, ![1024, 1024]⟩
abbrev S4x4096x1024 : Shape := ⟨3, ![4, 4096, 1024]⟩
abbrev S4x256x1024 : Shape := ⟨3, ![4, 256, 1024]⟩
abbrev S8x6144 : Shape := ⟨2, ![8, 6144]⟩
abbrev S1024 : Shape := ⟨1, ![1024]⟩
abbrev S1024x5632 : Shape := ⟨2, ![1024, 5632]⟩
abbrev S2816x1024 : Shape := ⟨2, ![2816, 1024]⟩
abbrev S8x1x6144 : Shape := ⟨3, ![8, 1, 6144]⟩
abbrev S1x1024 : Shape := ⟨2, ![1, 1024]⟩
abbrev S17408x1024 : Shape := ⟨2, ![17408, 1024]⟩
abbrev S512x1024 : Shape := ⟨2, ![512, 1024]⟩
abbrev S1x1x6144 : Shape := ⟨3, ![1, 1, 6144]⟩
abbrev S1x1x1024 : Shape := ⟨3, ![1, 1, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 23
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S4x4096x1024, .f32⟩
  | .hbm, ⟨4, _⟩ => ⟨S4x256x1024, .f32⟩
  | .hbm, ⟨5, _⟩ => ⟨S8x6144, .f32⟩
  | .hbm, ⟨6, _⟩ => ⟨S1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S16384x1024, .bf16⟩
  | .hbm, ⟨12, _⟩ => ⟨S1024x1024, .bf16⟩
  | .hbm, ⟨13, _⟩ => ⟨S1024x1024, .bf16⟩
  | .hbm, ⟨14, _⟩ => ⟨S16384x1024, .f32⟩
  | .hbm, ⟨15, _⟩ => ⟨S8x1x6144, .f32⟩
  | .hbm, ⟨16, _⟩ => ⟨S1x1024, .f32⟩
  | .hbm, ⟨17, _⟩ => ⟨S1x1024, .f32⟩
  | .hbm, ⟨18, _⟩ => ⟨S1024x5632, .bf16⟩
  | .hbm, ⟨19, _⟩ => ⟨S2816x1024, .bf16⟩
  | .hbm, ⟨20, _⟩ => ⟨S1x1024, .f32⟩
  | .hbm, ⟨21, _⟩ => ⟨S1024x1024, .f32⟩
  | .hbm, ⟨22, _⟩ => ⟨S17408x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1x6144, .f32⟩
  | .local _ .vmem, ⟨10, _⟩ => ⟨S1x1x6144, .f32⟩
  | .local _ .vmem, ⟨11, _⟩ => ⟨S1x1024, .f32⟩
  | .local _ .vmem, ⟨12, _⟩ => ⟨S1x1024, .f32⟩
  | .local _ .vmem, ⟨13, _⟩ => ⟨S1024x5632, .bf16⟩
  | .local _ .vmem, ⟨14, _⟩ => ⟨S2816x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .sge v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 c4_i32 v18
  let c0_i32_4 : BitVec 32 := 0#32
  let c0_i32_5 : BitVec 32 := 0#32
  let c0_i32_6 : BitVec 32 := 0#32
  ![v19.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DenseReferenceIdeal.lean ====
abbrev S16384x1024 : Shape := ⟨2, ![16384, 1024]⟩
abbrev S1024x1024 : Shape := ⟨2, ![1024, 1024]⟩
abbrev S4x4096x1024 : Shape := ⟨3, ![4, 4096, 1024]⟩
abbrev S4x256x1024 : Shape := ⟨3, ![4, 256, 1024]⟩
abbrev S8x6144 : Shape := ⟨2, ![8, 6144]⟩
abbrev S1024 : Shape := ⟨1, ![1024]⟩
abbrev S1024x5632 : Shape := ⟨2, ![1024, 5632]⟩
abbrev S2816x1024 : Shape := ⟨2, ![2816, 1024]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S1x6144 : Shape := ⟨2, ![1, 6144]⟩
abbrev S6144 : Shape := ⟨1, ![6144]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S17408x1024 : Shape := ⟨2, ![17408, 1024]⟩

abbrev nBuf : Space → Nat
  | .hbm => 188
  | .vmem => 0
  | .smem => 0
  | _ => 0

abbrev hbmTy0_0 (i : Nat) : BufTy := match i % 128 with
  | 0 => ⟨S16384x1024, .f32⟩
  | 1 => ⟨S1024x1024, .f32⟩
  | 2 => ⟨S1024x1024, .f32⟩
  | 3 => ⟨S4x4096x1024, .f32⟩
  | 4 => ⟨S4x256x1024, .f32⟩
  | 5 => ⟨S8x6144, .f32⟩
  | 6 => ⟨S1024, .f32⟩
  | 7 => ⟨S1024, .f32⟩
  | 8 => ⟨S1024x5632, .f32⟩
  | 9 => ⟨S2816x1024, .f32⟩
  | 10 => ⟨S1024, .f32⟩
  | 11 => ⟨S4x4096x1024, .f32⟩
  | 12 => ⟨S4x6144, .f32⟩
  | 13 => ⟨S4x1x6144, .f32⟩
  | 14 => ⟨S4x1x1024, .f32⟩
  | 15 => ⟨S4x1x1024, .f32⟩
  | 16 => ⟨S4x1x1024, .f32⟩
  | 17 => ⟨S4x1x1024, .f32⟩
  | 18 => ⟨S4x1x1024, .f32⟩
  | 19 => ⟨S4x1x1024, .f32⟩
  | 20 => ⟨S4x4096x1024, .f32⟩
  | 21 => ⟨S4x4096x1024, .f32⟩
  | 22 => ⟨S_, .f32⟩
  | 23 => ⟨S4x4096, .f32⟩
  | 24 => ⟨S4x4096x1, .f32⟩
  | 25 => ⟨S_, .f32⟩
  | 26 => ⟨S4x4096x1, .f32⟩
  | 27 => ⟨S4x4096x1, .f32⟩
  | 28 => ⟨S_, .f32⟩
  | 29 => ⟨S4x4096x1, .f32⟩
  | 30 => ⟨S4x4096x1, .f32⟩
  | 31 => ⟨S4x4096x1, .f32⟩
  | 32 => ⟨S4x4096x1024, .f32⟩
  | 33 => ⟨S4x4096x1024, .f32⟩
  | 34 => ⟨S1x1x1024, .f32⟩
  | 35 => ⟨S4x4096x1024, .f32⟩
  | 36 => ⟨S4x4096x1024, .f32⟩
  | 37 => ⟨S4x4096x1024, .f32⟩
  | 38 => ⟨S4x4096x1024, .f32⟩
  | 39 => ⟨S4x4096x1024, .f32⟩
  | 40 => ⟨S4x4096x1024, .f32⟩
  | 41 => ⟨S_, .f32⟩
  | 42 => ⟨S4x4096, .f32⟩
  | 43 => ⟨S4x4096x1, .f32⟩
  | 44 => ⟨S_, .f32⟩
  | 45 => ⟨S4x4096x1, .f32⟩
  | 46 => ⟨S4x4096x1, .f32⟩
  | 47 => ⟨S_, .f32⟩
  | 48 => ⟨S4x4096x1, .f32⟩
  | 49 => ⟨S4x4096x1, .f32⟩
  | 50 => ⟨S4x4096x1, .f32⟩
  | 51 => ⟨S4x4096x1024, .f32⟩
  | 52 => ⟨S4x4096x1024, .f32⟩
  | 53 => ⟨S1x1x1024, .f32⟩
  | 54 => ⟨S4x4096x1024, .f32⟩
  | 55 => ⟨S4x4096x1024, .f32⟩
  | 56 => ⟨S_, .f32⟩
  | 57 => ⟨S4x1x1024, .f32⟩
  | 58 => ⟨S4x1x1024, .f32⟩
  | 59 => ⟨S4x4096x1024, .f32⟩
  | 60 => ⟨S4x4096x1024, .f32⟩
  | 61 => ⟨S4x4096x1024, .f32⟩
  | 62 => ⟨S4x4096x1024, .f32⟩
  | 63 => ⟨S4x4096x5632, .f32⟩
  | 64 => ⟨S4x4096x2816, .f32⟩
  | 65 => ⟨S4x4096x2816, .f32⟩
  | 66 => ⟨S4x4096x2816, .f32⟩
  | 67 => ⟨S4x4096x2816, .f32⟩
  | 68 => ⟨S_, .f32⟩
  | 69 => ⟨S4x4096x2816, .f32⟩
  | 70 => ⟨S4x4096x2816, .f32⟩
  | 71 => ⟨S_, .f32⟩
  | 72 => ⟨S4x4096x2816, .f32⟩
  | 73 => ⟨S4x4096x2816, .f32⟩
  | 74 => ⟨S4x4096x2816, .f32⟩
  | 75 => ⟨S4x4096x2816, .f32⟩
  | 76 => ⟨S4x4096x1024, .f32⟩
  | 77 => ⟨S4x4096x1024, .f32⟩
  | 78 => ⟨S_, .f32⟩
  | 79 => ⟨S4x4096, .f32⟩
  | 80 => ⟨S4x4096x1, .f32⟩
  | 81 => ⟨S_, .f32⟩
  | 82 => ⟨S4x4096x1, .f32⟩
  | 83 => ⟨S4x4096x1, .f32⟩
  | 84 => ⟨S_, .f32⟩
  | 85 => ⟨S4x4096x1, .f32⟩
  | 86 => ⟨S4x4096x1, .f32⟩
  | 87 => ⟨S4x4096x1, .f32⟩
  | 88 => ⟨S4x4096x1024, .f32⟩
  | 89 => ⟨S4x4096x1024, .f32⟩
  | 90 => ⟨S1x1x1024, .f32⟩
  | 91 => ⟨S4x4096x1024, .f32⟩
  | 92 => ⟨S4x4096x1024, .f32⟩
  | 93 => ⟨S4x4096x1024, .f32⟩
  | 94 => ⟨S4x4096x1024, .f32⟩
  | 95 => ⟨S4x4096x1024, .f32⟩
  | 96 => ⟨S4x256x1024, .f32⟩
  | 97 => ⟨S1x6144, .f32⟩
  | 98 => ⟨S6144, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S4x256x1024, .f32⟩
  | 106 => ⟨S4x256x1024, .f32⟩
  | 107 => ⟨S_, .f32⟩
  | 108 => ⟨S4x256, .f32⟩
  | 109 => ⟨S4x256x1, .f32⟩
  | 110 => ⟨S_, .f32⟩
  | 111 => ⟨S4x256x1, .f32⟩
  | 112 => ⟨S4x256x1, .f32⟩
  | 113 => ⟨S_, .f32⟩
  | 114 => ⟨S4x256x1, .f32⟩
  | 115 => ⟨S4x256x1, .f32⟩
  | 116 => ⟨S4x256x1, .f32⟩
  | 117 => ⟨S4x256x1024, .f32⟩
  | 118 => ⟨S4x256x1024, .f32⟩
  | 119 => ⟨S1x1x1024, .f32⟩
  | 120 => ⟨S4x256x1024, .f32⟩
  | 121 => ⟨S4x256x1024, .f32⟩
  | 122 => ⟨S1x1x1024, .f32⟩
  | 123 => ⟨S4x256x1024, .f32⟩
  | 124 => ⟨S4x256x1024, .f32⟩
  | 125 => ⟨S4x256x1024, .f32⟩
  | 126 => ⟨S4x256x1024, .f32⟩
  | 127 => ⟨S_, .f32⟩
  | _ => ⟨S16384x1024, .f32⟩

abbrev hbmTy0_1 (i : Nat) : BufTy := match i % 128 with
  | 0 => ⟨S4x256, .f32⟩
  | 1 => ⟨S4x256x1, .f32⟩
  | 2 => ⟨S_, .f32⟩
  | 3 => ⟨S4x256x1, .f32⟩
  | 4 => ⟨S4x256x1, .f32⟩
  | 5 => ⟨S_, .f32⟩
  | 6 => ⟨S4x256x1, .f32⟩
  | 7 => ⟨S4x256x1, .f32⟩
  | 8 => ⟨S4x256x1, .f32⟩
  | 9 => ⟨S4x256x1024, .f32⟩
  | 10 => ⟨S4x256x1024, .f32⟩
  | 11 => ⟨S1x1x1024, .f32⟩
  | 12 => ⟨S4x256x1024, .f32⟩
  | 13 => ⟨S4x256x1024, .f32⟩
  | 14 => ⟨S_, .f32⟩
  | 15 => ⟨S1024, .f32⟩
  | 16 => ⟨S1024, .f32⟩
  | 17 => ⟨S1x1x1024, .f32⟩
  | 18 => ⟨S4x256x1024, .f32⟩
  | 19 => ⟨S4x256x1024, .f32⟩
  | 20 => ⟨S1x1x1024, .f32⟩
  | 21 => ⟨S4x256x1024, .f32⟩
  | 22 => ⟨S4x256x1024, .f32⟩
  | 23 => ⟨S4x256x5632, .f32⟩
  | 24 => ⟨S4x256x2816, .f32⟩
  | 25 => ⟨S4x256x2816, .f32⟩
  | 26 => ⟨S4x256x2816, .f32⟩
  | 27 => ⟨S4x256x2816, .f32⟩
  | 28 => ⟨S_, .f32⟩
  | 29 => ⟨S4x256x2816, .f32⟩
  | 30 => ⟨S4x256x2816, .f32⟩
  | 31 => ⟨S_, .f32⟩
  | 32 => ⟨S4x256x2816, .f32⟩
  | 33 => ⟨S4x256x2816, .f32⟩
  | 34 => ⟨S4x256x2816, .f32⟩
  | 35 => ⟨S4x256x2816, .f32⟩
  | 36 => ⟨S4x256x1024, .f32⟩
  | 37 => ⟨S4x256x1024, .f32⟩
  | 38 => ⟨S_, .f32⟩
  | 39 => ⟨S4x256, .f32⟩
  | 40 => ⟨S4x256x1, .f32⟩
  | 41 => ⟨S_, .f32⟩
  | 42 => ⟨S4x256x1, .f32⟩
  | 43 => ⟨S4x256x1, .f32⟩
  | 44 => ⟨S_, .f32⟩
  | 45 => ⟨S4x256x1, .f32⟩
  | 46 => ⟨S4x256x1, .f32⟩
  | 47 => ⟨S4x256x1, .f32⟩
  | 48 => ⟨S4x256x1024, .f32⟩
  | 49 => ⟨S4x256x1024, .f32⟩
  | 50 => ⟨S1x1x1024, .f32⟩
  | 51 => ⟨S4x256x1024, .f32⟩
  | 52 => ⟨S4x256x1024, .f32⟩
  | 53 => ⟨S1x1x1024, .f32⟩
  | 54 => ⟨S4x256x1024, .f32⟩
  | 55 => ⟨S4x256x1024, .f32⟩
  | 56 => ⟨S4x256x1024, .f32⟩
  | 57 => ⟨S16384x1024, .f32⟩
  | 58 => ⟨S1024x1024, .f32⟩
  | 59 => ⟨S17408x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_9 : Ref sig .tc := ⟨.hbm, 107, rfl⟩
abbrev main_v78 : Ref sig .tc := ⟨.hbm, 108, rfl⟩
abbrev main_v79 : Ref sig .tc := ⟨.hbm, 109, rfl⟩
abbrev main_cst_10 : Ref sig .tc := ⟨.hbm, 110, rfl⟩
abbrev main_v80 : Ref sig .tc := ⟨.hbm, 111, rfl⟩
abbrev main_v81 : Ref sig .tc := ⟨.hbm, 112, rfl⟩
abbrev main_cst_11 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_12 : Ref sig .tc := ⟨.hbm, 127, rfl⟩
abbrev main_v95 : Ref sig .tc := ⟨.hbm, 128, rfl⟩
abbrev main_v96 : Ref sig .tc := ⟨.hbm, 129, rfl⟩
abbrev main_cst_13 : Ref sig .tc := ⟨.hbm, 130, rfl⟩
abbrev main_v97 : Ref sig .tc := ⟨.hbm, 131, rfl⟩
abbrev main_v98 : Ref sig .tc := ⟨.hbm, 132, rfl⟩
abbrev main_cst_14 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_15 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_call1_v0 : Ref sig .tc := ⟨.hbm, 154, rfl⟩
abbrev main_call1_v1 : Ref sig .tc := ⟨.hbm, 155, rfl⟩
abbrev main_call1_cst : Ref sig .tc := ⟨.hbm, 156, rfl⟩
abbrev main_call1_v2 : Ref sig .tc := ⟨.hbm, 157, rfl⟩
abbrev main_call1_v3 : Ref sig .tc := ⟨.hbm, 158, rfl⟩
abbrev main_call1_cst_0 : Ref sig .tc := ⟨.hbm, 159, rfl⟩
abbrev main_call1_v4 : Ref sig .tc := ⟨.hbm, 160, rfl⟩
abbrev main_call1_v5 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_16 : Ref sig .tc := ⟨.hbm, 166, rfl⟩
abbrev main_v122 : Ref sig .tc := ⟨.hbm, 167, rfl⟩
abbrev main_v123 : Ref sig .tc := ⟨.hbm, 168, rfl⟩
abbrev main_cst_17 : Ref sig .tc := ⟨.hbm, 169, rfl⟩
abbrev main_v124 : Ref sig .tc := ⟨.hbm, 170, rfl⟩
abbrev main_v125 : Ref sig .tc := ⟨.hbm, 171, rfl⟩
abbrev main_cst_18 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩

abbrev nD : Nat := 1
abbrev τ : Topo := Topo.v7x

variable {F : FTy → Type} [FloatOps F]
-- ==== Latent.lean ====
abbrev S17408x1024 : Shape := ⟨2, ![17408, 1024]⟩
abbrev S17408x512 : Shape := ⟨2, ![17408, 512]⟩
abbrev S17408x32 : Shape := ⟨2, ![17408, 32]⟩
abbrev S8x17408x128 : Shape := ⟨3, ![8, 17408, 128]⟩
abbrev S17408x16x64 : Shape := ⟨3, ![17408, 16, 64]⟩
abbrev S17408x16x32 : Shape := ⟨3, ![17408, 16, 32]⟩
abbrev S_ : Shape := ⟨0, ![]⟩
abbrev S17408x16x128 : Shape := ⟨3, ![17408, 16, 128]⟩
abbrev S17408x2048 : Shape := ⟨2, ![17408, 2048]⟩
abbrev S17408x1x32 : Shape := ⟨3, ![17408, 1, 32]⟩
abbrev S17408x8x2x128 : Shape := ⟨4, ![17408, 8, 2, 128]⟩
abbrev S8x2x17408x128 : Shape := ⟨4, ![8, 2, 17408, 128]⟩
abbrev S17408x8x2x64 : Shape := ⟨4, ![17408, 8, 2, 64]⟩
abbrev S8x2x17408x64 : Shape := ⟨4, ![8, 2, 17408, 64]⟩
abbrev S8x1x17408x128 : Shape := ⟨4, ![8, 1, 17408, 128]⟩
abbrev S8x2x128x17408 : Shape := ⟨4, ![8, 2, 128, 17408]⟩
abbrev S16384x1024 : Shape := ⟨2, ![16384, 1024]⟩
abbrev S2048x256 : Shape := ⟨2, ![2048, 256]⟩
abbrev S1x2x256x128 : Shape := ⟨4, ![1, 2, 256, 128]⟩
abbrev S1x2x128x256 : Shape := ⟨4, ![1, 2, 128, 256]⟩
abbrev S1x2x4096x128 : Shape := ⟨4, ![1, 2, 4096, 128]⟩
abbrev S1x2x128x4096 : Shape := ⟨4, ![1, 2, 128, 4096]⟩
abbrev S2048x128 : Shape := ⟨2, ![2048, 128]⟩
abbrev S4352x512 : Shape := ⟨2, ![4352, 512]⟩
abbrev S512x128 : Shape := ⟨2, ![512, 128]⟩
abbrev S1x1x256x128 : Shape := ⟨4, ![1, 1, 256, 128]⟩
abbrev S256x128 : Shape := ⟨2, ![256, 128]⟩
abbrev S256x512 : Shape := ⟨2, ![256, 512]⟩
abbrev S32x8x512 : Shape := ⟨3, ![32, 8, 512]⟩
abbrev S8x512 : Shape := ⟨2, ![8, 512]⟩
abbrev S1x1x512x128 : Shape := ⟨4, ![1, 1, 512, 128]⟩
abbrev S512x512 : Shape := ⟨2, ![512, 512]⟩
abbrev S64x8x512 : Shape := ⟨3, ![64, 8, 512]⟩
abbrev S512 : Shape := ⟨1, ![512]⟩
abbrev S1x512 : Shape := ⟨2, ![1, 512]⟩
abbrev S128x512 : Shape := ⟨2, ![128, 512]⟩
abbrev S1x1x128x256 : Shape := ⟨4, ![1, 1, 128, 256]⟩
abbrev S128x256 : Shape := ⟨2, ![128, 256]⟩
abbrev S1x1x128x512 : Shape := ⟨4, ![1, 1, 128, 512]⟩

abbrev nBuf : Space → Nat
  | .hbm => 68
  | .vmem => 14
  | .smem => 0
  | _ => 0

abbrev bufTy : (tb : Table) → Fin (tcTables nBuf tb) → BufTy
  | .hbm, ⟨0, _⟩ => ⟨S17408x1024, .f32⟩
  | .hbm, ⟨1, _⟩ => ⟨S17408x512, .f32⟩
  | .hbm, ⟨2, _⟩ => ⟨S17408x1024, .f32⟩
  | .hbm, ⟨3, _⟩ => ⟨S17408x32, .f32⟩
  | .hbm, ⟨4, _⟩ => ⟨S17408x1024, .f32⟩
  | .hbm, ⟨5, _⟩ => ⟨S8x17408x128, .i32⟩
  | .hbm, ⟨6, _⟩ => ⟨S17408x16x64, .f32⟩
  | .hbm, ⟨7, _⟩ => ⟨S17408x16x32, .f32⟩
  | .hbm, ⟨8, _⟩ => ⟨S_, .f32⟩
  | .hbm, ⟨9, _⟩ => ⟨S17408x16x32, .f32⟩
  | .hbm, ⟨10, _⟩ => ⟨S17408x16x128, .f32⟩
  | .hbm, ⟨11, _⟩ => ⟨S17408x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S17408x2048, .f32⟩
  | .hbm, ⟨17, _⟩ => ⟨S17408x2048, .f32⟩
  | .hbm, ⟨18, _⟩ => ⟨S17408x2048, .bf16⟩
  | .hbm, ⟨19, _⟩ => ⟨S17408x16x64, .f32⟩
  | .hbm, ⟨20, _⟩ => ⟨S17408x1x32, .f32⟩
  | .hbm, ⟨21, _⟩ => ⟨S17408x16x32, .f32⟩
  | .hbm, ⟨22, _⟩ => ⟨S_, .f32⟩
  | .hbm, ⟨23, _⟩ => ⟨S17408x16x32, .f32⟩
  | .hbm, ⟨24, _⟩ => ⟨S17408x16x128, .f32⟩
  | .hbm, ⟨25, _⟩ => ⟨S17408x8x2x128, .f32⟩
  | .hbm, ⟨26, _⟩ => ⟨S8x2x17408x128, .f32⟩
  | .hbm, ⟨27, _⟩ => ⟨S8x2x17408x128, .bf16⟩
  | .hbm, ⟨28, _⟩ => ⟨S17408x16x64, .f32⟩
  | .hbm, ⟨29, _⟩ => ⟨S17408x8x2x64, .f32⟩
  | .hbm, ⟨30, _⟩ => ⟨S8x2x17408x64, .f32⟩
  | .hbm, ⟨31, _⟩ => ⟨S8x2x17408x128, .f32⟩
  | .hbm, ⟨32, _⟩ => ⟨S8x1x17408x128, .f32⟩
  | .hbm, ⟨33, _⟩ => ⟨S8x17408x128, .f32⟩
  | .hbm, ⟨34, _⟩ => ⟨S_, .i32⟩
  | .hbm, ⟨35, _⟩ => ⟨S8x17408x128, .i32⟩
  | .hbm, ⟨36, _⟩ => ⟨S8x17408x128, .i1⟩
  | .hbm, ⟨37, _⟩ => ⟨S_, .i32⟩
  | .hbm, ⟨38, _⟩ => ⟨S8x17408x128, .i32⟩
  | .hbm, ⟨39, _⟩ => ⟨S8x17408x128, .i1⟩
  | .hbm, ⟨40, _⟩ => ⟨S_, .f32⟩
  | .hbm, ⟨41, _⟩ => ⟨S_, .f32⟩
  | .hbm, ⟨42, _⟩ => ⟨S8x17408x128, .f32⟩
  | .hbm, ⟨43, _⟩ => ⟨S8x17408x128, .f32⟩
  | .hbm, ⟨44, _⟩ => ⟨S8x17408x128, .f32⟩
  | .hbm, ⟨45, _⟩ => ⟨S8x17408x128, .f32⟩
  | .hbm, ⟨46, _⟩ => ⟨S8x17408x128, .f32⟩
  | .hbm, ⟨47, _⟩ => ⟨S8x1x17408x128, .f32⟩
  | .hbm, ⟨48, _⟩ => ⟨S8x17408x128, .f32⟩
  | .hbm, ⟨49, _⟩ => ⟨S_, .i32⟩
  | .hbm, ⟨50, _⟩ => ⟨S8x17408x128, .i32⟩
  | .hbm, ⟨51, _⟩ => ⟨S8x17408x128, .i1⟩
  | .hbm, ⟨52, _⟩ => ⟨S_, .i32⟩
  | .hbm, ⟨53, _⟩ => ⟨S8x17408x128, .i32⟩
  | .hbm, ⟨54, _⟩ => ⟨S8x17408x128, .i1⟩
  | .hbm, ⟨55, _⟩ => ⟨S_, .f32⟩
  | .hbm, ⟨56, _⟩ => ⟨S_, .f32⟩
  | .hbm, ⟨57, _⟩ => ⟨S8x17408x128, .f32⟩
  | .hbm, ⟨58, _⟩ => ⟨S8x17408x128, .f32⟩
  | .hbm, ⟨59, _⟩ => ⟨S8x17408x128, .f32⟩
  | .hbm, ⟨60, _⟩ => ⟨S8x17408x128, .f32⟩
  | .hbm, ⟨61, _⟩ => ⟨S8x17408x128, .f32⟩
  | .hbm, ⟨62, _⟩ => ⟨S8x1x17408x128, .f32⟩
  | .hbm, ⟨63, _⟩ => ⟨S8x1x17408x128, .f32⟩
  | .hbm, ⟨64, _⟩ => ⟨S8x2x17408x128, .f32⟩
  | .hbm, ⟨65, _⟩ => ⟨S8x2x17408x128, .bf16⟩
  | .hbm, ⟨66, _⟩ => ⟨S8x2x128x17408, .bf16⟩
  | .hbm, ⟨67, _⟩ => ⟨S16384x1024, .bf16⟩
  | .local _ .vmem, ⟨0, _⟩ => ⟨S2048x256, .bf16⟩
  | .local _ .vmem, ⟨1, _⟩ => ⟨S2048x256, .bf16⟩
  | .local _ .vmem, ⟨2, _⟩ => ⟨S1x2x256x128, .bf16⟩
  | .local _ .vmem, ⟨3, _⟩ => ⟨S1x2x256x128, .bf16⟩
  | .local _ .vmem, ⟨4, _⟩ => ⟨S1x2x128x256, .bf16⟩
  | .local _ .vmem, ⟨5, _⟩ => ⟨S1x2x128x256, .bf16⟩
  | .local _ .vmem, ⟨6, _⟩ => ⟨S1x2x4096x128, .bf16⟩
  | .local _ .vmem, ⟨7, _⟩ => ⟨S1x2x4096x128, .bf16⟩
  | .local _ .vmem, ⟨8, _⟩ => ⟨S1x2x128x4096, .bf16⟩
  | .local _ .vmem, ⟨9, _⟩ => ⟨S1x2x128x4096, .bf16⟩
  | .local _ .vmem, ⟨10, _⟩ => ⟨S2048x128, .bf16⟩
  | .local _ .vmem, ⟨11, _⟩ => ⟨S2048x128, .bf16⟩
  | .local _ .vmem, ⟨12, _⟩ => ⟨S4352x512, .f32⟩
  | .local _ .vmem, ⟨13, _⟩ => ⟨S4352x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_v29 : Ref sig .tc := ⟨.hbm, 44, rfl⟩
abbrev main_call1_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_cst_9 : Ref sig .tc := ⟨.hbm, 56, rfl⟩
abbrev main_call2_v0 : Ref sig .tc := ⟨.hbm, 57, rfl⟩
abbrev main_call2_v1 : Ref sig .tc := ⟨.hbm, 58, rfl⟩
abbrev main_v37 : Ref sig .tc := ⟨.hbm, 59, rfl⟩
abbrev main_call3_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![arg1.toNat, c0_i32.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![arg1.toNat, c0_i32.toNat, c0_i32_0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== LatentReferenceIdeal.lean ====
abbrev S17408x1024 : Shape := ⟨2, ![17408, 1024]⟩
abbrev S17408x512 : Shape := ⟨2, ![17408, 512]⟩
abbrev S17408x32 : Shape := ⟨2, ![17408, 32]⟩
abbrev S16384x1024 : Shape := ⟨2, ![16384, 1024]⟩
abbrev S4x4096x16x64 : Shape := ⟨4, ![4, 4096, 16, 64]⟩
abbrev S1024x1024 : Shape := ⟨2, ![1024, 1024]⟩
abbrev S4x256x16x64 : Shape := ⟨4, ![4, 256, 16, 64]⟩
abbrev S4x4352x16x64 : Shape := ⟨4, ![4, 4352, 16, 64]⟩
abbrev S16384x512 : Shape := ⟨2, ![16384, 512]⟩
abbrev S4x4096x16x32 : Shape := ⟨4, ![4, 4096, 16, 32]⟩
abbrev S1024x512 : Shape := ⟨2, ![1024, 512]⟩
abbrev S4x256x16x32 : Shape := ⟨4, ![4, 256, 16, 32]⟩
abbrev S4x4352x16x32 : Shape := ⟨4, ![4, 4352, 16, 32]⟩
abbrev S16384x32 : Shape := ⟨2, ![16384, 32]⟩
abbrev S4x4096x32 : Shape := ⟨3, ![4, 4096, 32]⟩
abbrev S1024x32 : Shape := ⟨2, ![1024, 32]⟩
abbrev S4x256x32 : Shape := ⟨3, ![4, 256, 32]⟩
abbrev S4x4352x32 : Shape := ⟨3, ![4, 4352, 32]⟩
abbrev S4x16x4096x4352 : Shape := ⟨4, ![4, 16, 4096, 4352]⟩
abbrev S4x4352x4096x16 : Shape := ⟨4, ![4, 4352, 4096, 16]⟩
abbrev S_ : Shape := ⟨0, ![]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩

abbrev nBuf : Space → Nat
  | .hbm => 55
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x512, .f32⟩
  | .hbm, ⟨2, _⟩ => ⟨S17408x1024, .f32⟩
  | .hbm, ⟨3, _⟩ => ⟨S17408x32, .f32⟩
  | .hbm, ⟨4, _⟩ => ⟨S17408x1024, .f32⟩
  | .hbm, ⟨5, _⟩ => ⟨S16384x1024, .f32⟩
  | .hbm, ⟨6, _⟩ => ⟨S4x4096x16x64, .f32⟩
  | .hbm, ⟨7, _⟩ => ⟨S1024x1024, .f32⟩
  | .hbm, ⟨8, _⟩ => ⟨S4x256x16x64, .f32⟩
  | .hbm, ⟨9, _⟩ => ⟨S4x4352x16x64, .f32⟩
  | .hbm, ⟨10, _⟩ => ⟨S16384x512, .f32⟩
  | .hbm, ⟨11, _⟩ => ⟨S4x4096x16x32, .f32⟩
  | .hbm, ⟨12, _⟩ => ⟨S1024x512, .f32⟩
  | .hbm, ⟨13, _⟩ => ⟨S4x256x16x32, .f32⟩
  | .hbm, ⟨14, _⟩ => ⟨S4x4352x16x32, .f32⟩
  | .hbm, ⟨15, _⟩ => ⟨S16384x1024, .f32⟩
  | .hbm, ⟨16, _⟩ => ⟨S4x4096x16x64, .f32⟩
  | .hbm, ⟨17, _⟩ => ⟨S1024x1024, .f32⟩
  | .hbm, ⟨18, _⟩ => ⟨S4x256x16x64, .f32⟩
  | .hbm, ⟨19, _⟩ => ⟨S4x4352x16x64, .f32⟩
  | .hbm, ⟨20, _⟩ => ⟨S16384x32, .f32⟩
  | .hbm, ⟨21, _⟩ => ⟨S4x4096x32, .f32⟩
  | .hbm, ⟨22, _⟩ => ⟨S1024x32, .f32⟩
  | .hbm, ⟨23, _⟩ => ⟨S4x256x32, .f32⟩
  | .hbm, ⟨24, _⟩ => ⟨S4x4352x32, .f32⟩
  | .hbm, ⟨25, _⟩ => ⟨S16384x1024, .f32⟩
  | .hbm, ⟨26, _⟩ => ⟨S4x4096x16x64, .f32⟩
  | .hbm, ⟨27, _⟩ => ⟨S1024x1024, .f32⟩
  | .hbm, ⟨28, _⟩ => ⟨S4x256x16x64, .f32⟩
  | .hbm, ⟨29, _⟩ => ⟨S4x4352x16x64, .f32⟩
  | .hbm, ⟨30, _⟩ => ⟨S4x16x4096x4352, .f32⟩
  | .hbm, ⟨31, _⟩ => ⟨S4x4352x4096x16, .f32⟩
  | .hbm, ⟨32, _⟩ => ⟨S4x16x4096x4352, .f32⟩
  | .hbm, ⟨33, _⟩ => ⟨S4x16x4096x4352, .f32⟩
  | .hbm, ⟨34, _⟩ => ⟨S_, .f32⟩
  | .hbm, ⟨35, _⟩ => ⟨S4x16x4096x4352, .f32⟩
  | .hbm, ⟨36, _⟩ => ⟨S4x16x4096x4352, .f32⟩
  | .hbm, ⟨37, _⟩ => ⟨S_, .f32⟩
  | .hbm, ⟨38, _⟩ => ⟨S4x16x4096, .f32⟩
  | .hbm, ⟨39, _⟩ => ⟨S_, .f32⟩
  | .hbm, ⟨40, _⟩ => ⟨S4x16x4096, .f32⟩
  | .hbm, ⟨41, _⟩ => ⟨S4x16x4096, .f32⟩
  | .hbm, ⟨42, _⟩ => ⟨S4x16x4096x1, .f32⟩
  | .hbm, ⟨43, _⟩ => ⟨S4x16x4096x4352, .f32⟩
  | .hbm, ⟨44, _⟩ => ⟨S4x16x4096x4352, .f32⟩
  | .hbm, ⟨45, _⟩ => ⟨S4x16x4096x4352, .f32⟩
  | .hbm, ⟨46, _⟩ => ⟨S_, .f32⟩
  | .hbm, ⟨47, _⟩ => ⟨S4x16x4096, .f32⟩
  | .hbm, ⟨48, _⟩ => ⟨S4x16x4096x1, .f32⟩
  | .hbm, ⟨49, _⟩ => ⟨S4x16x4096x4352, .f32⟩
  | .hbm, ⟨50, _⟩ => ⟨S4x16x4096x4352, .f32⟩
  | .hbm, ⟨51, _⟩ => ⟨S4x16x64x4096, .f32⟩
  | .hbm, ⟨52, _⟩ => ⟨S4x4096x16x64, .f32⟩
  | .hbm, ⟨53, _⟩ => ⟨S16384x1024, .f32⟩
  | .hbm, ⟨54, _⟩ => ⟨S16384x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Projections.lean ====
abbrev S17408x1024 : Shape := ⟨2, ![17408, 1024]⟩
abbrev S8x6144 : Shape := ⟨2, ![8, 6144]⟩
abbrev S1024 : Shape := ⟨1, ![1024]⟩
abbrev S1024x3072 : Shape := ⟨2, ![1024, 3072]⟩
abbrev S128x128 : Shape := ⟨2, ![128, 128]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x0 : Shape := ⟨2, ![4096, 0]⟩
abbrev S4096x128 : Shape := ⟨2, ![4096, 128]⟩
abbrev S512x128 : Shape := ⟨2, ![512, 128]⟩
abbrev S4608x128 : Shape := ⟨2, ![4608, 128]⟩
abbrev S1x128 : Shape := ⟨2, ![1, 128]⟩
abbrev S8x1x6144 : Shape := ⟨3, ![8, 1, 6144]⟩
abbrev S1x1024 : Shape := ⟨2, ![1, 1024]⟩
abbrev S8x2x17408x128 : Shape := ⟨4, ![8, 2, 17408, 128]⟩
abbrev S512x1024 : Shape := ⟨2, ![512, 1024]⟩
abbrev S1x1x6144 : Shape := ⟨3, ![1, 1, 6144]⟩
abbrev S8x2x512x128 : Shape := ⟨4, ![8, 2, 512, 128]⟩
abbrev S512 : Shape := ⟨1, ![512]⟩
abbrev S512x1 : Shape := ⟨2, ![512, 1]⟩
abbrev S1x1x1024 : Shape := ⟨3, ![1, 1, 1024]⟩
abbrev S512x3072 : Shape := ⟨2, ![512, 3072]⟩
abbrev S1x1x512x128 : Shape := ⟨4, ![1, 1, 512, 128]⟩
abbrev S8x1x17408x64 : Shape := ⟨4, ![8, 1, 17408, 64]⟩
abbrev S8x17408x64 : Shape := ⟨3, ![8, 17408, 64]⟩
abbrev S8x17408x128 : Shape := ⟨3, ![8, 17408, 128]⟩
abbrev S17408x8x128 : Shape := ⟨3, ![17408, 8, 128]⟩

abbrev nBuf : Space → Nat
  | .hbm => 108
  | .vmem => 19
  | .smem => 0
  | _ => 0

abbrev bufTy : (tb : Table) → Fin (tcTables nBuf tb) → BufTy
  | .hbm, ⟨0, _⟩ => ⟨S17408x1024, .f32⟩
  | .hbm, ⟨1, _⟩ => ⟨S8x6144, .f32⟩
  | .hbm, ⟨2, _⟩ => ⟨S1024, .f32⟩
  | .hbm, ⟨3, _⟩ => ⟨S1024x3072, .f32⟩
  | .hbm, ⟨4, _⟩ => ⟨S128x128, .bf16⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S_, .i1⟩
  | .hbm, ⟨41, _⟩ => ⟨S4096, .i1⟩
  | .hbm, ⟨42, _⟩ => ⟨S4096, .i1⟩
  | .hbm, ⟨43, _⟩ => ⟨S4096, .i1⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S4096x1, .f32⟩
  | .hbm, ⟨57, _⟩ => ⟨S1x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x1, .f32⟩
  | .hbm, ⟨62, _⟩ => ⟨S1x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S_, .f32⟩
  | .hbm, ⟨70, _⟩ => ⟨S4096x0, .f32⟩
  | .hbm, ⟨71, _⟩ => ⟨S_, .f32⟩
  | .hbm, ⟨72, _⟩ => ⟨S4096x0, .f32⟩
  | .hbm, ⟨73, _⟩ => ⟨S4096x128, .f32⟩
  | .hbm, ⟨74, _⟩ => ⟨S_, .f32⟩
  | .hbm, ⟨75, _⟩ => ⟨S4096x0, .f32⟩
  | .hbm, ⟨76, _⟩ => ⟨S4096x32, .f32⟩
  | .hbm, ⟨77, _⟩ => ⟨S_, .f32⟩
  | .hbm, ⟨78, _⟩ => ⟨S4096x0, .f32⟩
  | .hbm, ⟨79, _⟩ => ⟨S4096x128, .f32⟩
  | .hbm, ⟨80, _⟩ => ⟨S_, .f32⟩
  | .hbm, ⟨81, _⟩ => ⟨S512x128, .f32⟩
  | .hbm, ⟨82, _⟩ => ⟨S4608x128, .f32⟩
  | .hbm, ⟨83, _⟩ => ⟨S_, .f32⟩
  | .hbm, ⟨84, _⟩ => ⟨S512x128, .f32⟩
  | .hbm, ⟨85, _⟩ => ⟨S4608x128, .f32⟩
  | .hbm, ⟨86, _⟩ => ⟨S_, .f32⟩
  | .hbm, ⟨87, _⟩ => ⟨S1x128, .f32⟩
  | .hbm, ⟨88, _⟩ => ⟨S8x1x6144, .f32⟩
  | .hbm, ⟨89, _⟩ => ⟨S1x1024, .f32⟩
  | .hbm, ⟨90, _⟩ => ⟨S1024x3072, .bf16⟩
  | .hbm, ⟨91, _⟩ => ⟨S17408x1024, .bf16⟩
  | .hbm, ⟨92, _⟩ => ⟨S8x2x17408x128, .bf16⟩
  | .hbm, ⟨93, _⟩ => ⟨S8x2x17408x128, .bf16⟩
  | .hbm, ⟨94, _⟩ => ⟨S8x1x17408x64, .bf16⟩
  | .hbm, ⟨95, _⟩ => ⟨S8x17408x64, .bf16⟩
  | .hbm, ⟨96, _⟩ => ⟨S8x1x17408x64, .bf16⟩
  | .hbm, ⟨97, _⟩ => ⟨S8x17408x64, .bf16⟩
  | .hbm, ⟨98, _⟩ => ⟨S8x17408x128, .bf16⟩
  | .hbm, ⟨99, _⟩ => ⟨S17408x8x128, .bf16⟩
  | .hbm, ⟨100, _⟩ => ⟨S17408x1024, .bf16⟩
  | .hbm, ⟨101, _⟩ => ⟨S8x1x17408x64, .bf16⟩
  | .hbm, ⟨102, _⟩ => ⟨S8x17408x64, .bf16⟩
  | .hbm, ⟨103, _⟩ => ⟨S8x1x17408x64, .bf16⟩
  | .hbm, ⟨104, _⟩ => ⟨S8x17408x64, .bf16⟩
  | .hbm, ⟨105, _⟩ => ⟨S8x17408x128, .bf16⟩
  | .hbm, ⟨106, _⟩ => ⟨S17408x8x128, .bf16⟩
  | .hbm, ⟨107, _⟩ => ⟨S17408x1024, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x3072, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S128x128, .bf16⟩
  | .local _ .vmem, ⟨13, _⟩ => ⟨S512x1024, .bf16⟩
  | .local _ .vmem, ⟨14, _⟩ => ⟨S512x1024, .bf16⟩
  | .local _ .vmem, ⟨15, _⟩ => ⟨S8x2x512x128, .bf16⟩
  | .local _ .vmem, ⟨16, _⟩ => ⟨S8x2x512x128, .bf16⟩
  | .local _ .vmem, ⟨17, _⟩ => ⟨S8x2x512x128, .bf16⟩
  | .local _ .vmem, ⟨18, _⟩ => ⟨S8x2x512x128, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst_1 : Ref sig .tc := ⟨.hbm, 50, rfl⟩
abbrev main_v7 : Ref sig .tc := ⟨.hbm, 51, rfl⟩
abbrev main_v8 : Ref sig .tc := ⟨.hbm, 52, rfl⟩
abbrev main_cst_2 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_cst_3 : Ref sig .tc := ⟨.hbm, 69, rfl⟩
abbrev main_v24 : Ref sig .tc := ⟨.hbm, 70, rfl⟩
abbrev main_cst_4 : Ref sig .tc := ⟨.hbm, 71, rfl⟩
abbrev main_v25 : Ref sig .tc := ⟨.hbm, 72, rfl⟩
abbrev main_v26 : Ref sig .tc := ⟨.hbm, 73, rfl⟩
abbrev main_cst_5 : Ref sig .tc := ⟨.hbm, 74, rfl⟩
abbrev main_v27 : Ref sig .tc := ⟨.hbm, 75, rfl⟩
abbrev main_v28 : Ref sig .tc := ⟨.hbm, 76, rfl⟩
abbrev main_cst_6 : Ref sig .tc := ⟨.hbm, 77, rfl⟩
abbrev main_v29 : Ref sig .tc := ⟨.hbm, 78, rfl⟩
abbrev main_v30 : Ref sig .tc := ⟨.hbm, 79, rfl⟩
abbrev main_cst_7 : Ref sig .tc := ⟨.hbm, 80, rfl⟩
abbrev main_v31 : Ref sig .tc := ⟨.hbm, 81, rfl⟩
abbrev main_v32 : Ref sig .tc := ⟨.hbm, 82, rfl⟩
abbrev main_cst_8 : Ref sig .tc := ⟨.hbm, 83, rfl⟩
abbrev main_v33 : Ref sig .tc := ⟨.hbm, 84, rfl⟩
abbrev main_v34 : Ref sig .tc := ⟨.hbm, 85, rfl⟩
abbrev main_cst_9 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39_0 : Ref sig .tc := ⟨.hbm, 91, rfl⟩
abbrev main_v39_1 : Ref sig .tc := ⟨.hbm, 92, rfl⟩
abbrev main_v39_2 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .sge v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 c4_i32 v18
  let c0_i32_4 : BitVec 32 := 0#32
  let c0_i32_5 : BitVec 32 := 0#32
  let c0_i32_6 : BitVec 32 := 0#32
  ![v19.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x2x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x2x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjectionsReferenceIdeal.lean ====
abbrev S17408x1024 : Shape := ⟨2, ![17408, 1024]⟩
abbrev S8x6144 : Shape := ⟨2, ![8, 6144]⟩
abbrev S1024 : Shape := ⟨1, ![1024]⟩
abbrev S1024x3072 : Shape := ⟨2, ![1024, 3072]⟩
abbrev S16384x1024 : Shape := ⟨2, ![16384, 1024]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S1024x1024 : Shape := ⟨2, ![1024, 1024]⟩
abbrev S4x256x1024 : Shape := ⟨3, ![4, 256, 1024]⟩
abbrev S1x6144 : Shape := ⟨2, ![1, 6144]⟩
abbrev S6144 : Shape := ⟨1, ![6144]⟩
abbrev S4x256 : Shape := ⟨2, ![4, 256]⟩
abbrev S4x256x1 : Shape := ⟨3, ![4, 256, 1]⟩
abbrev S4x256x3072 : Shape := ⟨3, ![4, 256, 3072]⟩
abbrev S16384x3072 : Shape := ⟨2, ![16384, 3072]⟩
abbrev S17408x3072 : Shape := ⟨2, ![17408, 3072]⟩

abbrev nBuf : Space → Nat
  | .hbm => 86
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S8x6144, .f32⟩
  | .hbm, ⟨2, _⟩ => ⟨S1024, .f32⟩
  | .hbm, ⟨3, _⟩ => ⟨S1024x3072, .f32⟩
  | .hbm, ⟨4, _⟩ => ⟨S16384x1024, .f32⟩
  | .hbm, ⟨5, _⟩ => ⟨S4x4096x1024, .f32⟩
  | .hbm, ⟨6, _⟩ => ⟨S4x6144, .f32⟩
  | .hbm, ⟨7, _⟩ => ⟨S4x1x6144, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x3072, .f32⟩
  | .hbm, ⟨38, _⟩ => ⟨S1024x1024, .f32⟩
  | .hbm, ⟨39, _⟩ => ⟨S4x256x1024, .f32⟩
  | .hbm, ⟨40, _⟩ => ⟨S1x6144, .f32⟩
  | .hbm, ⟨41, _⟩ => ⟨S6144, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S4x256x1024, .f32⟩
  | .hbm, ⟨49, _⟩ => ⟨S_, .f32⟩
  | .hbm, ⟨50, _⟩ => ⟨S4x256, .f32⟩
  | .hbm, ⟨51, _⟩ => ⟨S4x256x1, .f32⟩
  | .hbm, ⟨52, _⟩ => ⟨S_, .f32⟩
  | .hbm, ⟨53, _⟩ => ⟨S4x256x1, .f32⟩
  | .hbm, ⟨54, _⟩ => ⟨S4x256x1, .f32⟩
  | .hbm, ⟨55, _⟩ => ⟨S_, .f32⟩
  | .hbm, ⟨56, _⟩ => ⟨S4x256x1, .f32⟩
  | .hbm, ⟨57, _⟩ => ⟨S4x256x1, .f32⟩
  | .hbm, ⟨58, _⟩ => ⟨S4x256x1, .f32⟩
  | .hbm, ⟨59, _⟩ => ⟨S4x256x1024, .f32⟩
  | .hbm, ⟨60, _⟩ => ⟨S4x256x1024, .f32⟩
  | .hbm, ⟨61, _⟩ => ⟨S1x1x1024, .f32⟩
  | .hbm, ⟨62, _⟩ => ⟨S4x256x1024, .f32⟩
  | .hbm, ⟨63, _⟩ => ⟨S4x256x1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S1x1x1024, .f32⟩
  | .hbm, ⟨68, _⟩ => ⟨S4x256x1024, .f32⟩
  | .hbm, ⟨69, _⟩ => ⟨S4x256x1024, .f32⟩
  | .hbm, ⟨70, _⟩ => ⟨S1x1x1024, .f32⟩
  | .hbm, ⟨71, _⟩ => ⟨S4x256x1024, .f32⟩
  | .hbm, ⟨72, _⟩ => ⟨S4x256x1024, .f32⟩
  | .hbm, ⟨73, _⟩ => ⟨S4x256x3072, .f32⟩
  | .hbm, ⟨74, _⟩ => ⟨S16384x3072, .f32⟩
  | .hbm, ⟨75, _⟩ => ⟨S1024x3072, .f32⟩
  | .hbm, ⟨76, _⟩ => ⟨S17408x3072, .f32⟩
  | .hbm, ⟨77, _⟩ => ⟨S17408x1024, .f32⟩
  | .hbm, ⟨78, _⟩ => ⟨S17408x1024, .f32⟩
  | .hbm, ⟨79, _⟩ => ⟨S17408x1024, .f32⟩
  | .hbm, ⟨80, _⟩ => ⟨S_, .f32⟩
  | .hbm, ⟨81, _⟩ => ⟨S17408x1024, .f32⟩
  | .hbm, ⟨82, _⟩ => ⟨S17408x1024, .f32⟩
  | .hbm, ⟨83, _⟩ => ⟨S17408x1024, .bf16⟩
  | .hbm, ⟨84, _⟩ => ⟨S17408x1024, .bf16⟩
  | .hbm, ⟨85, _⟩ => ⟨S17408x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_7 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩

abbrev nD : Nat := 1
abbrev τ : Topo := Topo.v7x

variable {F : FTy → Type} [FloatOps F]
-- ==== Proof.Attn.Tile.lean ====
/- What one grid point of the attention computes, as vector operations on its five input blocks: for each of four row
   groups `s` (256 queries each) and each half `p` of the lanes one set of softmax-weighted sums, and from these the
   eight output tiles. Everything here is over any number format. -/
module

public import proofs.«01_k».proof.Proof.Gen.KernelIdeal.Frame
public import Idealize.ShloMosaic.Lib.Pipeline.ValueKit
public import Idealize.ShloMosaic.Lib.Pipeline.ReadBack
public import Idealize.ShloMosaic.Lib.Tactic

@[expose] public section

noncomputable section

namespace Cert.KernelIdeal.Tile

open Cert.KernelIdeal Cert.KernelIdeal.Gen Idealize.ShloMosaic Idealize.ShloMosaic.TcCoe

variable {F : FTy → Type} [FloatOps F]

/-- The queries of row group `s`: the two 128-lane chunks of the block's rows `256 s …`, one above the other. -/
def queries (x0 : Vec F S1024x256 .bf16) (s : Fin 4) : FVec F S512x128 .bf16 :=
  concatenate S512x128 0
    [⟨S256x128, shapeCast S256x128 (View.ld x0 (Rect.unit (s := S1024x256) ![256 * s.val, 0] S256x128.size
        (by intro a; fin_cases a <;> fin_cases s <;> decide))) shapeCasts_S256x128_S256x128⟩,
     ⟨S256x128, shapeCast S256x128 (View.ld x0 (Rect.unit (s := S1024x256) ![256 * s.val, 128] S256x128.size
        (by intro a; fin_cases a <;> fin_cases s <;> decide))) shapeCasts_S256x128_S256x128⟩]
    concatenates_S256x128_S256x128_S512x128_d0

/-- The context keys with lane half `p` kept. -/
def ctxKeys (x1 : Vec F S1x2x256x128 .bf16) (p : Fin 2) : Vec F S1x1x256x128 .bf16 :=
  View.ld x1 (Rect.unit (s := S1x2x256x128) ![0, p.val, 0, 0] S1x1x256x128.size
    (by intro a; fin_cases a <;> fin_cases p <;> decide))

/-- The context values, transposed, of lane half `p`. -/
def ctxVals (x2 : Vec F S1x2x128x256 .bf16) (p : Fin 2) : Vec F S1x1x128x256 .bf16 :=
  View.ld x2 (Rect.unit (s := S1x2x128x256) ![0, p.val, 0, 0] S1x1x128x256.size
    (by intro a; fin_cases a <;> fin_cases p <;> decide))

/-- Chunk `j` of the latent keys, 512 of the 4096. -/
def latKeys (x3 : Vec F S1x2x4096x128 .bf16) (p : Fin 2) (j : Fin 8) : Vec F S1x1x512x128 .bf16 :=
  View.ld x3 (Rect.unit (s := S1x2x4096x128) ![0, p.val, 512 * j.val, 0] S1x1x512x128.size
    (by intro a; fin_cases a <;> fin_cases p <;> fin_cases j <;> decide))

/-- Chunk `j` of the latent values, transposed. -/
def latVals (x4 : Vec F S1x2x128x4096 .bf16) (p : Fin 2) (j : Fin 8) : Vec F S1x1x128x512 .bf16 :=
  View.ld x4 (Rect.unit (s := S1x2x128x4096) ![0, p.val, 0, 512 * j.val] S1x1x128x512.size
    (by intro a; fin_cases a <;> fin_cases p <;> fin_cases j <;> decide))

/-- The scores of 256 context keys (rows) against 512 queries (columns). -/
def ctxScores (kc : Vec F S1x1x256x128 .bf16) (q : FVec F S512x128 .bf16) : FVec F S256x512 .f32 :=
  matmul dot_S256x128_S512x128_S256x512_1_1_0_0_n_n none (shapeCast S256x128 kc shapeCasts_S1x1x256x128_S256x128) q
    (constant S256x512 .f32 0x00000000#32)

/-- The scores of 512 latent keys against 512 queries. -/
def latScores (kl : Vec F S1x1x512x128 .bf16) (q : FVec F S512x128 .bf16) : FVec F S512x512 .f32 :=
  matmul dot_S512x128_S512x128_S512x512_1_1_0_0_n_n none (shapeCast S512x128 kl shapeCasts_S1x1x512x128_S512x128) q
    (constant S512x512 .f32 0x00000000#32)

/-- A context score block's maximum over its groups of eight rows. -/
def ctxMax8 (x : FVec F S256x512 .f32) : FVec F S8x512 .f32 :=
  multiReduction .maximumf [0] S8x512 (shapeCast S32x8x512 x shapeCasts_S256x512_S32x8x512) 0xFF800000#32
    reduces_S32x8x512_S8x512 (.inl rfl) rfl

/-- A latent score block's maximum over its groups of eight rows. -/
def latMax8 (x : FVec F S512x512 .f32) : FVec F S8x512 .f32 :=
  multiReduction .maximumf [0] S8x512 (shapeCast S64x8x512 x shapeCasts_S512x512_S64x8x512) 0xFF800000#32
    reduces_S64x8x512_S8x512 (.inl rfl) rfl

/-- Each query's greatest score: the nine blocks' maxima joined in order, then the eight rows. -/
def peak (kc : Vec F S1x1x256x128 .bf16) (kl : Fin 8 → Vec F S1x1x512x128 .bf16) (q : FVec F S512x128 .bf16) :
    FVec F S1x512 .f32 :=
  shapeCast S1x512
    (multiReduction .maximumf [0] S512
      (maximumf (maximumf (maximumf (maximumf (maximumf (maximumf (maximumf (maximumf (ctxMax8 (ctxScores kc q))
        (latMax8 (latScores (kl 0) q))) (latMax8 (latScores (kl 1) q))) (latMax8 (latScores (kl 2) q)))
        (latMax8 (latScores (kl 3) q))) (latMax8 (latScores (kl 4) q))) (latMax8 (latScores (kl 5) q)))
        (latMax8 (latScores (kl 6) q))) (latMax8 (latScores (kl 7) q)))
      0xFF800000#32 reduces_S8x512_S512 (.inl rfl) rfl) shapeCasts_S512_S1x512

/-- The context keys' weights `2 ^ (score - peak)`. -/
def ctxWeights (x : FVec F S256x512 .f32) (m : FVec F S1x512 .f32) : FVec F S256x512 .bf16 :=
  truncf .bf16 (exp2 (subf x (broadcastTo S256x512 m broadcasts_S1x512_S256x512))) bitsLt_bf16_f32

/-- A latent chunk's weights. -/
def latWeights (x : FVec F S512x512 .f32) (m : FVec F S1x512 .f32) : FVec F S512x512 .bf16 :=
  truncf .bf16 (exp2 (subf x (broadcastTo S512x512 m broadcasts_S1x512_S512x512))) bitsLt_bf16_f32

/-- The context values summed by their weights. -/
def ctxPart (v : Vec F S1x1x128x256 .bf16) (w : FVec F S256x512 .bf16) : FVec F S128x512 .f32 :=
  matmul dot_S128x256_S256x512_S128x512_1_0_0_1_n_n none (shapeCast S128x256 v shapeCasts_S1x1x128x256_S128x256) w
    (constant S128x512 .f32 0x00000000#32)

/-- A latent chunk's values summed by their weights. -/
def latPart (v : Vec F S1x1x128x512 .bf16) (w : FVec F S512x512 .bf16) : FVec F S128x512 .f32 :=
  matmul dot_S128x512_S512x512_S128x512_1_0_0_1_n_n none (shapeCast S128x512 v shapeCasts_S1x1x128x512_S128x512) w
    (constant S128x512 .f32 0x00000000#32)

/-- The weighted sums of all 4352 values, lanes by queries, added up chunk after chunk. -/
def sums (kc : Vec F S1x1x256x128 .bf16) (kl : Fin 8 → Vec F S1x1x512x128 .bf16) (vc : Vec F S1x1x128x256 .bf16)
    (vl : Fin 8 → Vec F S1x1x128x512 .bf16) (q : FVec F S512x128 .bf16) : FVec F S128x512 .f32 :=
  let part := fun j => latPart (vl j) (latWeights (latScores (kl j) q) (peak kc kl q))
  addf (addf (addf (addf (addf (addf (addf (addf (addf (broadcast S128x512 (Scalar.ofBits .f32 0x00000000#32))
    (ctxPart vc (ctxWeights (ctxScores kc q) (peak kc kl q)))) (part 0)) (part 1)) (part 2)) (part 3)) (part 4))
    (part 5)) (part 6)) (part 7)

/-- The sums of row group `s`, lane half `p`, from the five blocks. -/
def blockSums (x0 : Vec F S1024x256 .bf16) (x1 : Vec F S1x2x256x128 .bf16) (x2 : Vec F S1x2x128x256 .bf16)
    (x3 : Vec F S1x2x4096x128 .bf16) (x4 : Vec F S1x2x128x4096 .bf16) (s : Fin 4) (p : Fin 2) : FVec F S128x512 .f32 :=
  sums (ctxKeys x1 p) (latKeys x3 p) (ctxVals x2 p) (latVals x4 p) (queries x0 s)

/-- The lower lanes of the quotient: the sums divided by their last row, transposed, the upper lanes put to zero. -/
def lower (a : FVec F S128x512 .f32) : FVec F S512x128 .f32 :=
  select (cmpi .slt (iota .tc S512x128 32 [1] iota_S512x128_d1_w32) (broadcast S512x128 64#32))
    (transpose S512x128 [1, 0] (divf a (broadcastTo S128x512 (extractStridedSlice S1x512 ![127, 0] a
      slices_S128x512_o127_0_S1x512) broadcasts_S1x512_S128x512)) transposes_S128x512_p1_0_S512x128)
    (broadcast S512x128 (Scalar.ofBits .f32 0x00000000#32))

/-- The upper lanes of the quotient: the sums divided by their first row, transposed, the lower lanes put to zero. -/
def upper (a : FVec F S128x512 .f32) : FVec F S512x128 .f32 :=
  select (cmpi .sge (iota .tc S512x128 32 [1] iota_S512x128_d1_w32) (broadcast S512x128 64#32))
    (transpose S512x128 [1, 0] (divf a (broadcastTo S128x512 (extractStridedSlice S1x512 ![0, 0] a
      slices_S128x512_o0_0_S1x512) broadcasts_S1x512_S128x512)) transposes_S128x512_p1_0_S512x128)
    (broadcast S512x128 (Scalar.ofBits .f32 0x00000000#32))

/-- The first 256 queries' output tile: the two lane halves put together. -/
def tile0 (a b : FVec F S128x512 .f32) : FVec F S256x128 .bf16 :=
  truncf .bf16 (addf (extractStridedSlice S256x128 ![0, 0] (lower a) slices_S512x128_o0_0_S256x128)
    (extractStridedSlice S256x128 ![0, 0] (upper b) slices_S512x128_o0_0_S256x128)) bitsLt_bf16_f32

/-- The other 256 queries' output tile. -/
def tile1 (a b : FVec F S128x512 .f32) : FVec F S256x128 .bf16 :=
  truncf .bf16 (addf (extractStridedSlice S256x128 ![256, 0] (lower a) slices_S512x128_o256_0_S256x128)
    (extractStridedSlice S256x128 ![256, 0] (upper b) slices_S512x128_o256_0_S256x128)) bitsLt_bf16_f32

end Cert.KernelIdeal.Tile

end
-- ==== Proof.Attn.Softmax.lean ====
/- The softmax over the extended reals, as the two programs write it: the reference normalises the weights `e ^ (x - m)`
   and then sums the values, the kernel sums the values with the weights `2 ^ (x / ln 2 - m)` and divides at the end. For
   finite scores the two agree whatever finite number is subtracted. -/
module

public import Idealize.ShloMosaic.Lib.Pointwise

@[expose] public section

noncomputable section

namespace Cert.Attn

open Idealize.ShloMosaic

/-- An extended real that is a real number. -/
def IsReal (x : EReal) : Prop := ∃ r : ℝ, x = r

theorem IsReal.coe (r : ℝ) : IsReal (r : EReal) := ⟨r, rfl⟩

theorem IsReal.mul {x y : EReal} : IsReal x → IsReal y → IsReal (x * y) := by
  rintro ⟨a, rfl⟩ ⟨b, rfl⟩; exact ⟨a * b, (EReal.coe_mul a b).symm⟩

theorem IsReal.max {x y : EReal} (hx : IsReal x) (hy : IsReal y) : IsReal (max x y) := by
  rcases max_choice x y with h | h <;> rw [h] <;> assumption

/-- The greatest of finitely many reals, folded up from minus infinity, is a real. -/
theorem IsReal.fold {n : ℕ} [NeZero n] {f : Fin n → EReal} (h : ∀ k, IsReal (f k)) :
    IsReal (Finset.univ.fold Max.max (⊥ : EReal) f) := by
  have e : Finset.univ.fold Max.max (⊥ : EReal) f = Finset.univ.sup f := rfl
  obtain ⟨k, _, hk⟩ := Finset.exists_mem_eq_sup Finset.univ ⟨(0 : Fin n), Finset.mem_univ _⟩ f
  rw [e, hk]; exact h k

theorem eighth : Ideal.ofBits .f32 0x3E000000#32 = ((1 / 8 : ℝ) : EReal) := by
  simp [Ideal.ofBits, Ideal.ieee, -EReal.coe_mul]; norm_num

theorem eighth_real : IsReal (Ideal.ofBits .f32 0x3E000000#32) := ⟨_, eighth⟩

theorem two : Ideal.ofBits .f32 0x40000000#32 = ((2 : ℝ) : EReal) := by
  simp [Ideal.ofBits, Ideal.ieee, -EReal.coe_mul]; norm_num

theorem ofBits_neg_inf : Ideal.ofBits .f32 0xFF800000#32 = ⊥ := by simp [Ideal.ofBits, Ideal.ieee]

/-- A sum of reals is the real sum. -/
theorem coe_sum {ι : Type*} [Fintype ι] (f : ι → ℝ) : ∑ k, (f k : EReal) = ((∑ k, f k : ℝ) : EReal) := by
  classical
  induction (Finset.univ : Finset ι) using Finset.induction_on with
  | empty => simp
  | insert a s ha ih => rw [Finset.sum_insert ha, Finset.sum_insert ha, ih, EReal.coe_add]

theorem IsReal.sum {ι : Type*} [Fintype ι] {f : ι → EReal} (h : ∀ k, IsReal (f k)) : IsReal (∑ k, f k) := by
  choose g hg using h
  exact ⟨∑ k, g k, by rw [← coe_sum]; exact Finset.sum_congr rfl fun k _ => hg k⟩

/-- A dot product of reals, and the same with one side scaled. -/
theorem dot_scaled {ι : Type*} [Fintype ι] (k q : ι → EReal) (hk : ∀ d, IsReal (k d)) (hq : ∀ d, IsReal (q d)) (s : ℝ) :
    ∃ D : ℝ, ∑ d, k d * q d = (D : EReal) ∧ ∑ d, k d * (q d * (s : EReal)) = ((D * s : ℝ) : EReal) := by
  choose k' hk using hk
  choose q' hq using hq
  refine ⟨∑ d, k' d * q' d, ?_, ?_⟩
  · rw [← coe_sum]; exact Finset.sum_congr rfl fun d _ => by rw [hk, hq, EReal.coe_mul]
  · rw [Finset.sum_mul, ← coe_sum]
    exact Finset.sum_congr rfl fun d _ => by rw [hk, hq, EReal.coe_mul, EReal.coe_mul, mul_assoc]

/-- A real factor may be moved into a finite sum of extended reals when it is positive. -/
theorem sum_mul_coe {ι : Type*} [Fintype ι] (f : ι → EReal) {c : ℝ} (hc : 0 ≤ c) :
    (∑ k, f k) * (c : EReal) = ∑ k, f k * (c : EReal) := by
  classical
  induction (Finset.univ : Finset ι) using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- The kernel's quotient of two sums is the reference's sum over normalised weights: `s` the kernel's scores, whose
    multiples by `ln 2` are the reference's, `M` and `M'` the numbers subtracted. -/
theorem softmax_eq {ι : Type*} [Fintype ι] [Nonempty ι] (s : ι → ℝ) (M M' : ℝ) (v : ι → EReal) :
    Ideal.div (∑ k, v k * Ideal.exp2 ((s k : EReal) - M)) (∑ k, Ideal.exp2 ((s k : EReal) - M))
      = ∑ k, v k * Ideal.div (Ideal.exp (((s k * Real.log 2 : ℝ) : EReal) - M'))
          (∑ k, Ideal.exp (((s k * Real.log 2 : ℝ) : EReal) - M')) := by
  have h2 : ∀ k, Ideal.exp2 ((s k : EReal) - M) = ((Real.exp ((s k - M) * Real.log 2) : ℝ) : EReal) := fun k => by
    rw [← EReal.coe_sub, Ideal.exp2_coe, Real.rpow_eq_pow, Real.rpow_def_of_pos two_pos, mul_comm]
  have he : ∀ k, Ideal.exp (((s k * Real.log 2 : ℝ) : EReal) - M') = ((Real.exp (s k * Real.log 2 - M') : ℝ) : EReal) :=
    fun k => by rw [← EReal.coe_sub, Ideal.exp_coe]
  simp only [h2, he, coe_sum]
  have hD : (0 : ℝ) < ∑ k, Real.exp ((s k - M) * Real.log 2) :=
    Finset.sum_pos (fun k _ => Real.exp_pos _) Finset.univ_nonempty
  have hE : (0 : ℝ) < ∑ k, Real.exp (s k * Real.log 2 - M') :=
    Finset.sum_pos (fun k _ => Real.exp_pos _) Finset.univ_nonempty
  have hDE : ∑ k, Real.exp ((s k - M) * Real.log 2)
      = (∑ k, Real.exp (s k * Real.log 2 - M')) * Real.exp (M' - M * Real.log 2) := by
    rw [Finset.sum_mul]; refine Finset.sum_congr rfl fun k _ => ?_; rw [← Real.exp_add]; congr 1; ring
  rw [Ideal.div_coe hD.ne', sum_mul_coe _ (one_div_pos.mpr hD).le]
  refine Finset.sum_congr rfl fun k _ => ?_
  rw [Ideal.div_coe hE.ne', mul_assoc, ← EReal.coe_mul, ← EReal.coe_mul]
  congr 2
  have hk : Real.exp ((s k - M) * Real.log 2) = Real.exp (s k * Real.log 2 - M') * Real.exp (M' - M * Real.log 2) := by
    rw [← Real.exp_add]; congr 1; ring
  rw [hDE, hk]
  have := (Real.exp_pos (M' - M * Real.log 2)).ne'
  field_simp

/-- A sum over 4096 cut into eight sums over 512. -/
theorem sum_eight {f : Fin 4096 → EReal} :
    ∑ k, f k = ∑ j : Fin 8, ∑ r : Fin 512, f ⟨512 * j.val + r.val, by omega⟩ := by
  rw [← Fintype.sum_prod_type', ← (finProdFinEquiv (m := 8) (n := 512)).sum_comp]
  refine Finset.sum_congr rfl fun x _ => congrArg f (Fin.ext ?_)
  simp [finProdFinEquiv]; omega

/-- The row that key `r` of batch element `b` has among all the tokens: the 256 context keys come after every latent
    token, the latent keys first. -/
def keyRow (b : Fin 4) (r : Fin 4352) : Fin 17408 :=
  if r.val < 256 then ⟨16384 + 256 * b.val + r.val % 256, by omega⟩ else ⟨4096 * b.val + (r.val - 256), by omega⟩

/-- The key as the kernel counts it, context or latent, and as the reference does. -/
def key : Fin 256 ⊕ Fin 4096 ≃ Fin 4352 := finSumFinEquiv

theorem key_inl (r : Fin 256) : (key (.inl r)).val = r.val := rfl
theorem key_inr (r : Fin 4096) : (key (.inr r)).val = 256 + r.val := rfl

theorem keyRow_inl (b : Fin 4) (r : Fin 256) : keyRow b (key (.inl r)) = ⟨16384 + 256 * b.val + r.val, by omega⟩ := by
  apply Fin.ext; unfold keyRow; rw [if_pos (by rw [key_inl]; omega)]; simp only [key_inl]; omega

theorem keyRow_inr (b : Fin 4) (r : Fin 4096) : keyRow b (key (.inr r)) = ⟨4096 * b.val + r.val, by omega⟩ := by
  apply Fin.ext; unfold keyRow; rw [if_neg (by rw [key_inr]; omega)]; simp only [key_inr]; omega

/-- The dot product of the query at row `R`, head `C / 64`, with key `r` of its batch element and group. -/
def dots (q : (⟨2, ![17408, 1024]⟩ : Shape).Idx → EReal) (k : (⟨2, ![17408, 256]⟩ : Shape).Idx → EReal) (R : Fin 16384)
    (C : Fin 1024) (r : Fin 4352) : EReal :=
  ∑ d : Fin 64, k (ix2 (keyRow ⟨R.val / 4096, by omega⟩ r) ⟨64 * (C.val / 256) + d.val, by omega⟩)
    * q (ix2 ⟨R.val, by omega⟩ ⟨64 * (C.val / 64) + d.val, by omega⟩)

/-- The attention's result at row `R`, column `C`, with `M` subtracted from every score: the values weighted by the
    softmax of an eighth of the dot products. -/
def spec (q : (⟨2, ![17408, 1024]⟩ : Shape).Idx → EReal) (k v : (⟨2, ![17408, 256]⟩ : Shape).Idx → EReal) (M : ℝ)
    (R : Fin 16384) (C : Fin 1024) : EReal :=
  ∑ r : Fin 4352, v (ix2 (keyRow ⟨R.val / 4096, by omega⟩ r) ⟨64 * (C.val / 256) + C.val % 64, by omega⟩)
    * Ideal.div (Ideal.exp (dots q k R C r * Ideal.ofBits .f32 0x3E000000#32 - M))
        (∑ r, Ideal.exp (dots q k R C r * Ideal.ofBits .f32 0x3E000000#32 - M))

end Cert.Attn

end
-- ==== Proof.Attn.TileAt.lean ====
/- The vectors of one grid point read at an index, at the extended reals: a score is a dot product over 128 lanes, the
   greatest score is some real number, the sums are weighted sums over the 4352 keys, and an output element is a quotient
   of two of them. -/
module

public import proofs.«01_k».proof.Proof.Attn.Tile
public import proofs.«01_k».proof.Proof.Attn.Softmax
public import Idealize.ShloMosaic.Lib.Pointwise
public import Idealize.ShloMosaic.Lib.WordCmp

@[expose] public section

noncomputable section

namespace Cert.KernelIdeal.Tile

open Cert.KernelIdeal Cert.KernelIdeal.Gen Idealize.ShloMosaic Idealize.ShloMosaic.TcCoe Cert.Attn

set_option maxHeartbeats 1000000

theorem queries_at (x0 : Vec Ideal S1024x256 .bf16) (s : Fin 4) (n : Fin 512) (d : Fin 128) :
    queries x0 s (ix2 n d) = x0 (ix2 ⟨256 * s.val + n.val % 256, by omega⟩ ⟨128 * (n.val / 256) + d.val, by omega⟩) := by
  pointwise [queries]
  split <;> congr 2 <;> apply Fin.ext <;> dsimp only <;> omega

theorem ctxScores_at (kc : Vec Ideal S1x1x256x128 .bf16) (q : FVec Ideal S512x128 .bf16) (r : Fin 256) (n : Fin 512) :
    ctxScores kc q (ix2 r n) = ∑ d : Fin 128, kc (ix4 0 0 r d) * q (ix2 n d) := by
  pointwise [ctxScores]

theorem latScores_at (kc : Vec Ideal S1x1x512x128 .bf16) (q : FVec Ideal S512x128 .bf16) (r : Fin 512) (n : Fin 512) :
    latScores kc q (ix2 r n) = ∑ d : Fin 128, kc (ix4 0 0 r d) * q (ix2 n d) := by
  pointwise [latScores]

theorem ctxPart_at (v : Vec Ideal S1x1x128x256 .bf16) (w : FVec Ideal S256x512 .bf16) (l : Fin 128) (n : Fin 512) :
    ctxPart v w (ix2 l n) = ∑ r : Fin 256, v (ix4 0 0 l r) * w (ix2 r n) := by
  pointwise [ctxPart]

theorem latPart_at (v : Vec Ideal S1x1x128x512 .bf16) (w : FVec Ideal S512x512 .bf16) (l : Fin 128) (n : Fin 512) :
    latPart v w (ix2 l n) = ∑ r : Fin 512, v (ix4 0 0 l r) * w (ix2 r n) := by
  pointwise [latPart]

theorem ctxWeights_at (x : FVec Ideal S256x512 .f32) (m : FVec Ideal S1x512 .f32) (r : Fin 256) (n : Fin 512) :
    ctxWeights x m (ix2 r n) = Ideal.exp2 (x (ix2 r n) - m (ix2 0 n)) := by
  pointwise [ctxWeights]; rfl

theorem latWeights_at (x : FVec Ideal S512x512 .f32) (m : FVec Ideal S1x512 .f32) (r : Fin 512) (n : Fin 512) :
    latWeights x m (ix2 r n) = Ideal.exp2 (x (ix2 r n) - m (ix2 0 n)) := by
  pointwise [latWeights]; rfl

/-- When every score of a query is real, so is the greatest. -/
theorem peak_real (kc : Vec Ideal S1x1x256x128 .bf16) (kl : Fin 8 → Vec Ideal S1x1x512x128 .bf16)
    (q : FVec Ideal S512x128 .bf16) (n : Fin 512) (hc : ∀ r, IsReal (ctxScores kc q (ix2 r n)))
    (hl : ∀ j r, IsReal (latScores (kl j) q (ix2 r n))) : IsReal (peak kc kl q (ix2 0 n)) := by
  pointwise [peak, ctxMax8, latMax8]
  rw [ofBits_neg_inf]
  refine IsReal.fold fun a => ?_
  repeat refine IsReal.max ?_ (IsReal.fold fun r => hl _ _)
  exact IsReal.fold fun r => hc _

theorem ctxKeys_at (x1 : Vec Ideal S1x2x256x128 .bf16) (p : Fin 2) (r : Fin 256) (d : Fin 128) :
    ctxKeys x1 p (ix4 0 0 r d) = x1 (ix4 0 p r d) := by
  pointwise [ctxKeys]

theorem ctxVals_at (x2 : Vec Ideal S1x2x128x256 .bf16) (p : Fin 2) (l : Fin 128) (r : Fin 256) :
    ctxVals x2 p (ix4 0 0 l r) = x2 (ix4 0 p l r) := by
  pointwise [ctxVals]

theorem latKeys_at (x3 : Vec Ideal S1x2x4096x128 .bf16) (p : Fin 2) (j : Fin 8) (r : Fin 512) (d : Fin 128) :
    latKeys x3 p j (ix4 0 0 r d) = x3 (ix4 0 p ⟨512 * j.val + r.val, by omega⟩ d) := by
  pointwise [latKeys]

theorem latVals_at (x4 : Vec Ideal S1x2x128x4096 .bf16) (p : Fin 2) (j : Fin 8) (l : Fin 128) (r : Fin 512) :
    latVals x4 p j (ix4 0 0 l r) = x4 (ix4 0 p l ⟨512 * j.val + r.val, by omega⟩) := by
  pointwise [latVals]

/-- The score of key `k` (a context key or a latent key), lane half `p`, for column `n` of a block of 512 queries. -/
def scoreOf (x1 : Vec Ideal S1x2x256x128 .bf16) (x3 : Vec Ideal S1x2x4096x128 .bf16) (p : Fin 2) (q : FVec Ideal S512x128 .bf16)
    (n : Fin 512) : Fin 256 ⊕ Fin 4096 → EReal :=
  Sum.elim (fun r => ∑ d : Fin 128, x1 (ix4 0 p r d) * q (ix2 n d)) (fun r => ∑ d : Fin 128, x3 (ix4 0 p r d) * q (ix2 n d))

theorem scoreOf_inl (x1 : Vec Ideal S1x2x256x128 .bf16) (x3 : Vec Ideal S1x2x4096x128 .bf16) (p : Fin 2)
    (q : FVec Ideal S512x128 .bf16) (n : Fin 512) (r : Fin 256) :
    scoreOf x1 x3 p q n (.inl r) = ∑ d : Fin 128, x1 (ix4 0 p r d) * q (ix2 n d) := rfl

theorem scoreOf_inr (x1 : Vec Ideal S1x2x256x128 .bf16) (x3 : Vec Ideal S1x2x4096x128 .bf16) (p : Fin 2)
    (q : FVec Ideal S512x128 .bf16) (n : Fin 512) (r : Fin 4096) :
    scoreOf x1 x3 p q n (.inr r) = ∑ d : Fin 128, x3 (ix4 0 p r d) * q (ix2 n d) := rfl

/-- The score of key `k` for query column `n` of row group `s`, lane half `p`. -/
def score (x0 : Vec Ideal S1024x256 .bf16) (x1 : Vec Ideal S1x2x256x128 .bf16) (x3 : Vec Ideal S1x2x4096x128 .bf16)
    (s : Fin 4) (p : Fin 2) (n : Fin 512) : Fin 256 ⊕ Fin 4096 → EReal :=
  scoreOf x1 x3 p (queries x0 s) n

theorem score_inl (x0 : Vec Ideal S1024x256 .bf16) (x1 : Vec Ideal S1x2x256x128 .bf16) (x3 : Vec Ideal S1x2x4096x128 .bf16)
    (s : Fin 4) (p : Fin 2) (n : Fin 512) (r : Fin 256) :
    score x0 x1 x3 s p n (.inl r) = ∑ d : Fin 128, x1 (ix4 0 p r d) * queries x0 s (ix2 n d) := rfl

theorem score_inr (x0 : Vec Ideal S1024x256 .bf16) (x1 : Vec Ideal S1x2x256x128 .bf16) (x3 : Vec Ideal S1x2x4096x128 .bf16)
    (s : Fin 4) (p : Fin 2) (n : Fin 512) (r : Fin 4096) :
    score x0 x1 x3 s p n (.inr r) = ∑ d : Fin 128, x3 (ix4 0 p r d) * queries x0 s (ix2 n d) := rfl

/-- Lane `l` of the value of key `k`. -/
def value (x2 : Vec Ideal S1x2x128x256 .bf16) (x4 : Vec Ideal S1x2x128x4096 .bf16) (p : Fin 2) (l : Fin 128) :
    Fin 256 ⊕ Fin 4096 → EReal :=
  Sum.elim (fun r => x2 (ix4 0 p l r)) (fun r => x4 (ix4 0 p l r))

variable (x0 : Vec Ideal S1024x256 .bf16) (x1 : Vec Ideal S1x2x256x128 .bf16) (x2 : Vec Ideal S1x2x128x256 .bf16)
  (x3 : Vec Ideal S1x2x4096x128 .bf16) (x4 : Vec Ideal S1x2x128x4096 .bf16)

/-- The sums over all the keys, for any block of 512 queries: one real number is subtracted from every score. -/
theorem sums_at (p : Fin 2) (q : FVec Ideal S512x128 .bf16) (n : Fin 512) (hs : ∀ k, IsReal (scoreOf x1 x3 p q n k)) :
    ∃ M : ℝ, ∀ l : Fin 128, sums (ctxKeys x1 p) (latKeys x3 p) (ctxVals x2 p) (latVals x4 p) q (ix2 l n)
      = ∑ k, value x2 x4 p l k * Ideal.exp2 (scoreOf x1 x3 p q n k - M) := by
  have hc : ∀ r, ctxScores (ctxKeys x1 p) q (ix2 r n) = scoreOf x1 x3 p q n (.inl r) := fun r => by
    rw [ctxScores_at]; simp only [ctxKeys_at]; rfl
  have hl : ∀ j r, latScores (latKeys x3 p j) q (ix2 r n)
      = scoreOf x1 x3 p q n (.inr ⟨512 * j.val + r.val, by omega⟩) := fun j r => by
    rw [latScores_at]; simp only [latKeys_at]; rfl
  obtain ⟨M, hM⟩ := peak_real (ctxKeys x1 p) (latKeys x3 p) q n
    (fun r => by rw [hc]; exact hs _) (fun j r => by rw [hl]; exact hs _)
  refine ⟨M, fun l => ?_⟩
  have hp : ∀ j, latPart (latVals x4 p j) (latWeights (latScores (latKeys x3 p j) q)
        (peak (ctxKeys x1 p) (latKeys x3 p) q)) (ix2 l n)
      = ∑ r : Fin 512, value x2 x4 p l (.inr ⟨512 * j.val + r.val, by omega⟩)
          * Ideal.exp2 (scoreOf x1 x3 p q n (.inr ⟨512 * j.val + r.val, by omega⟩) - M) := fun j => by
    rw [latPart_at]; simp only [latWeights_at, latVals_at, hl, hM]; rfl
  have hq : ctxPart (ctxVals x2 p) (ctxWeights (ctxScores (ctxKeys x1 p) q)
        (peak (ctxKeys x1 p) (latKeys x3 p) q)) (ix2 l n)
      = ∑ r : Fin 256, value x2 x4 p l (.inl r) * Ideal.exp2 (scoreOf x1 x3 p q n (.inl r) - M) := by
    rw [ctxPart_at]; simp only [ctxWeights_at, ctxVals_at, hc, hM]; rfl
  pointwise [sums]
  simp only [hp, hq]
  rw [Fintype.sum_sum_type, sum_eight (f := fun r => value x2 x4 p l (.inr r) * Ideal.exp2 (scoreOf x1 x3 p q n (.inr r) - M)),
    Fin.sum_univ_eight]
  simp only [add_assoc]

/-- The quotient of lane `l` by a lane `e` whose values are all one: the softmax of the scores `a k`, in the natural
    base, times the values. -/
theorem sums_quotient (p : Fin 2) (q : FVec Ideal S512x128 .bf16) (n : Fin 512) (l e : Fin 128) (a : Fin 256 ⊕ Fin 4096 → ℝ)
    (M' : ℝ) (hs : ∀ k, scoreOf x1 x3 p q n k = (a k : ℝ)) (he : ∀ k, value x2 x4 p e k = 1) :
    Ideal.div (sums (ctxKeys x1 p) (latKeys x3 p) (ctxVals x2 p) (latVals x4 p) q (ix2 l n))
        (sums (ctxKeys x1 p) (latKeys x3 p) (ctxVals x2 p) (latVals x4 p) q (ix2 e n))
      = ∑ k, value x2 x4 p l k * Ideal.div (Ideal.exp (((a k * Real.log 2 : ℝ) : EReal) - M'))
          (∑ k, Ideal.exp (((a k * Real.log 2 : ℝ) : EReal) - M')) := by
  obtain ⟨M, hM⟩ := sums_at x1 x2 x3 x4 p q n fun k => ⟨_, hs k⟩
  rw [hM, hM]
  simp only [he, one_mul, hs]
  exact softmax_eq a M M' _

/-- The same for the queries of row group `s`. -/
theorem quotient_at (s : Fin 4) (p : Fin 2) (n : Fin 512) (l e : Fin 128) (a : Fin 256 ⊕ Fin 4096 → ℝ) (M' : ℝ)
    (hs : ∀ k, score x0 x1 x3 s p n k = (a k : ℝ)) (he : ∀ k, value x2 x4 p e k = 1) :
    Ideal.div (blockSums x0 x1 x2 x3 x4 s p (ix2 l n)) (blockSums x0 x1 x2 x3 x4 s p (ix2 e n))
      = ∑ k, value x2 x4 p l k * Ideal.div (Ideal.exp (((a k * Real.log 2 : ℝ) : EReal) - M'))
          (∑ k, Ideal.exp (((a k * Real.log 2 : ℝ) : EReal) - M')) :=
  sums_quotient x1 x2 x3 x4 p (queries x0 s) n l e a M' hs he

theorem select_lt (l : Fin 128) (x y : EReal) :
    Scalar.select (IntOp.cmpi .slt (BitVec.ofNat 32 l.val) 64#32) x y = if l.val < 64 then x else y := by
  rw [WordCmp.cmpi_slt_ofNat (w := 32) (a := l.val) (b := 64) (by have := l.isLt; omega) (by omega)]
  by_cases h : l.val < 64 <;> simp [Scalar.select, h]

theorem select_ge (l : Fin 128) (x y : EReal) :
    Scalar.select (IntOp.cmpi .sge (BitVec.ofNat 32 l.val) 64#32) x y = if l.val < 64 then y else x := by
  rw [WordCmp.cmpi_sge_ofNat (w := 32) (a := l.val) (b := 64) (by have := l.isLt; omega) (by omega)]
  by_cases h : l.val < 64
  · simp [Scalar.select, h, Nat.not_le.mpr h]
  · simp [Scalar.select, h, Nat.le_of_not_lt h]

theorem lower_at (a : FVec Ideal S128x512 .f32) (n : Fin 512) (l : Fin 128) :
    lower a (ix2 n l) = if l.val < 64 then Ideal.div (a (ix2 l n)) (a (ix2 127 n)) else 0 := by
  pointwise [lower]; exact select_lt l _ _

theorem upper_at (a : FVec Ideal S128x512 .f32) (n : Fin 512) (l : Fin 128) :
    upper a (ix2 n l) = if l.val < 64 then 0 else Ideal.div (a (ix2 l n)) (a (ix2 0 n)) := by
  pointwise [upper]; exact select_ge l _ _

/-- An output element of the first 256 queries: the quotient of its own lane half. -/
theorem tile0_at (a b : FVec Ideal S128x512 .f32) (n : Fin 256) (l : Fin 128) :
    tile0 a b (ix2 n l) = if l.val < 64 then Ideal.div (a (ix2 l ⟨n.val, by omega⟩)) (a (ix2 127 ⟨n.val, by omega⟩))
      else Ideal.div (b (ix2 l ⟨n.val, by omega⟩)) (b (ix2 0 ⟨n.val, by omega⟩)) := by
  pointwise [tile0]; rw [lower_at, upper_at]; split <;> simp

/-- An output element of the other 256 queries. -/
theorem tile1_at (a b : FVec Ideal S128x512 .f32) (n : Fin 256) (l : Fin 128) :
    tile1 a b (ix2 n l)
      = if l.val < 64 then Ideal.div (a (ix2 l ⟨256 + n.val, by omega⟩)) (a (ix2 127 ⟨256 + n.val, by omega⟩))
      else Ideal.div (b (ix2 l ⟨256 + n.val, by omega⟩)) (b (ix2 0 ⟨256 + n.val, by omega⟩)) := by
  pointwise [tile1]; rw [lower_at, upper_at]; split <;> simp

end Cert.KernelIdeal.Tile

end
-- ==== Proof.Attn.Prep.lean ====
/- The arrays the attention is launched on, from the three arguments: the queries scaled, the keys of one head with the
   other lane half zero, the values of one head, transposed, with one lane of ones in the other half. -/
module

public import proofs.«01_k».proof.Proof.Attn.TileAt
public import Idealize.ShloMosaic.Lib.StableHlo.ReadAt
public import proofs.«01_k».proof.Proof.Gen.KernelIdeal.Value

@[expose] public section

noncomputable section

namespace Cert.KernelIdeal.Tile

open Cert.KernelIdeal Cert.KernelIdeal.Gen Idealize.ShloMosaic Idealize.ShloMosaic.TcCoe Idealize.SL.Sem Cert.Attn

set_option maxHeartbeats 4000000
set_option maxRecDepth 65536

variable (m : (ℓ : Loc nD τ sig) → Buf (Elt Ideal) ℓ) (c : Dev nD)

/-- The three arguments. -/
def argQ : S17408x1024.Idx → EReal := m ((c : Thread nD τ).loc main_arg0)
def argK : S17408x256.Idx → EReal := m ((c : Thread nD τ).loc main_arg1)
def argV : S17408x256.Idx → EReal := m ((c : Thread nD τ).loc main_arg2)

/-- The packed keys and the packed, transposed values. -/
def arrK : S4x2x17408x128.Idx → EReal := V m c main_v21
def arrV : S4x2x128x17408.Idx → EReal := V m c main_v44

/-- The factor the queries are scaled by: an eighth over the logarithm of two. -/
def scale : EReal := Ideal.div (Ideal.ofBits .f32 0x3E000000#32) (Ideal.log (Ideal.ofBits .f32 0x40000000#32))

theorem prepQ (r : Fin 17408) (l : Fin 1024) :
    (V m c main_v5 : Vec Ideal S17408x1024 .bf16) (ix2 r l) = argQ m c (ix2 r l) * scale := by
  unfold V
  after_reads_at
  rfl

theorem select_eq (l : Fin 128) (n : ℕ) (hn : n < 128) (x y : EReal) :
    Scalar.select (IntOp.cmpi .eq (BitVec.ofNat 32 l.val) (BitVec.ofNat 32 n)) x y = if l.val = n then x else y := by
  rw [WordCmp.cmpi_eq_ofNat (w := 32) (a := l.val) (b := n) (by have := l.isLt; omega) (by omega)]
  by_cases h : l.val = n <;> simp [Scalar.select, h]

/-- The keys with the lower lane half kept. -/
theorem prepK0 (g : Fin 4) (r : Fin 17408) (l : Fin 128) :
    arrK m c (ix4 g 0 r l)
      = if l.val < 64 then argK m c (ix2 r ⟨64 * g.val + l.val % 64, by omega⟩) else (0 : EReal) := by
  unfold arrK V
  after_reads_at
  after_reads_at
  rw [select_lt]
  by_cases h : l.val < 64
  · simp only [h, ↓reduceIte, ↓reduceDIte, id_eq]
    after_reads_at
    refine congrArg (m (c, Proc.tc.devRef main_arg1)) ?_
    congr 1; apply Fin.ext; dsimp only; omega
  · simp only [h, ↓reduceIte, ↓reduceDIte, id_eq]
    exact Ideal.ofBits_zero_f32

/-- The keys with the upper lane half kept. -/
theorem prepK1 (g : Fin 4) (r : Fin 17408) (l : Fin 128) :
    arrK m c (ix4 g 1 r l)
      = if l.val < 64 then (0 : EReal) else argK m c (ix2 r ⟨64 * g.val + l.val % 64, by omega⟩) := by
  unfold arrK V
  after_reads_at
  after_reads_at
  rw [select_ge]
  by_cases h : l.val < 64
  · simp only [h, ↓reduceIte, ↓reduceDIte, id_eq]
    exact Ideal.ofBits_zero_f32
  · simp only [h, ↓reduceIte, ↓reduceDIte, id_eq]
    after_reads_at
    refine congrArg (m (c, Proc.tc.devRef main_arg1)) ?_
    congr 1; apply Fin.ext; dsimp only; omega

/-- The values in the lower lane half, a one in the last lane. -/
theorem prepV0 (g : Fin 4) (r : Fin 17408) (l : Fin 128) :
    arrV m c (ix4 g 0 l r)
      = if l.val < 64 then argV m c (ix2 r ⟨64 * g.val + l.val % 64, by omega⟩) else (if l.val = 127 then (1 : EReal) else 0) := by
  unfold arrV V
  after_reads_at
  after_reads_at
  rw [select_lt]
  by_cases h : l.val < 64
  · simp only [h, ↓reduceIte, ↓reduceDIte, id_eq]
    after_reads_at
    refine congrArg (m (c, Proc.tc.devRef main_arg2)) ?_
    congr 1; apply Fin.ext; dsimp only; omega
  · simp only [h, ↓reduceIte, ↓reduceDIte, id_eq]
    pointwise
    exact select_eq l 127 (by decide) _ _

/-- The values in the upper lane half, a one in the first lane. -/
theorem prepV1 (g : Fin 4) (r : Fin 17408) (l : Fin 128) :
    arrV m c (ix4 g 1 l r)
      = if l.val < 64 then (if l.val = 0 then (1 : EReal) else 0) else argV m c (ix2 r ⟨64 * g.val + l.val % 64, by omega⟩) := by
  unfold arrV V
  after_reads_at
  after_reads_at
  rw [select_ge]
  by_cases h : l.val < 64
  · simp only [h, ↓reduceIte, ↓reduceDIte, id_eq]
    pointwise
    exact select_eq l 0 (by decide) _ _
  · simp only [h, ↓reduceIte, ↓reduceDIte, id_eq]
    after_reads_at
    refine congrArg (m (c, Proc.tc.devRef main_arg2)) ?_
    congr 1; apply Fin.ext; dsimp only; omega

end Cert.KernelIdeal.Tile

end
-- ==== Proof.Attn.Pieces.lean ====
/- The eight tiles that one grid point stores are the tiles of `Tile`. -/
module

public import proofs.«01_k».proof.Proof.Attn.Tile

@[expose] public section

set_option maxRecDepth 65536

noncomputable section

namespace Cert.KernelIdeal.Tile

open Cert.KernelIdeal Cert.KernelIdeal.Gen Idealize.ShloMosaic Idealize.ShloMosaic.TcCoe

variable {F : FTy → Type} [FloatOps F]

set_option maxHeartbeats 1000000 in
/-- What one grid point leaves in its output block. -/
theorem out_eq (c : Dev nD) (i : grid0.Coords) (arg3 : Memref sig .tc .vmem S1024x256 .bf16) (harg3 : arg3.IsWhole)
    (arg4 : Memref sig .tc .vmem S1x2x256x128 .bf16) (harg4 : arg4.IsWhole)
    (arg5 : Memref sig .tc .vmem S1x2x128x256 .bf16) (harg5 : arg5.IsWhole)
    (arg6 : Memref sig .tc .vmem S1x2x4096x128 .bf16) (harg6 : arg6.IsWhole)
    (arg7 : Memref sig .tc .vmem S1x2x128x4096 .bf16) (harg7 : arg7.IsWhole)
    (arg8 : Memref sig .tc .vmem S1024x256 .bf16) (harg8 : arg8.IsWhole)
    (arg9 : Memref sig .tc .vmem S4352x512 .f32) (harg9 : arg9.IsWhole)
    (arg10 : Memref sig .tc .vmem S4352x512 .f32) (harg10 : arg10.IsWhole)
    (x0 : Vec F S1024x256 .bf16) (x1 : Vec F S1x2x256x128 .bf16) (x2 : Vec F S1x2x128x256 .bf16)
    (x3 : Vec F S1x2x4096x128 .bf16) (x4 : Vec F S1x2x128x4096 .bf16) :
    out0_A_5 c i arg3 harg3 arg4 harg4 arg5 harg5 arg6 harg6 arg7 harg7 arg8 harg8 arg9 harg9 arg10 harg10 x0 x1 x2 x3 x4
      = View.canon
        [⟨Rect.unit (s := S1024x256) ![768, 128] S256x128.size inb_S1024x256_S256x128_768_128, tile1 (blockSums x0 x1 x2 x3 x4 3 0) (blockSums x0 x1 x2 x3 x4 3 1)⟩,
         ⟨Rect.unit (s := S1024x256) ![768, 0] S256x128.size inb_S1024x256_S256x128_768_0, tile0 (blockSums x0 x1 x2 x3 x4 3 0) (blockSums x0 x1 x2 x3 x4 3 1)⟩,
         ⟨Rect.unit (s := S1024x256) ![512, 128] S256x128.size inb_S1024x256_S256x128_512_128, tile1 (blockSums x0 x1 x2 x3 x4 2 0) (blockSums x0 x1 x2 x3 x4 2 1)⟩,
         ⟨Rect.unit (s := S1024x256) ![512, 0] S256x128.size inb_S1024x256_S256x128_512_0, tile0 (blockSums x0 x1 x2 x3 x4 2 0) (blockSums x0 x1 x2 x3 x4 2 1)⟩,
         ⟨Rect.unit (s := S1024x256) ![256, 128] S256x128.size inb_S1024x256_S256x128_256_128, tile1 (blockSums x0 x1 x2 x3 x4 1 0) (blockSums x0 x1 x2 x3 x4 1 1)⟩,
         ⟨Rect.unit (s := S1024x256) ![256, 0] S256x128.size inb_S1024x256_S256x128_256_0, tile0 (blockSums x0 x1 x2 x3 x4 1 0) (blockSums x0 x1 x2 x3 x4 1 1)⟩,
         ⟨Rect.unit (s := S1024x256) ![0, 128] S256x128.size inb_S1024x256_S256x128_0_128, tile1 (blockSums x0 x1 x2 x3 x4 0 0) (blockSums x0 x1 x2 x3 x4 0 1)⟩,
         ⟨Rect.unit (s := S1024x256) ![0, 0] S256x128.size inb_S1024x256_S256x128_0_0, tile0 (blockSums x0 x1 x2 x3 x4 0 0) (blockSums x0 x1 x2 x3 x4 0 1)⟩] := by
  unfold out0_A_5
  rw [View.read_writes_junk_eq_canon]
  frame_open
  simp (disch := decide) only [↓ View.readCov_skip, ↓ View.readCov_cons_toLoadRect]
  simp only [View.readAt_eq_ld, Memref.IsWhole.read_unread]
  unfold_payloads
  dsimp only
  unfold tile0 tile1 lower upper blockSums sums
  unfold ctxPart latPart ctxWeights latWeights peak latScores ctxScores latMax8 ctxMax8 latKeys ctxKeys latVals ctxVals queries
  dsimp only
  simp only [shapeCast_self]
  rfl

end Cert.KernelIdeal.Tile

end
-- ==== Proof.Attn.Blocks.lean ====
/- One grid point's blocks at an index, from the three arguments, and what the point leaves in its output block: the
   attention's result at the block's place. -/
module

public import proofs.«01_k».proof.Proof.Attn.Prep
public import proofs.«01_k».proof.Proof.Attn.Pieces

@[expose] public section

noncomputable section

namespace Cert.KernelIdeal.Tile

open Cert.KernelIdeal Cert.KernelIdeal.Gen Idealize.ShloMosaic Idealize.ShloMosaic.TcCoe Idealize.SL.Sem Cert.Attn

set_option maxHeartbeats 1000000

/-- The output element at row `r`, column `l` of a block, as a quotient of the block's sums. -/
def cell (x0 : Vec Ideal S1024x256 .bf16) (x1 : Vec Ideal S1x2x256x128 .bf16) (x2 : Vec Ideal S1x2x128x256 .bf16)
    (x3 : Vec Ideal S1x2x4096x128 .bf16) (x4 : Vec Ideal S1x2x128x4096 .bf16) (r : Fin 1024) (l : Fin 256) : EReal :=
  let s : Fin 4 := ⟨r.val / 256, by omega⟩
  let n : Fin 512 := ⟨256 * (l.val / 128) + r.val % 256, by omega⟩
  let e : Fin 128 := ⟨l.val % 128, by omega⟩
  if l.val % 128 < 64 then Ideal.div (blockSums x0 x1 x2 x3 x4 s 0 (ix2 e n)) (blockSums x0 x1 x2 x3 x4 s 0 (ix2 127 n))
  else Ideal.div (blockSums x0 x1 x2 x3 x4 s 1 (ix2 e n)) (blockSums x0 x1 x2 x3 x4 s 1 (ix2 0 n))

variable (x0 : Vec Ideal S1024x256 .bf16) (x1 : Vec Ideal S1x2x256x128 .bf16) (x2 : Vec Ideal S1x2x128x256 .bf16)
  (x3 : Vec Ideal S1x2x4096x128 .bf16) (x4 : Vec Ideal S1x2x128x4096 .bf16)

theorem tile0_cell (s : Fin 4) (n : Fin 256) (l : Fin 128) :
    tile0 (blockSums x0 x1 x2 x3 x4 s 0) (blockSums x0 x1 x2 x3 x4 s 1) (ix2 n l)
      = cell x0 x1 x2 x3 x4 ⟨256 * s.val + n.val, by omega⟩ ⟨l.val, by omega⟩ := by
  rw [tile0_at]
  have e1 : (⟨(256 * s.val + n.val) / 256, by omega⟩ : Fin 4) = s := Fin.ext (by dsimp only; omega)
  have e2 : (⟨256 * (l.val / 128) + (256 * s.val + n.val) % 256, by omega⟩ : Fin 512) = ⟨n.val, by omega⟩ :=
    Fin.ext (by dsimp only; omega)
  have e3 : (⟨l.val % 128, by omega⟩ : Fin 128) = l := Fin.ext (by dsimp only; omega)
  have e4 : l.val % 128 = l.val := by omega
  unfold cell
  dsimp only
  rw [e1, e2, e3]; simp only [e4]

theorem tile1_cell (s : Fin 4) (n : Fin 256) (l : Fin 128) :
    tile1 (blockSums x0 x1 x2 x3 x4 s 0) (blockSums x0 x1 x2 x3 x4 s 1) (ix2 n l)
      = cell x0 x1 x2 x3 x4 ⟨256 * s.val + n.val, by omega⟩ ⟨128 + l.val, by omega⟩ := by
  rw [tile1_at]
  have e1 : (⟨(256 * s.val + n.val) / 256, by omega⟩ : Fin 4) = s := Fin.ext (by dsimp only; omega)
  have e2 : (⟨256 * ((128 + l.val) / 128) + (256 * s.val + n.val) % 256, by omega⟩ : Fin 512) = ⟨256 + n.val, by omega⟩ :=
    Fin.ext (by dsimp only; omega)
  have e3 : (⟨(128 + l.val) % 128, by omega⟩ : Fin 128) = l := Fin.ext (by dsimp only; omega)
  have e4 : (128 + l.val) % 128 = l.val := by omega
  unfold cell
  dsimp only
  rw [e1, e2, e3]; simp only [e4]

theorem idx0 : ∀ t : Fin cfg0.N, win0_0.index t = ![t.val / 16 * 4 + t.val % 4, t.val / 4 % 4] := by decide +kernel
theorem idx1 : ∀ t : Fin cfg0.N, win0_1.index t = ![t.val / 4 % 4, 0, 64 + t.val / 16, 0] := by decide +kernel
theorem idx2 : ∀ t : Fin cfg0.N, win0_2.index t = ![t.val / 4 % 4, 0, 0, 64 + t.val / 16] := by decide +kernel
theorem idx3 : ∀ t : Fin cfg0.N, win0_3.index t = ![t.val / 4 % 4, 0, t.val / 16, 0] := by decide +kernel
theorem idx4 : ∀ t : Fin cfg0.N, win0_4.index t = ![t.val / 4 % 4, 0, 0, t.val / 16] := by decide +kernel
theorem idx5 : ∀ t : Fin cfg0.N, win0_5.index t = ![t.val / 16 * 4 + t.val % 4, t.val / 4 % 4] := by decide +kernel

theorem t_lt (t : Fin cfg0.N) : t.val < 64 := t.isLt

variable (m : (ℓ : Loc nD τ sig) → Buf (Elt Ideal) ℓ) (c : Dev nD) (t : Fin cfg0.N)

/-- The point's batch element and head group. -/
def batch : Fin 4 := ⟨t.val / 16, by have := t_lt t; omega⟩
def group : Fin 4 := ⟨t.val / 4 % 4, by omega⟩

theorem blk0 (r : Fin 1024) (l : Fin 256) :
    (iblk m c 0 t : Vec Ideal S1024x256 .bf16) (ix2 r l)
      = argQ m c (ix2 ⟨1024 * (t.val / 16 * 4 + t.val % 4) + r.val, by have := t_lt t; omega⟩
         ⟨256 * (t.val / 4 % 4) + l.val, by omega⟩) * scale := by
  rw [← prepQ]
  blk_ext! [iblk, idx0 t]

theorem blk1 (p : Fin 2) (r : Fin 256) (l : Fin 128) :
    (iblk m c 1 t : Vec Ideal S1x2x256x128 .bf16) (ix4 0 p r l)
      = arrK m c (ix4 (group t) p ⟨16384 + 256 * (t.val / 16) + r.val, by have := t_lt t; omega⟩ l) := by
  unfold group
  blk_ext! [iblk, idx1 t]

theorem blk2 (p : Fin 2) (l : Fin 128) (r : Fin 256) :
    (iblk m c 2 t : Vec Ideal S1x2x128x256 .bf16) (ix4 0 p l r)
      = arrV m c (ix4 (group t) p l ⟨16384 + 256 * (t.val / 16) + r.val, by have := t_lt t; omega⟩) := by
  unfold group
  blk_ext! [iblk, idx2 t]

theorem blk3 (p : Fin 2) (r : Fin 4096) (l : Fin 128) :
    (X0_3 m c t : Vec Ideal S1x2x4096x128 .bf16) (ix4 0 p r l)
      = arrK m c (ix4 (group t) p ⟨4096 * (t.val / 16) + r.val, by have := t_lt t; omega⟩ l) := by
  unfold X0_3 Pipeline.Window.fill group
  rw [dif_pos (moved0_3 t _)]
  blk_ext! [iblk, idx3 t]

theorem blk4 (p : Fin 2) (l : Fin 128) (r : Fin 4096) :
    (X0_4 m c t : Vec Ideal S1x2x128x4096 .bf16) (ix4 0 p l r)
      = arrV m c (ix4 (group t) p l ⟨4096 * (t.val / 16) + r.val, by have := t_lt t; omega⟩) := by
  unfold X0_4 Pipeline.Window.fill group
  rw [dif_pos (moved0_4 t _)]
  blk_ext! [iblk, idx4 t]

/-- The values of the point, lane by lane of half `p`: row `keyRow` of the value argument. -/
theorem value_at (p : Fin 2) (l : Fin 128) (k : Fin 256 ⊕ Fin 4096) :
    value (iblk m c 2 t) (X0_4 m c t) p l k = arrV m c
      (ix4 (group t) p l (keyRow (batch t) (key k))) := by
  cases k with
  | inl r => rw [keyRow_inl]; exact blk2 m c t p l r
  | inr r => rw [keyRow_inr]; exact blk4 m c t p l r

/-- The scores of the point: dot products over 128 lanes. -/
theorem score_at (s : Fin 4) (p : Fin 2) (n : Fin 512) (k : Fin 256 ⊕ Fin 4096) :
    score (iblk m c 0 t) (iblk m c 1 t) (X0_3 m c t) s p n k
      = ∑ d : Fin 128, arrK m c (ix4 (group t) p (keyRow (batch t) (key k)) d)
          * (argQ m c (ix2 ⟨1024 * (t.val / 16 * 4 + t.val % 4) + (256 * s.val + n.val % 256), by have := t_lt t; omega⟩
              ⟨256 * (t.val / 4 % 4) + (128 * (n.val / 256) + d.val), by omega⟩) * scale) := by
  cases k with
  | inl r =>
    rw [keyRow_inl, score_inl]
    refine Finset.sum_congr rfl fun d _ => ?_
    rw [queries_at, blk0]
    exact congrArg (· * _) (blk1 m c t p r d)
  | inr r =>
    rw [keyRow_inr, score_inr]
    refine Finset.sum_congr rfl fun d _ => ?_
    rw [queries_at, blk0]
    exact congrArg (· * _) (blk3 m c t p r d)

end Cert.KernelIdeal.Tile

end
-- ==== Proof.Attn.Final.lean ====
/- The kernel's whole result: at every row and column the attention of the specification, for whatever real numbers one
   subtracts from the scores, when every query and key is real. -/
module

public import proofs.«01_k».proof.Defs
public import proofs.«01_k».proof.Proof.Gen.Pre_finite
public import proofs.«01_k».proof.Proof.Attn.Blocks
public import Idealize.ShloMosaic.Lib.ReduceAll

@[expose] public section

noncomputable section

namespace Cert.KernelIdeal.Tile

open Cert.KernelIdeal Cert.KernelIdeal.Gen Idealize.ShloMosaic Idealize.ShloMosaic.TcCoe Idealize.SL.Sem Cert.Attn

set_option maxHeartbeats 1000000

variable (m : (ℓ : Loc nD τ sig) → Buf (Elt Ideal) ℓ) (c : Dev nD)

theorem scale_eq : scale = ((1 / 8 * (1 / Real.log 2) : ℝ) : EReal) := by
  have h : Real.log 2 ≠ 0 := (Real.log_pos one_lt_two).ne'
  unfold scale
  rw [eighth, two, Ideal.log_coe, if_neg (by norm_num), Ideal.div_coe h, EReal.coe_mul]

/-- The packed keys of half `p` at a lane of that half, and at a lane of the other. -/
theorem arrK_half (g : Fin 4) (p : Fin 2) (r : Fin 17408) (d : Fin 128) :
    arrK m c (ix4 g p r d) = if d.val / 64 = p.val then argK m c (ix2 r ⟨64 * g.val + d.val % 64, by omega⟩) else 0 := by
  match p with
  | 0 =>
    rw [prepK0]
    by_cases h : d.val < 64
    · rw [if_pos h, if_pos (by show _ = 0; omega)]
    · rw [if_neg h, if_neg (by show ¬ _ = 0; omega)]
  | 1 =>
    rw [prepK1]
    by_cases h : d.val < 64
    · rw [if_pos h, if_neg (by show ¬ _ = 1; omega)]
    · rw [if_neg h, if_pos (by show _ = 1; omega)]

/-- The packed values of half `p` at a lane of that half. -/
theorem arrV_half (g : Fin 4) (p : Fin 2) (r : Fin 17408) (l : Fin 128) (h : l.val / 64 = p.val) :
    arrV m c (ix4 g p l r) = argV m c (ix2 r ⟨64 * g.val + l.val % 64, by omega⟩) := by
  match p, h with
  | 0, h => rw [prepV0, if_pos (by have : l.val / 64 = 0 := h; omega)]
  | 1, h => rw [prepV1, if_neg (by have : l.val / 64 = 1 := h; omega)]

theorem arrV_one0 (g : Fin 4) (r : Fin 17408) : arrV m c (ix4 g 0 127 r) = 1 := by
  rw [prepV0, if_neg (by decide), if_pos (by decide)]

theorem arrV_one1 (g : Fin 4) (r : Fin 17408) : arrV m c (ix4 g 1 0 r) = 1 := by
  rw [prepV1, if_pos (by decide), if_pos (by decide)]

/-- A dot product over 128 lanes with one half zero is a dot product over the other half. -/
theorem half_sum (p : Fin 2) (k : Fin 64 → EReal) (q : Fin 128 → EReal) :
    ∑ d : Fin 128, (if d.val / 64 = p.val then k ⟨d.val % 64, by omega⟩ else 0) * q d
      = ∑ d : Fin 64, k d * q ⟨64 * p.val + d.val, by omega⟩ := by
  refine (Fin.sum_univ_add (a := 64) (b := 64) (fun d : Fin 128 =>
    (if d.val / 64 = p.val then k ⟨d.val % 64, by omega⟩ else 0) * q d)).trans ?_
  match p with
  | 0 =>
    have h : ∀ d : Fin 64, ¬ (Fin.natAdd 64 d).val / 64 = (0 : Fin 2).val := fun d => by
      show ¬ (64 + d.val) / 64 = 0; omega
    rw [Finset.sum_eq_zero (s := Finset.univ) (f := fun d : Fin 64 =>
      (if (Fin.natAdd 64 d).val / 64 = (0 : Fin 2).val then k ⟨(Fin.natAdd 64 d).val % 64, by omega⟩ else 0) * q (Fin.natAdd 64 d))
      (fun d _ => by rw [if_neg (h d), zero_mul]), add_zero]
    refine Finset.sum_congr rfl fun d _ => ?_
    have hd : (Fin.castAdd 64 d).val / 64 = (0 : Fin 2).val := by show d.val / 64 = 0; omega
    rw [if_pos hd]
    refine congrArg₂ (· * ·) (congrArg k (Fin.ext ?_)) (congrArg q (Fin.ext ?_))
    · show d.val % 64 = d.val; omega
    · show d.val = 64 * 0 + d.val; omega
  | 1 =>
    have h : ∀ d : Fin 64, ¬ (Fin.castAdd 64 d).val / 64 = (1 : Fin 2).val := fun d => by
      show ¬ d.val / 64 = 1; omega
    rw [Finset.sum_eq_zero (s := Finset.univ) (f := fun d : Fin 64 =>
      (if (Fin.castAdd 64 d).val / 64 = (1 : Fin 2).val then k ⟨(Fin.castAdd 64 d).val % 64, by omega⟩ else 0) * q (Fin.castAdd 64 d))
      (fun d _ => by rw [if_neg (h d), zero_mul]), zero_add]
    refine Finset.sum_congr rfl fun d _ => ?_
    have hd : (Fin.natAdd 64 d).val / 64 = (1 : Fin 2).val := by show (64 + d.val) / 64 = 1; omega
    rw [if_pos hd]
    refine congrArg₂ (· * ·) (congrArg k (Fin.ext ?_)) (congrArg q (Fin.ext ?_))
    · show (64 + d.val) % 64 = d.val; omega
    · show 64 + d.val = 64 * 1 + d.val; omega

variable (hq : ∀ i, IsReal (argQ m c i)) (hk : ∀ i, IsReal (argK m c i))

include hq hk in
/-- The quotient the kernel forms for row `R`, column `C` of the result is the specification's value there. -/
theorem quotient_spec (t : Fin cfg0.N) (s : Fin 4) (p : Fin 2) (n : Fin 512) (e one : Fin 128) (he : e.val / 64 = p.val)
    (hone : ∀ r, arrV m c (ix4 (group t) p one r) = 1) (M : ℝ) (R : Fin 16384) (C : Fin 1024)
    (hR : R.val = 1024 * (t.val / 16 * 4 + t.val % 4) + (256 * s.val + n.val % 256))
    (hC : C.val = 256 * (t.val / 4 % 4) + (128 * (n.val / 256) + e.val)) :
    Ideal.div (blockSums (iblk m c 0 t) (iblk m c 1 t) (iblk m c 2 t) (X0_3 m c t) (X0_4 m c t) s p (ix2 e n))
        (blockSums (iblk m c 0 t) (iblk m c 1 t) (iblk m c 2 t) (X0_3 m c t) (X0_4 m c t) s p (ix2 one n))
      = spec (argQ m c) (argK m c) (argV m c) M R C := by
  have ht := t_lt t
  have hb : (⟨R.val / 4096, by omega⟩ : Fin 4) = batch t := Fin.ext (by unfold batch; dsimp only; omega)
  have hD : ∀ k, ∃ D : ℝ, dots (argQ m c) (argK m c) R C (key k) = (D : EReal)
      ∧ score (iblk m c 0 t) (iblk m c 1 t) (X0_3 m c t) s p n k = ((D * (1 / 8 * (1 / Real.log 2)) : ℝ) : EReal) := fun k => by
    obtain ⟨D, h1, h2⟩ := dot_scaled
      (fun d : Fin 64 => argK m c (ix2 (keyRow ⟨R.val / 4096, by omega⟩ (key k)) ⟨64 * (C.val / 256) + d.val, by omega⟩))
      (fun d : Fin 64 => argQ m c (ix2 ⟨R.val, by omega⟩ ⟨64 * (C.val / 64) + d.val, by omega⟩))
      (fun d => hk _) (fun d => hq _) (1 / 8 * (1 / Real.log 2))
    refine ⟨D, h1, ?_⟩
    rw [score_at, ← h2, ← scale_eq]
    simp only [arrK_half]
    refine (half_sum p (fun d => argK m c (ix2 (keyRow (batch t) (key k)) ⟨64 * (group t).val + d.val, by omega⟩)) _).trans ?_
    refine Finset.sum_congr rfl fun d _ => ?_
    rw [hb]
    refine congrArg₂ (· * ·) (congrArg (argK m c) (congrArg₂ ix2 rfl (Fin.ext ?_)))
      (congrArg (· * scale) (congrArg (argQ m c) (congrArg₂ ix2 (Fin.ext ?_) (Fin.ext ?_))))
    · unfold group; dsimp only; omega
    · dsimp only; omega
    · dsimp only; omega
  choose D hdots hscore using hD
  have hl : Real.log 2 ≠ 0 := (Real.log_pos one_lt_two).ne'
  rw [quotient_at _ _ _ _ _ s p n e one _ M hscore (fun k => by rw [value_at]; exact hone _)]
  have hx : ∀ k, ((D k * (1 / 8 * (1 / Real.log 2)) * Real.log 2 : ℝ) : EReal)
      = dots (argQ m c) (argK m c) R C (key k) * Ideal.ofBits .f32 0x3E000000#32 := fun k => by
    rw [hdots, eighth, ← EReal.coe_mul]; congr 1; field_simp
  simp only [hx, value_at]
  unfold spec
  rw [← key.sum_comp, ← key.sum_comp (fun r => Ideal.exp (dots (argQ m c) (argK m c) R C r * Ideal.ofBits .f32 0x3E000000#32 - M))]
  refine Finset.sum_congr rfl fun k _ => ?_
  rw [arrV_half m c _ _ _ _ he, hb]
  refine congrArg (· * _) (congrArg (argV m c) (congrArg₂ ix2 rfl (Fin.ext ?_)))
  unfold group; dsimp only; omega

include hq hk in
theorem cell_spec (t : Fin cfg0.N) (M : ℝ) (r : Fin 1024) (l : Fin 256) (R : Fin 16384) (C : Fin 1024)
    (hR : R.val = 1024 * (t.val / 16 * 4 + t.val % 4) + r.val) (hC : C.val = 256 * (t.val / 4 % 4) + l.val) :
    cell (iblk m c 0 t) (iblk m c 1 t) (iblk m c 2 t) (X0_3 m c t) (X0_4 m c t) r l
      = spec (argQ m c) (argK m c) (argV m c) M R C := by
  unfold cell
  dsimp only
  split
  · exact quotient_spec m c hq hk t _ 0 _ _ _ (by show l.val % 128 / 64 = 0; omega) (arrV_one0 m c _) M R C
      (by dsimp only; omega) (by dsimp only; omega)
  · exact quotient_spec m c hq hk t _ 1 _ _ _ (by show l.val % 128 / 64 = 1; omega) (arrV_one1 m c _) M R C
      (by dsimp only; omega) (by dsimp only; omega)

/-- Eight stored tiles, four row groups by two lane groups, that agree with one function of row and lane. -/
theorem canon_eight (T0 T1 : Fin 4 → Vec Ideal S256x128 .bf16) (G : Fin 1024 → Fin 256 → EReal)
    (h0 : ∀ (s : Fin 4) (n : Fin 256) (l : Fin 128), T0 s (ix2 n l) = G ⟨256 * s.val + n.val, by omega⟩ ⟨l.val, by omega⟩)
    (h1 : ∀ (s : Fin 4) (n : Fin 256) (l : Fin 128), T1 s (ix2 n l) = G ⟨256 * s.val + n.val, by omega⟩ ⟨128 + l.val, by omega⟩)
    (r : Fin 1024) (l : Fin 256) :
    View.canon (Val := Elt Ideal) (e := .bf16)
        [⟨Rect.unit (s := S1024x256) ![768, 128] S256x128.size inb_S1024x256_S256x128_768_128, T1 3⟩,
         ⟨Rect.unit (s := S1024x256) ![768, 0] S256x128.size inb_S1024x256_S256x128_768_0, T0 3⟩,
         ⟨Rect.unit (s := S1024x256) ![512, 128] S256x128.size inb_S1024x256_S256x128_512_128, T1 2⟩,
         ⟨Rect.unit (s := S1024x256) ![512, 0] S256x128.size inb_S1024x256_S256x128_512_0, T0 2⟩,
         ⟨Rect.unit (s := S1024x256) ![256, 128] S256x128.size inb_S1024x256_S256x128_256_128, T1 1⟩,
         ⟨Rect.unit (s := S1024x256) ![256, 0] S256x128.size inb_S1024x256_S256x128_256_0, T0 1⟩,
         ⟨Rect.unit (s := S1024x256) ![0, 128] S256x128.size inb_S1024x256_S256x128_0_128, T1 0⟩,
         ⟨Rect.unit (s := S1024x256) ![0, 0] S256x128.size inb_S1024x256_S256x128_0_0, T0 0⟩] (ix2 r l)
      = G r l := by
  have g0 : ∀ (s : Fin 4) (x : S256x128.Idx) (y : S1024x256.Idx) (ha : (y 0).val = 256 * s.val + (x 0).val)
      (hb : (y 1).val = (x 1).val), T0 s x = G (y 0) (y 1) := fun s x y ha hb => by
    exact (congrArg (T0 s) (eq_ix2 x)).trans ((h0 s (x 0) (x 1)).trans (congrArg₂ G (Fin.ext ha.symm) (Fin.ext hb.symm)))
  have g1 : ∀ (s : Fin 4) (x : S256x128.Idx) (y : S1024x256.Idx) (ha : (y 0).val = 256 * s.val + (x 0).val)
      (hb : (y 1).val = 128 + (x 1).val), T1 s x = G (y 0) (y 1) := fun s x y ha hb => by
    exact (congrArg (T1 s) (eq_ix2 x)).trans ((h1 s (x 0) (x 1)).trans (congrArg₂ G (Fin.ext ha.symm) (Fin.ext hb.symm)))
  refine (View.canon_apply_of_pieces (Val := Elt Ideal) (e := .bf16) (fun y : S1024x256.Idx => G (y 0) (y 1)) _ ?_ _ ?_).trans rfl
  · intro q hq x
    simp only [List.mem_cons, List.not_mem_nil, or_false] at hq
    rcases hq with rfl | rfl | rfl | rfl | rfl | rfl | rfl | rfl
    · exact g1 3 x _ (by show 768 + 1 * (x 0).val = 256 * 3 + (x 0).val; omega) (by show 128 + 1 * (x 1).val = 128 + (x 1).val; omega)
    · exact g0 3 x _ (by show 768 + 1 * (x 0).val = 256 * 3 + (x 0).val; omega) (by show 0 + 1 * (x 1).val = (x 1).val; omega)
    · exact g1 2 x _ (by show 512 + 1 * (x 0).val = 256 * 2 + (x 0).val; omega) (by show 128 + 1 * (x 1).val = 128 + (x 1).val; omega)
    · exact g0 2 x _ (by show 512 + 1 * (x 0).val = 256 * 2 + (x 0).val; omega) (by show 0 + 1 * (x 1).val = (x 1).val; omega)
    · exact g1 1 x _ (by show 256 + 1 * (x 0).val = 256 * 1 + (x 0).val; omega) (by show 128 + 1 * (x 1).val = 128 + (x 1).val; omega)
    · exact g0 1 x _ (by show 256 + 1 * (x 0).val = 256 * 1 + (x 0).val; omega) (by show 0 + 1 * (x 1).val = (x 1).val; omega)
    · exact g1 0 x _ (by show 0 + 1 * (x 0).val = 256 * 0 + (x 0).val; omega) (by show 128 + 1 * (x 1).val = 128 + (x 1).val; omega)
    · exact g0 0 x _ (by show 0 + 1 * (x 0).val = 256 * 0 + (x 0).val; omega) (by show 0 + 1 * (x 1).val = (x 1).val; omega)
  · simp only [List.mem_cons, List.not_mem_nil, or_false, exists_eq_or_imp, exists_eq_left, Rect.mem_set_unit]
    have hr := r.isLt
    have hl := l.isLt
    simp only [Fin.forall_fin_two, ix2]
    simp
    omega

/-- What a point leaves in its output block, element by element. -/
theorem canon_cell (t : Fin cfg0.N) (r : Fin 1024) (l : Fin 256) :
    (outsAt0 m c t : Vec Ideal S1024x256 .bf16) (ix2 r l)
      = cell (iblk m c 0 t) (iblk m c 1 t) (iblk m c 2 t) (X0_3 m c t) (X0_4 m c t) r l := by
  unfold outsAt0
  rw [out_eq]
  exact canon_eight (fun s => tile0 (blockSums (iblk m c 0 t) (iblk m c 1 t) (iblk m c 2 t) (X0_3 m c t) (X0_4 m c t) s 0) (blockSums (iblk m c 0 t) (iblk m c 1 t) (iblk m c 2 t) (X0_3 m c t) (X0_4 m c t) s 1))
    (fun s => tile1 (blockSums (iblk m c 0 t) (iblk m c 1 t) (iblk m c 2 t) (X0_3 m c t) (X0_4 m c t) s 0) (blockSums (iblk m c 0 t) (iblk m c 1 t) (iblk m c 2 t) (X0_3 m c t) (X0_4 m c t) s 1))
    (cell (iblk m c 0 t) (iblk m c 1 t) (iblk m c 2 t) (X0_3 m c t) (X0_4 m c t))
    (fun s n l => tile0_cell _ _ _ _ _ s n l) (fun s n l => tile1_cell _ _ _ _ _ s n l) r l

include hq hk in
/-- The result array after the run. -/
theorem final (M : Fin 16384 → Fin 1024 → ℝ) :
    (dats m 0 c).arrAt 5 cfg0.N
      = fun i : S16384x1024.Idx => spec (argQ m c) (argK m c) (argV m c) (M (i 0) (i 1)) (i 0) (i 1) := by
  refine (dats m 0 c).arrAt_eq_of_covers 5 _ (by decide +kernel) fun t hf y => ?_
  blk_simp
  rw [after0_5]
  revert y
  intro (y : S1024x256.Idx)
  have e0 : ((win0_5.blk t).view.emb y 0).val = win0_5.index t 0 * 1024 + 1 * (y 0).val := rfl
  have e1 : ((win0_5.blk t).view.emb y 1).val = win0_5.index t 1 * 256 + 1 * (y 1).val := rfl
  rw [idx5 t] at e0 e1
  refine (congrArg (outsAt0 m c t : Vec Ideal S1024x256 .bf16) (eq_ix2 y)).trans ((canon_cell m c t (y 0) (y 1)).trans ?_)
  refine cell_spec m c hq hk t _ (y 0) (y 1) _ _ (e0.trans ?_) (e1.trans ?_)
  · show (t.val / 16 * 4 + t.val % 4) * 1024 + 1 * (y 0).val = _; omega
  · show (t.val / 4 % 4) * 256 + 1 * (y 1).val = _; omega

/-- A number below infinity in absolute value is real. -/
theorem real_of_lt (x : Ideal .f32)
    (h : FloatOps.cmpf (F := Ideal) .olt (FloatOps.hostAbsf x) (Ideal.ofBits .f32 0x7F800000#32 : Ideal .f32) = 1#1) : IsReal (x : EReal) := by
  have hx : max (x : EReal) (-x) < ⊤ := by
    have htop : Ideal.ofBits .f32 0x7F800000#32 = ⊤ := by simp [Ideal.ofBits, Ideal.ieee]
    rw [htop] at h
    by_contra hc
    have : FloatOps.cmpf (F := Ideal) (φ := .f32) .olt (FloatOps.hostAbsf x) (⊤ : EReal) = BitVec.ofBool (decide (max (x : EReal) (-x) < ⊤)) := rfl
    rw [this, decide_eq_false hc] at h
    exact absurd h (by decide)
  have h1 : (x : EReal) ≠ ⊤ := (lt_of_le_of_lt (le_max_left _ _) hx).ne
  have h2 : (x : EReal) ≠ ⊥ := fun e => by
    rw [e] at hx
    exact absurd (lt_of_le_of_lt (le_max_right _ _) hx) (by simp)
  exact ⟨(x : EReal).toReal, (EReal.coe_toReal h1 h2).symm⟩

/-- The precondition: every query and every key is real. -/
theorem real_of_pre (h : Cert.Pre_KernelIdeal_finite m) : (∀ i, IsReal (argQ m c i)) ∧ ∀ i, IsReal (argK m c i) := by
  have h := congrFun (h c) (Shape.Idx.first Cert.Pre_finite.Gen.h_S_)
  dsimp only [Cert.Pre_finite.fn] at h
  obtain ⟨hq, hk⟩ := IntOp.andi_eq_one.1 h
  haveI : Subsingleton Cert.Pre_finite.S_.Idx := ⟨fun a b => funext fun d => d.elim0⟩
  exact ⟨fun i => real_of_lt _ (Host.reduce_andi_all _ _ _ _ _ hq i), fun i => real_of_lt _ (Host.reduce_andi_all _ _ _ _ _ hk i)⟩

end Cert.KernelIdeal.Tile

end
-- ==== Proof.Attn.Reference.lean ====
/- The reference at an index: the softmax of the scaled dot products of a query with the context keys and the latent keys
   of its batch element, times the values. -/
module

public import proofs.«01_k».proof.Proof.Gen.ReferenceIdeal.Run
public import proofs.«01_k».proof.Proof.Attn.Softmax
public import Idealize.ShloMosaic.Lib.Tactic.CleanTypes

@[expose] public section

noncomputable section

namespace Cert.ReferenceIdeal.Value

open Cert.ReferenceIdeal Cert.ReferenceIdeal.Gen Idealize.ShloMosaic Idealize.ShloMosaic.TcCoe Idealize.SL.Sem Cert.Attn

set_option maxHeartbeats 4000000
set_option maxRecDepth 65536

/-- The keys (or the values): the 256 context rows of a batch element, then its 4096 latent rows. -/
def joined (k : FVec Ideal S17408x256 .f32) : FVec Ideal S4x4352x4x64 .f32 :=
  concatenate S4x4352x4x64 1
    [⟨S4x256x4x64, shapeCast S4x256x4x64 (extractStridedSlice S1024x256 ![16384, 0] k slices_S17408x256_S1024x256_16384_0) shapeCasts_S1024x256_S4x256x4x64⟩,
     ⟨S4x4096x4x64, shapeCast S4x4096x4x64 (extractStridedSlice S16384x256 ![0, 0] k slices_S17408x256_S16384x256_0_0) shapeCasts_S16384x256_S4x4096x4x64⟩]
    concatenates_S4x256x4x64_S4x4096x4x64_S4x4352x4x64_d1

/-- The scaled scores. -/
def scores (k : FVec Ideal S4x4352x4x64 .f32) (q : FVec Ideal S17408x1024 .f32) : FVec Ideal S4x4x4x4096x4352 .f32 :=
  mulf (transpose S4x4x4x4096x4352 [0, 1, 4, 3, 2]
      (Host.dotGeneral dot_S4x4352x4x64_S4x4096x4x4x64_S4x4x4352x4096x4_3_4_1_13_02_02 none k
        (shapeCast S4x4096x4x4x64 (extractStridedSlice S16384x1024 ![0, 0] q slices_S17408x1024_S16384x1024_0_0) shapeCasts_S16384x1024_S4x4096x4x4x64))
      transposes_S4x4x4352x4096x4_S4x4x4x4096x4352_0_1_4_3_2)
    (broadcastInDim S4x4x4x4096x4352 ![] bcast_S_S4x4x4x4096x4352 (constant S_ .f32 0x3E000000#32))

/-- The greatest score of each query. -/
def greatest (x : FVec Ideal S4x4x4x4096x4352 .f32) : FVec Ideal S4x4x4x4096 .f32 :=
  maximumf (broadcastInDim S4x4x4x4096 ![] bcast_S_S4x4x4x4096 (constant S_ .f32 0xFF800000#32))
    (Host.reduce FloatOps.maximumf x (constant S_ .f32 0xFF800000#32) reducesTo_S4x4x4x4096x4352_S4x4x4x4096_d4 h_S_)

/-- The exponentials. -/
def exps (x : FVec Ideal S4x4x4x4096x4352 .f32) : FVec Ideal S4x4x4x4096x4352 .f32 :=
  Host.exp (subf x (broadcastInDim S4x4x4x4096x4352 ![0, 1, 2, 3, 4] bcast_S4x4x4x4096x1_S4x4x4x4096x4352_0_1_2_3_4
    (broadcastInDim S4x4x4x4096x1 ![0, 1, 2, 3] bcast_S4x4x4x4096_S4x4x4x4096x1_0_1_2_3 (greatest x))))

/-- The exponentials over their sum. -/
def weights (e : FVec Ideal S4x4x4x4096x4352 .f32) : FVec Ideal S4x4x4x4096x4352 .f32 :=
  Host.divf e (broadcastInDim S4x4x4x4096x4352 ![0, 1, 2, 3, 4] bcast_S4x4x4x4096x1_S4x4x4x4096x4352_0_1_2_3_4
    (broadcastInDim S4x4x4x4096x1 ![0, 1, 2, 3] bcast_S4x4x4x4096_S4x4x4x4096x1_0_1_2_3
      (Host.reduceAdd e (constant S_ .f32 0x00000000#32) reducesTo_S4x4x4x4096x4352_S4x4x4x4096_d4 h_S_)))

/-- The values weighted, in rows of heads. -/
def output (v : FVec Ideal S4x4352x4x64 .f32) (p : FVec Ideal S4x4x4x4096x4352 .f32) : FVec Ideal S16384x1024 .bf16 :=
  truncf .bf16 (shapeCast S16384x1024 (transpose S4x4096x4x4x64 [0, 4, 1, 3, 2]
      (Host.dotGeneral dot_S4x4352x4x64_S4x4x4x4096x4352_S4x4x64x4x4096_1_4_3_23_02_01 none v p)
      transposes_S4x4x64x4x4096_S4x4096x4x4x64_0_4_1_3_2) shapeCasts_S4x4096x4x4x64_S16384x1024) bitsLt_bf16_f32

theorem joined_at (k : FVec Ideal S17408x256 .f32) (b : Fin 4) (r : Fin 4352) (g : Fin 4) (d : Fin 64) :
    joined k (ix4 b r g d) = k (ix2 (keyRow b r) ⟨64 * g.val + d.val, by omega⟩) := by
  pointwise [joined]
  unfold keyRow
  split <;> rename_i hr
  · congr 2 <;> apply Fin.ext <;> dsimp only <;> omega
  · congr 2 <;> apply Fin.ext <;> dsimp only <;> omega

theorem scores_at (k : FVec Ideal S4x4352x4x64 .f32) (q : FVec Ideal S17408x1024 .f32) (b g h : Fin 4) (t : Fin 4096) (r : Fin 4352) :
    scores k q (ix5 b g h t r) = (∑ d : Fin 64, k (ix4 b r g d) * q (ix2 ⟨4096 * b.val + t.val, by omega⟩
      ⟨64 * (4 * g.val + h.val) + d.val, by omega⟩)) * Ideal.ofBits .f32 0x3E000000#32 := by
  pointwise [scores]
  refine congrArg (· * _) (Finset.sum_congr rfl fun d _ => congrArg (_ * ·) (congrArg q ?_))
  congr 1 <;> apply Fin.ext <;> dsimp only <;> omega

theorem maximumf_at {s : Shape} (a b : FVec Ideal s .f32) (j : s.Idx) : maximumf a b j = max (a j) (b j) := rfl

theorem real_fold {n : ℕ} [NeZero n] (b : Ideal .f32) (hb : b = (⊥ : EReal)) (f : Fin n → Ideal .f32) (h : ∀ k, IsReal (f k)) :
    IsReal (Finset.fold (FloatOps.maximumf (F := Ideal) (φ := .f32)) b f Finset.univ) := by
  subst hb; exact IsReal.fold h

theorem neg_inf_at (j : S4x4x4x4096.Idx) :
    broadcastInDim S4x4x4x4096 ![] bcast_S_S4x4x4x4096 (constant (F := Ideal) S_ .f32 0xFF800000#32) j = (⊥ : EReal) :=
  ofBits_neg_inf

/-- When the scores are real, so is the greatest. -/
theorem greatest_real (x : FVec Ideal S4x4x4x4096x4352 .f32) (hx : ∀ i, IsReal (x i)) (j : S4x4x4x4096.Idx) :
    IsReal (greatest x j) := by
  unfold greatest
  rw [maximumf_at, neg_inf_at, max_bot_left,
    Host.reduce_eq_fold_single FloatOps.maximumf x _ _ (by decide : S4x4x4x4096x4352.Reduces [4] S4x4x4x4096) h_S_]
  haveI : NeZero (S4x4x4x4096x4352.size 4) := ⟨by decide⟩
  exact real_fold _ ofBits_neg_inf _ fun k => hx _

theorem exps_at (x : FVec Ideal S4x4x4x4096x4352 .f32) (b g h : Fin 4) (t : Fin 4096) (r : Fin 4352) :
    exps x (ix5 b g h t r) = Ideal.exp (x (ix5 b g h t r) - greatest x (ix4 b g h t)) := by
  pointwise [exps]

theorem weights_at (e : FVec Ideal S4x4x4x4096x4352 .f32) (b g h : Fin 4) (t : Fin 4096) (r : Fin 4352) :
    weights e (ix5 b g h t r) = Ideal.div (e (ix5 b g h t r)) (∑ r, e (ix5 b g h t r)) := by
  pointwise [weights]

theorem output_at (v : FVec Ideal S4x4352x4x64 .f32) (p : FVec Ideal S4x4x4x4096x4352 .f32) (R : Fin 16384) (C : Fin 1024) :
    output v p (ix2 R C) = ∑ r : Fin 4352, v (ix4 ⟨R.val / 4096, by omega⟩ r ⟨C.val / 256, by omega⟩ ⟨C.val % 64, by omega⟩)
      * p (ix5 ⟨R.val / 4096, by omega⟩ ⟨C.val / 256, by omega⟩ ⟨C.val / 64 % 4, by omega⟩ ⟨R.val % 4096, by omega⟩ r) := by
  pointwise [output]

/-- The composed vectors at an index, when every query and key is real: for some real number subtracted from every score. -/
theorem output_spec (q : FVec Ideal S17408x1024 .f32) (k v : FVec Ideal S17408x256 .f32) (hq : ∀ i, IsReal (q i))
    (hk : ∀ i, IsReal (k i)) (R : Fin 16384) (C : Fin 1024) :
    ∃ M : ℝ, output (joined v) (weights (exps (scores (joined k) q))) (ix2 R C) = spec q k v M R C := by
  have hx : ∀ i, IsReal (scores (joined k) q i) := by
    intro i
    obtain ⟨b, g, h, t, r, rfl⟩ : ∃ (b g h : Fin 4) (t : Fin 4096) (r : Fin 4352), i = ix5 b g h t r :=
      ⟨i 0, i 1, i 2, i 3, i 4, eq_ix5 i⟩
    rw [scores_at]
    refine IsReal.mul (IsReal.sum fun d => ?_) eighth_real
    rw [joined_at]
    exact IsReal.mul (hk _) (hq _)
  obtain ⟨M, hM⟩ := greatest_real _ hx (ix4 ⟨R.val / 4096, by omega⟩ ⟨C.val / 256, by omega⟩ ⟨C.val / 64 % 4, by omega⟩ ⟨R.val % 4096, by omega⟩)
  refine ⟨M, ?_⟩
  have hs : ∀ r, scores (joined k) q
        (ix5 ⟨R.val / 4096, by omega⟩ ⟨C.val / 256, by omega⟩ ⟨C.val / 64 % 4, by omega⟩ ⟨R.val % 4096, by omega⟩ r)
      = dots q k R C r * Ideal.ofBits .f32 0x3E000000#32 := fun r => by
    rw [scores_at]
    unfold dots
    refine congrArg (· * _) (Finset.sum_congr rfl fun d _ => ?_)
    rw [joined_at]
    refine congrArg (_ * ·) (congrArg _ ?_)
    exact congrArg₂ ix2 (Fin.ext (by dsimp only; omega)) (Fin.ext (by dsimp only; omega))
  rw [output_at]
  simp only [weights_at, exps_at, joined_at, hM, hs]
  rfl

variable (m : (ℓ : Loc nD τ sig) → Buf (Elt Ideal) ℓ) (c : Dev nD)

theorem res_eq : (res_main_v32 m c : FVec Ideal S16384x1024 .bf16)
    = output (joined (m ((c : Thread nD τ).loc main_arg2)))
        (weights (exps (scores (joined (m ((c : Thread nD τ).loc main_arg1))) (m ((c : Thread nD τ).loc main_arg0))))) := by
  unfold res_main_v32 output weights exps greatest scores joined
  rfl

end Cert.ReferenceIdeal.Value

end
-- ==== Proof.Experts.Runs.lean ====
module

public import proofs.«01_k».proof.Proof.Gen.ExpertsIdeal.Skeleton
public import proofs.«01_k».proof.Proof.Gen.ExpertsIdeal.Launch
public import proofs.«01_k».proof.Defs
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.Lib.Pipeline.Quiescent
public import Idealize.ShloMosaic.Lib.Claim

@[expose] public section

set_option maxRecDepth 16384
set_option Elab.async false

noncomputable section

namespace Cert.ExpertsIdeal.Any

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! The experts' kernel body on symbolic buffers, one run for each of the four ways it can go at a tile. -/

variable {F : FTy → Type} [FloatOps F]

/-- The resources the proof works with. -/
abbrev MM (F : FTy → Type) := MT nD τ sig Unit (Elt F) ℕ (UR sig nD τ) ℕ

/-- The table of each tile's expert. -/
abbrev tbM0_0 : Memref sig .tc .smem S144 .i32 := Memref.whole main_arg0
/-- The table of where each expert's tiles end. -/
abbrev tbM0_1 : Memref sig .tc .smem S8 .i32 := Memref.whole main_arg1
/-- The kept gate and up weights. -/
abbrev scM0_0 : Memref sig .tc .vmem S1024x2816 .bf16 := Memref.whole cc0_scratch0
/-- The kept down weights. -/
abbrev scM0_1 : Memref sig .tc .vmem S1408x1024 .bf16 := Memref.whole cc0_scratch1

/-- The expert of the tile at `i`, as the body reads it. -/
abbrev thisW (i : grid0.Coords) (T0 : S144.Idx → BitVec 32) : BitVec 32 :=
  View.readAt (Elt F) (tbM0_0).view (Rect.unit (s := S144) (k0_off1 i) S1.size (k0_off1_inb i)).toLoadRect T0 (Shape.Idx.first (numel1_S1.symm ▸ Nat.one_pos))

/-- The expert of the tile before it. -/
abbrev prevW (i : grid0.Coords) (T0 : S144.Idx → BitVec 32) : BitVec 32 :=
  View.readAt (Elt F) (tbM0_0).view (Rect.unit (s := S144) (k0_off2 i) S1.size (k0_off2_inb i)).toLoadRect T0 (Shape.Idx.first (numel1_S1.symm ▸ Nat.one_pos))

/-- The body loads the weights afresh: the tile is the first, or its expert is not the one of the tile before. -/
abbrev loadsW (i : grid0.Coords) (T0 : S144.Idx → BitVec 32) : Prop :=
  (Scalar.cmpi .ne (Scalar.extui (Scalar.ori (Scalar.cmpi .eq (BitVec.ofNat 32 (i 0).val) 0#32) (Scalar.cmpi .ne (thisW (F := F) i T0) (prevW (F := F) i T0)))) 0#32) = 1#1

/-- One past the last tile that belongs to an expert, as the body reads it. -/
abbrev lastW (T1 : S8.Idx → BitVec 32) : BitVec 32 :=
  View.readAt (Elt F) (tbM0_1).view (Rect.unit (s := S8) ![7] S1.size inb_S8_S1_7).toLoadRect T1 (Shape.Idx.first (numel1_S1.symm ▸ Nat.one_pos))

/-- A staging buffer of the result, through which its contents are stated. -/
abbrev VO0_3 : View sig .tc .vmem S256x1024 .f32 := (Memref.whole cc0_stg3_0 : Memref sig .tc .vmem S256x1024 .f32).view

set_option backward.proofsInPublic true in
set_option maxHeartbeats 8000000 in
/-- The body at a tile that loads the weights and computes: the pieces it stores into the result's buffer, what it leaves in the two weight
    buffers, and the triple that says so, from any contents of the buffers it reads. -/
noncomputable def kernelRun0_A (c : Dev nD) (i : grid0.Coords) (arg3 : Memref sig .tc .vmem S256x1024 .f32) (harg3 : arg3.IsWhole) (arg4 : Memref sig .tc .vmem S1x1024x2816 .f32) (harg4 : arg4.IsWhole) (arg5 : Memref sig .tc .vmem S1x1408x1024 .f32) (harg5 : arg5.IsWhole) (arg6 : Memref sig .tc .vmem S256x1024 .f32) (harg6 : arg6.IsWhole) (T0 : (S144.Idx → Elt F .i32)) (T1 : (S8.Idx → Elt F .i32))
     (x0 : (S256x1024.Idx → Elt F .f32)) (x1 : (S1x1024x2816.Idx → Elt F .f32)) (x2 : (S1x1408x1024.Idx → Elt F .f32)) (hc0 : loadsW (F := F) i T0) (k0_h2 : k0_cond2 i (lastW (F := F) T1) = 1#1) (k0_h3 : ¬(k0_cond3 i (lastW (F := F) T1) = 1#1)) :
    Σ' (out0 : List (View.Piece (Elt F) S256x1024 .f32)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp (MM F)),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (scM0_0.view.loc (c : Thread nD τ) ↦{fullShare} xa0)
          ∗ (scM0_1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 scM0_0 (Memref.isWhole_whole _) scM0_1 (Memref.isWhole_whole _)) K } :=
  ⟨_, _, _, fun (xa0 : Buf (Elt F) ((c : Thread nD τ).loc cc0_scratch0)) (xa1 : Buf (Elt F) ((c : Thread nD τ).loc cc0_scratch1)) K => by
    unfold owns
    rw [cc0_moe_experts_eq_skeleton]; unfold cc0_moe_experts_skel
    iintro ⟨H0, H1, H2, HT0, HT1, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- What it stores there covers the whole buffer. -/
theorem cover0_A_3 (c : Dev nD) (i : grid0.Coords) (arg3 : Memref sig .tc .vmem S256x1024 .f32) (harg3 : arg3.IsWhole) (arg4 : Memref sig .tc .vmem S1x1024x2816 .f32) (harg4 : arg4.IsWhole) (arg5 : Memref sig .tc .vmem S1x1408x1024 .f32) (harg5 : arg5.IsWhole) (arg6 : Memref sig .tc .vmem S256x1024 .f32) (harg6 : arg6.IsWhole) (T0 : (S144.Idx → Elt F .i32)) (T1 : (S8.Idx → Elt F .i32))
     (x0 : (S256x1024.Idx → Elt F .f32)) (x1 : (S1x1024x2816.Idx → Elt F .f32)) (x2 : (S1x1408x1024.Idx → Elt F .f32)) (hc0 : loadsW (F := F) i T0) (k0_h2 : k0_cond2 i (lastW (F := F) T1) = 1#1) (k0_h3 : ¬(k0_cond3 i (lastW (F := F) T1) = 1#1)) (y : S256x1024.Idx) :
    ∃ pc ∈ (kernelRun0_A c i arg3 harg3 arg4 harg4 arg5 harg5 arg6 harg6 T0 T1 x0 x1 x2 hc0 k0_h2 k0_h3).1, y ∈ pc.1.set :=
  View.cover_of_tiledL (kernelRun0_A c i arg3 harg3 arg4 harg4 arg5 harg5 arg6 harg6 T0 T1 x0 x1 x2 hc0 k0_h2 k0_h3).1 S256x1024.size (by sl_kernel_rfl) y

/-- What it leaves in the result's buffer. -/
def out0_A_3 (c : Dev nD) (i : grid0.Coords) (arg3 : Memref sig .tc .vmem S256x1024 .f32) (harg3 : arg3.IsWhole) (arg4 : Memref sig .tc .vmem S1x1024x2816 .f32) (harg4 : arg4.IsWhole) (arg5 : Memref sig .tc .vmem S1x1408x1024 .f32) (harg5 : arg5.IsWhole) (arg6 : Memref sig .tc .vmem S256x1024 .f32) (harg6 : arg6.IsWhole) (T0 : (S144.Idx → Elt F .i32)) (T1 : (S8.Idx → Elt F .i32))
     (x0 : (S256x1024.Idx → Elt F .f32)) (x1 : (S1x1024x2816.Idx → Elt F .f32)) (x2 : (S1x1408x1024.Idx → Elt F .f32)) (hc0 : loadsW (F := F) i T0) (k0_h2 : k0_cond2 i (lastW (F := F) T1) = 1#1) (k0_h3 : ¬(k0_cond3 i (lastW (F := F) T1) = 1#1)) : (S256x1024.Idx → Elt F .f32) :=
  VO0_3.read (Elt F) (VO0_3.writes (Elt F) VO0_3.junk (kernelRun0_A c i arg3 harg3 arg4 harg4 arg5 harg5 arg6 harg6 T0 T1 x0 x1 x2 hc0 k0_h2 k0_h3).1)

set_option backward.proofsInPublic true in
set_option maxHeartbeats 8000000 in
/-- The body at a tile that computes with the weights it kept: the pieces it stores into the result's buffer, what it leaves in the two weight
    buffers, and the triple that says so, from any contents of the buffers it reads. -/
noncomputable def kernelRun0_B (c : Dev nD) (i : grid0.Coords) (arg3 : Memref sig .tc .vmem S256x1024 .f32) (harg3 : arg3.IsWhole) (arg4 : Memref sig .tc .vmem S1x1024x2816 .f32) (harg4 : arg4.IsWhole) (arg5 : Memref sig .tc .vmem S1x1408x1024 .f32) (harg5 : arg5.IsWhole) (arg6 : Memref sig .tc .vmem S256x1024 .f32) (harg6 : arg6.IsWhole) (T0 : (S144.Idx → Elt F .i32)) (T1 : (S8.Idx → Elt F .i32))
     (x0 : (S256x1024.Idx → Elt F .f32)) (x1 : (S1x1024x2816.Idx → Elt F .f32)) (x2 : (S1x1408x1024.Idx → Elt F .f32)) (xa0 : Buf (Elt F) ((c : Thread nD τ).loc cc0_scratch0)) (xa1 : Buf (Elt F) ((c : Thread nD τ).loc cc0_scratch1)) (hc0 : ¬(loadsW (F := F) i T0)) (k0_h2 : k0_cond2 i (lastW (F := F) T1) = 1#1) (k0_h3 : ¬(k0_cond3 i (lastW (F := F) T1) = 1#1)) :
    Σ' (out0 : List (View.Piece (Elt F) S256x1024 .f32)) (out1 : Buf (Elt F) ((c : Thread nD τ).loc cc0_scratch0)), { out2 : Buf (Elt F) ((c : Thread nD τ).loc cc0_scratch1) //
      ∀ (K : PUnit → sProp (MM F)),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (scM0_0.view.loc (c : Thread nD τ) ↦{fullShare} xa0)
          ∗ (scM0_1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 scM0_0 (Memref.isWhole_whole _) scM0_1 (Memref.isWhole_whole _)) K } :=
  ⟨_, _, _, fun K => by
    unfold owns
    rw [cc0_moe_experts_eq_skeleton]; unfold cc0_moe_experts_skel
    iintro ⟨H0, H1, H2, HT0, HT1, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- What it stores there covers the whole buffer. -/
theorem cover0_B_3 (c : Dev nD) (i : grid0.Coords) (arg3 : Memref sig .tc .vmem S256x1024 .f32) (harg3 : arg3.IsWhole) (arg4 : Memref sig .tc .vmem S1x1024x2816 .f32) (harg4 : arg4.IsWhole) (arg5 : Memref sig .tc .vmem S1x1408x1024 .f32) (harg5 : arg5.IsWhole) (arg6 : Memref sig .tc .vmem S256x1024 .f32) (harg6 : arg6.IsWhole) (T0 : (S144.Idx → Elt F .i32)) (T1 : (S8.Idx → Elt F .i32))
     (x0 : (S256x1024.Idx → Elt F .f32)) (x1 : (S1x1024x2816.Idx → Elt F .f32)) (x2 : (S1x1408x1024.Idx → Elt F .f32)) (xa0 : Buf (Elt F) ((c : Thread nD τ).loc cc0_scratch0)) (xa1 : Buf (Elt F) ((c : Thread nD τ).loc cc0_scratch1)) (hc0 : ¬(loadsW (F := F) i T0)) (k0_h2 : k0_cond2 i (lastW (F := F) T1) = 1#1) (k0_h3 : ¬(k0_cond3 i (lastW (F := F) T1) = 1#1)) (y : S256x1024.Idx) :
    ∃ pc ∈ (kernelRun0_B c i arg3 harg3 arg4 harg4 arg5 harg5 arg6 harg6 T0 T1 x0 x1 x2 xa0 xa1 hc0 k0_h2 k0_h3).1, y ∈ pc.1.set :=
  View.cover_of_tiledL (kernelRun0_B c i arg3 harg3 arg4 harg4 arg5 harg5 arg6 harg6 T0 T1 x0 x1 x2 xa0 xa1 hc0 k0_h2 k0_h3).1 S256x1024.size (by sl_kernel_rfl) y

/-- What it leaves in the result's buffer. -/
def out0_B_3 (c : Dev nD) (i : grid0.Coords) (arg3 : Memref sig .tc .vmem S256x1024 .f32) (harg3 : arg3.IsWhole) (arg4 : Memref sig .tc .vmem S1x1024x2816 .f32) (harg4 : arg4.IsWhole) (arg5 : Memref sig .tc .vmem S1x1408x1024 .f32) (harg5 : arg5.IsWhole) (arg6 : Memref sig .tc .vmem S256x1024 .f32) (harg6 : arg6.IsWhole) (T0 : (S144.Idx → Elt F .i32)) (T1 : (S8.Idx → Elt F .i32))
     (x0 : (S256x1024.Idx → Elt F .f32)) (x1 : (S1x1024x2816.Idx → Elt F .f32)) (x2 : (S1x1408x1024.Idx → Elt F .f32)) (xa0 : Buf (Elt F) ((c : Thread nD τ).loc cc0_scratch0)) (xa1 : Buf (Elt F) ((c : Thread nD τ).loc cc0_scratch1)) (hc0 : ¬(loadsW (F := F) i T0)) (k0_h2 : k0_cond2 i (lastW (F := F) T1) = 1#1) (k0_h3 : ¬(k0_cond3 i (lastW (F := F) T1) = 1#1)) : (S256x1024.Idx → Elt F .f32) :=
  VO0_3.read (Elt F) (VO0_3.writes (Elt F) VO0_3.junk (kernelRun0_B c i arg3 harg3 arg4 harg4 arg5 harg5 arg6 harg6 T0 T1 x0 x1 x2 xa0 xa1 hc0 k0_h2 k0_h3).1)

set_option backward.proofsInPublic true in
set_option maxHeartbeats 8000000 in
/-- The body at a tile that loads the weights and writes zeros: the pieces it stores into the result's buffer, what it leaves in the two weight
    buffers, and the triple that says so, from any contents of the buffers it reads. -/
noncomputable def kernelRun0_C (c : Dev nD) (i : grid0.Coords) (arg3 : Memref sig .tc .vmem S256x1024 .f32) (harg3 : arg3.IsWhole) (arg4 : Memref sig .tc .vmem S1x1024x2816 .f32) (harg4 : arg4.IsWhole) (arg5 : Memref sig .tc .vmem S1x1408x1024 .f32) (harg5 : arg5.IsWhole) (arg6 : Memref sig .tc .vmem S256x1024 .f32) (harg6 : arg6.IsWhole) (T0 : (S144.Idx → Elt F .i32)) (T1 : (S8.Idx → Elt F .i32))
     (x0 : (S256x1024.Idx → Elt F .f32)) (x1 : (S1x1024x2816.Idx → Elt F .f32)) (x2 : (S1x1408x1024.Idx → Elt F .f32)) (hc0 : loadsW (F := F) i T0) (k0_h2 : ¬(k0_cond2 i (lastW (F := F) T1) = 1#1)) (k0_h3 : k0_cond3 i (lastW (F := F) T1) = 1#1) :
    Σ' (out0 : List (View.Piece (Elt F) S256x1024 .f32)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp (MM F)),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (scM0_0.view.loc (c : Thread nD τ) ↦{fullShare} xa0)
          ∗ (scM0_1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 scM0_0 (Memref.isWhole_whole _) scM0_1 (Memref.isWhole_whole _)) K } :=
  ⟨_, _, _, fun (xa0 : Buf (Elt F) ((c : Thread nD τ).loc cc0_scratch0)) (xa1 : Buf (Elt F) ((c : Thread nD τ).loc cc0_scratch1)) K => by
    unfold owns
    rw [cc0_moe_experts_eq_skeleton]; unfold cc0_moe_experts_skel
    iintro ⟨H0, H1, H2, HT0, HT1, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(k0_cond2 _ _ = _); exact k0_h2) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- What it stores there covers the whole buffer. -/
theorem cover0_C_3 (c : Dev nD) (i : grid0.Coords) (arg3 : Memref sig .tc .vmem S256x1024 .f32) (harg3 : arg3.IsWhole) (arg4 : Memref sig .tc .vmem S1x1024x2816 .f32) (harg4 : arg4.IsWhole) (arg5 : Memref sig .tc .vmem S1x1408x1024 .f32) (harg5 : arg5.IsWhole) (arg6 : Memref sig .tc .vmem S256x1024 .f32) (harg6 : arg6.IsWhole) (T0 : (S144.Idx → Elt F .i32)) (T1 : (S8.Idx → Elt F .i32))
     (x0 : (S256x1024.Idx → Elt F .f32)) (x1 : (S1x1024x2816.Idx → Elt F .f32)) (x2 : (S1x1408x1024.Idx → Elt F .f32)) (hc0 : loadsW (F := F) i T0) (k0_h2 : ¬(k0_cond2 i (lastW (F := F) T1) = 1#1)) (k0_h3 : k0_cond3 i (lastW (F := F) T1) = 1#1) (y : S256x1024.Idx) :
    ∃ pc ∈ (kernelRun0_C c i arg3 harg3 arg4 harg4 arg5 harg5 arg6 harg6 T0 T1 x0 x1 x2 hc0 k0_h2 k0_h3).1, y ∈ pc.1.set :=
  View.cover_of_tiledL (kernelRun0_C c i arg3 harg3 arg4 harg4 arg5 harg5 arg6 harg6 T0 T1 x0 x1 x2 hc0 k0_h2 k0_h3).1 S256x1024.size (by sl_kernel_rfl) y

/-- What it leaves in the result's buffer. -/
def out0_C_3 (c : Dev nD) (i : grid0.Coords) (arg3 : Memref sig .tc .vmem S256x1024 .f32) (harg3 : arg3.IsWhole) (arg4 : Memref sig .tc .vmem S1x1024x2816 .f32) (harg4 : arg4.IsWhole) (arg5 : Memref sig .tc .vmem S1x1408x1024 .f32) (harg5 : arg5.IsWhole) (arg6 : Memref sig .tc .vmem S256x1024 .f32) (harg6 : arg6.IsWhole) (T0 : (S144.Idx → Elt F .i32)) (T1 : (S8.Idx → Elt F .i32))
     (x0 : (S256x1024.Idx → Elt F .f32)) (x1 : (S1x1024x2816.Idx → Elt F .f32)) (x2 : (S1x1408x1024.Idx → Elt F .f32)) (hc0 : loadsW (F := F) i T0) (k0_h2 : ¬(k0_cond2 i (lastW (F := F) T1) = 1#1)) (k0_h3 : k0_cond3 i (lastW (F := F) T1) = 1#1) : (S256x1024.Idx → Elt F .f32) :=
  VO0_3.read (Elt F) (VO0_3.writes (Elt F) VO0_3.junk (kernelRun0_C c i arg3 harg3 arg4 harg4 arg5 harg5 arg6 harg6 T0 T1 x0 x1 x2 hc0 k0_h2 k0_h3).1)

set_option backward.proofsInPublic true in
set_option maxHeartbeats 8000000 in
/-- The body at a tile that keeps the weights and writes zeros: the pieces it stores into the result's buffer, what it leaves in the two weight
    buffers, and the triple that says so, from any contents of the buffers it reads. -/
noncomputable def kernelRun0_D (c : Dev nD) (i : grid0.Coords) (arg3 : Memref sig .tc .vmem S256x1024 .f32) (harg3 : arg3.IsWhole) (arg4 : Memref sig .tc .vmem S1x1024x2816 .f32) (harg4 : arg4.IsWhole) (arg5 : Memref sig .tc .vmem S1x1408x1024 .f32) (harg5 : arg5.IsWhole) (arg6 : Memref sig .tc .vmem S256x1024 .f32) (harg6 : arg6.IsWhole) (T0 : (S144.Idx → Elt F .i32)) (T1 : (S8.Idx → Elt F .i32))
     (x0 : (S256x1024.Idx → Elt F .f32)) (x1 : (S1x1024x2816.Idx → Elt F .f32)) (x2 : (S1x1408x1024.Idx → Elt F .f32)) (xa0 : Buf (Elt F) ((c : Thread nD τ).loc cc0_scratch0)) (xa1 : Buf (Elt F) ((c : Thread nD τ).loc cc0_scratch1)) (hc0 : ¬(loadsW (F := F) i T0)) (k0_h2 : ¬(k0_cond2 i (lastW (F := F) T1) = 1#1)) (k0_h3 : k0_cond3 i (lastW (F := F) T1) = 1#1) :
    Σ' (out0 : List (View.Piece (Elt F) S256x1024 .f32)) (out1 : Buf (Elt F) ((c : Thread nD τ).loc cc0_scratch0)), { out2 : Buf (Elt F) ((c : Thread nD τ).loc cc0_scratch1) //
      ∀ (K : PUnit → sProp (MM F)),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (scM0_0.view.loc (c : Thread nD τ) ↦{fullShare} xa0)
          ∗ (scM0_1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 scM0_0 (Memref.isWhole_whole _) scM0_1 (Memref.isWhole_whole _)) K } :=
  ⟨_, _, _, fun K => by
    unfold owns
    rw [cc0_moe_experts_eq_skeleton]; unfold cc0_moe_experts_skel
    iintro ⟨H0, H1, H2, HT0, HT1, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact k0_h2) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- What it stores there covers the whole buffer. -/
theorem cover0_D_3 (c : Dev nD) (i : grid0.Coords) (arg3 : Memref sig .tc .vmem S256x1024 .f32) (harg3 : arg3.IsWhole) (arg4 : Memref sig .tc .vmem S1x1024x2816 .f32) (harg4 : arg4.IsWhole) (arg5 : Memref sig .tc .vmem S1x1408x1024 .f32) (harg5 : arg5.IsWhole) (arg6 : Memref sig .tc .vmem S256x1024 .f32) (harg6 : arg6.IsWhole) (T0 : (S144.Idx → Elt F .i32)) (T1 : (S8.Idx → Elt F .i32))
     (x0 : (S256x1024.Idx → Elt F .f32)) (x1 : (S1x1024x2816.Idx → Elt F .f32)) (x2 : (S1x1408x1024.Idx → Elt F .f32)) (xa0 : Buf (Elt F) ((c : Thread nD τ).loc cc0_scratch0)) (xa1 : Buf (Elt F) ((c : Thread nD τ).loc cc0_scratch1)) (hc0 : ¬(loadsW (F := F) i T0)) (k0_h2 : ¬(k0_cond2 i (lastW (F := F) T1) = 1#1)) (k0_h3 : k0_cond3 i (lastW (F := F) T1) = 1#1) (y : S256x1024.Idx) :
    ∃ pc ∈ (kernelRun0_D c i arg3 harg3 arg4 harg4 arg5 harg5 arg6 harg6 T0 T1 x0 x1 x2 xa0 xa1 hc0 k0_h2 k0_h3).1, y ∈ pc.1.set :=
  View.cover_of_tiledL (kernelRun0_D c i arg3 harg3 arg4 harg4 arg5 harg5 arg6 harg6 T0 T1 x0 x1 x2 xa0 xa1 hc0 k0_h2 k0_h3).1 S256x1024.size (by sl_kernel_rfl) y

/-- What it leaves in the result's buffer. -/
def out0_D_3 (c : Dev nD) (i : grid0.Coords) (arg3 : Memref sig .tc .vmem S256x1024 .f32) (harg3 : arg3.IsWhole) (arg4 : Memref sig .tc .vmem S1x1024x2816 .f32) (harg4 : arg4.IsWhole) (arg5 : Memref sig .tc .vmem S1x1408x1024 .f32) (harg5 : arg5.IsWhole) (arg6 : Memref sig .tc .vmem S256x1024 .f32) (harg6 : arg6.IsWhole) (T0 : (S144.Idx → Elt F .i32)) (T1 : (S8.Idx → Elt F .i32))
     (x0 : (S256x1024.Idx → Elt F .f32)) (x1 : (S1x1024x2816.Idx → Elt F .f32)) (x2 : (S1x1408x1024.Idx → Elt F .f32)) (xa0 : Buf (Elt F) ((c : Thread nD τ).loc cc0_scratch0)) (xa1 : Buf (Elt F) ((c : Thread nD τ).loc cc0_scratch1)) (hc0 : ¬(loadsW (F := F) i T0)) (k0_h2 : ¬(k0_cond2 i (lastW (F := F) T1) = 1#1)) (k0_h3 : k0_cond3 i (lastW (F := F) T1) = 1#1) : (S256x1024.Idx → Elt F .f32) :=
  VO0_3.read (Elt F) (VO0_3.writes (Elt F) VO0_3.junk (kernelRun0_D c i arg3 harg3 arg4 harg4 arg5 harg5 arg6 harg6 T0 T1 x0 x1 x2 xa0 xa1 hc0 k0_h2 k0_h3).1)

end Cert.ExpertsIdeal.Any

end
-- ==== Proof.Experts.Tables.lean ====
module

public import proofs.«01_k».proof.Proof.Experts.Runs

@[expose] public section

set_option maxRecDepth 16384
set_option Elab.async false

noncomputable section

namespace Cert.ExpertsIdeal.Any

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! The experts call with any routing tables whose experts exist: the tables, the pipeline at them, and the decisions the body takes at a tile. -/

/-- Routing tables the call may be given: the expert of each tile, which exists, and where each expert's tiles end. -/
structure Tables where
  /-- The expert of each tile. -/
  te : S144.Idx → BitVec 32
  /-- One past the last tile of each expert. -/
  tend : S8.Idx → BitVec 32
  /-- Every tile's expert is one of the eight. -/
  range : ∀ x, (te x).toNat < 8

variable (T : Tables)

/-- The two tables as the launch holds them. -/
def held : pre0.Contents (Elt F) := fun | ⟨0, _⟩ => T.te | ⟨1, _⟩ => T.tend | ⟨_ + 2, h⟩ => absurd h (by simp)

/-- The launch memory holds these tables on every device. -/
def Pinned (m : (ℓ : Loc nD τ sig) → Buf (Elt F) ℓ) : Prop :=
  (∀ c : Dev nD, m ((c : Thread nD τ).loc main_arg0) = T.te)
  ∧ (∀ c : Dev nD, m ((c : Thread nD τ).loc main_arg1) = T.tend)

/-- The gate and up weights of a tile's expert lie inside the stack of eight. -/
theorem inside_gate_up (i : grid0.Coords) : ∀ a, (cc0_transform_1 k0_off1_inb numel1_S1 (held (F := F) T) i a + 1) * S1x1024x2816.size a ≤ S8x1024x2816.size a :=
  fun a => by
    have h : cc0_transform_1 k0_off1_inb numel1_S1 (held (F := F) T) i 0 < 8 := T.range _
    fin_cases a
    · exact (Nat.mul_one _).trans_le h
    · exact (by decide : (0 + 1) * 1024 ≤ 1024)
    · exact (by decide : (0 + 1) * 2816 ≤ 2816)

/-- The down weights of a tile's expert lie inside the stack of eight. -/
theorem inside_down (i : grid0.Coords) : ∀ a, (cc0_transform_2 k0_off1_inb numel1_S1 (held (F := F) T) i a + 1) * S1x1408x1024.size a ≤ S8x1408x1024.size a :=
  fun a => by
    have h : cc0_transform_2 k0_off1_inb numel1_S1 (held (F := F) T) i 0 < 8 := T.range _
    fin_cases a
    · exact (Nat.mul_one _).trans_le h
    · exact (by decide : (0 + 1) * 1408 ≤ 1408)
    · exact (by decide : (0 + 1) * 1024 ≤ 1024)

/-- With such tables every block of every window lies inside its array. -/
theorem held_ok : ok0 (F := F) (held (F := F) T) :=
  ⟨fun i => ⟨inside_gate_up T i, .inl rfl⟩, fun i => ⟨inside_down T i, .inl rfl⟩⟩

/-- The tables as admissible contents of the pipeline. -/
def adm : (pcfg0 (F := F)).Adm := ⟨held (F := F) T, held_ok (F := F) T⟩
/-- The pipeline at these tables. -/
abbrev cfgA : Pipeline.Cfg sig Λ₀ := cfg0 (F := F) (adm (F := F) T)
/-- The program's pipelines at these tables: this one. -/
abbrev pcs : Fin 1 → Pipeline.Cfg sig Λ₀ := Pipeline.pin (pcfgs (F := F)) fun _ => adm (F := F) T

variable (m : (ℓ : Loc nD τ sig) → Buf (Elt F) ℓ) (ρ : Dev nD → PrngReg)

/-- The grid coordinates of a tile. -/
abbrev crd (t : Fin (cfgA (F := F) T).N) : (cfgA (F := F) T).grid.Coords := (cfgA (F := F) T).grid.coords t

/-- The staging buffer the tokens of a tile arrive in. -/
abbrev ms0_0 (t : Fin (cfgA (F := F) T).N) : Memref sig .tc .vmem S256x1024 .f32 := spec0_0.stage ((cfgA (F := F) T).slots t (0 : Fin 4))
/-- It is a whole buffer. -/
abbrev hs0_0 (t : Fin (cfgA (F := F) T).N) : (ms0_0 (F := F) T t).IsWhole := hstage0_0 (((cfgA (F := F) T).slots t (0 : Fin 4)).cast nbuf0_0)
/-- The staging buffer the gate and up weights arrive in. -/
abbrev ms0_1 (t : Fin (cfgA (F := F) T).N) : Memref sig .tc .vmem S1x1024x2816 .f32 := spec0_1.stage ((cfgA (F := F) T).slots t (1 : Fin 4))
/-- It is a whole buffer. -/
abbrev hs0_1 (t : Fin (cfgA (F := F) T).N) : (ms0_1 (F := F) T t).IsWhole := hstage0_1 (((cfgA (F := F) T).slots t (1 : Fin 4)).cast nbuf0_1)
/-- The staging buffer the down weights arrive in. -/
abbrev ms0_2 (t : Fin (cfgA (F := F) T).N) : Memref sig .tc .vmem S1x1408x1024 .f32 := spec0_2.stage ((cfgA (F := F) T).slots t (2 : Fin 4))
/-- It is a whole buffer. -/
abbrev hs0_2 (t : Fin (cfgA (F := F) T).N) : (ms0_2 (F := F) T t).IsWhole := hstage0_2 (((cfgA (F := F) T).slots t (2 : Fin 4)).cast nbuf0_2)
/-- The staging buffer the result leaves from. -/
abbrev ms0_3 (t : Fin (cfgA (F := F) T).N) : Memref sig .tc .vmem S256x1024 .f32 := spec0_3.stage ((cfgA (F := F) T).slots t (3 : Fin 4))
/-- It is a whole buffer. -/
abbrev hs0_3 (t : Fin (cfgA (F := F) T).N) : (ms0_3 (F := F) T t).IsWhole := hstage0_3 (((cfgA (F := F) T).slots t (3 : Fin 4)).cast nbuf0_3)

/-- A window's block at a tile, read off its array at launch. -/
def iblk (c : Dev nD) (w : Fin (cfgA (F := F) T).W) (t : Fin (cfgA (F := F) T).N) : (((cfgA (F := F) T).win w).xblock (crd (F := F) T t)).Idx → Elt F ((cfgA (F := F) T).win w).elt :=
  (((cfgA (F := F) T).win w).blk t).view.read (Elt F) ((s₀ m ρ).mem (((cfgA (F := F) T).win w).arr.view.loc (c : Thread nD τ)))

/-- The body loads the weights afresh at this tile: it is the first, or its expert is not the one of the tile before. -/
abbrev Loads (t : Fin (cfgA (F := F) T).N) : Prop := loadsW (F := F) (crd (F := F) T t) T.te
/-- The word the body compares the tile with: one past the last expert's last tile. -/
abbrev lastEnd : BitVec 32 := lastW (F := F) T.tend
/-- The tile belongs to some expert. -/
abbrev Used (t : Fin (cfgA (F := F) T).N) : Prop := k0_cond2 (crd (F := F) T t) (lastEnd (F := F) T) = 1#1

/-- The kernel's second condition is the negation of its first, whatever word they read. -/
theorem cond3_iff (i : grid0.Coords) (w : BitVec 32) : k0_cond3 i w = 1#1 ↔ ¬k0_cond2 i w = 1#1 := by
  unfold k0_cond2 k0_cond3
  simp only []
  generalize Scalar.cmpi .slt (BitVec.ofNat 32 (i 0).val) w = b
  revert b; decide

/-- A used tile does not take the zero branch. -/
theorem not_zero {t : Fin (cfgA (F := F) T).N} (h : Used (F := F) T t) : ¬k0_cond3 (crd (F := F) T t) (lastEnd (F := F) T) = 1#1 :=
  fun h' => (cond3_iff _ _).1 h' h

/-- A tile that is not used takes the zero branch. -/
theorem is_zero {t : Fin (cfgA (F := F) T).N} (h : ¬Used (F := F) T t) : k0_cond3 (crd (F := F) T t) (lastEnd (F := F) T) = 1#1 := (cond3_iff _ _).2 h

/-- The result's buffer is written at every tile. -/
theorem never_idle (t : Fin (cfgA (F := F) T).N) : (cfgA (F := F) T).idle (3 : Fin 4) ((cfgA (F := F) T).grid.coords t) = false := by
  have h : (!(k0_cond2 (crd (F := F) T t) ((held (F := F) T).atD 1 ![7]) == 1#1) && !(k0_cond3 (crd (F := F) T t) ((held (F := F) T).atD 1 ![7]) == 1#1)) = false := by
    have := cond3_iff (crd (F := F) T t) ((held (F := F) T).atD 1 ![7])
    by_cases h2 : k0_cond2 (crd (F := F) T t) ((held (F := F) T).atD 1 ![7]) = 1#1
    · simp [h2]
    · simp [this.2 h2]
  exact h

/-- The coordinate of a tile is its number. -/
theorem crd_val (t : Fin (cfgA (F := F) T).N) : ((crd (F := F) T t) 0).val = t.val :=
  (by decide +kernel : ∀ t : Fin grid0.N, ((grid0.coords t) 0).val = t.val) t

/-- Every tile's result goes to another block than the next one's, so it is written back at every tile. -/
theorem always_flush (t : Fin (cfgA (F := F) T).N) : ((cfgA (F := F) T).win (3 : Fin 4)).flush t = true :=
  (Pipeline.Window.flush_eq_flushOf _ t).trans
    ((by decide +kernel : ∀ t : Fin grid0.N, Pipeline.Window.flushOf grid0 true cc0_transform_3 t = true) t)

/-- The result's buffer holds nothing of an earlier tile. -/
theorem always_fresh (t : Fin (cfgA (F := F) T).N) : (cfgA (F := F) T).fresh (3 : Fin 4) t.val = true :=
  Pipeline.Cfg.fresh_tab (cfgA (F := F) T) (3 : Fin 4) (fun _ => true) rfl
    (fun t => by rw [always_flush T t, Bool.true_or]) t.val (Nat.le_of_lt t.isLt)

/-- The first tile loads its weights. -/
theorem loads_first {t : Fin (cfgA (F := F) T).N} (h : t.val = 0) : Loads (F := F) T t := by
  unfold Loads loadsW
  rw [show ((crd (F := F) T t) 0).val = 0 from (crd_val T t).trans h]
  generalize thisW (F := F) (crd (F := F) T t) T.te = a
  generalize prevW (F := F) (crd (F := F) T t) T.te = b
  generalize Scalar.cmpi .ne (a : BitVec 32) b = d
  revert d; decide

/-- Before the first tile the weight buffers hold nothing yet. -/
def unset (n : ℕ) : Bool := decide (n ≤ 0)

/-- After a tile they hold something. -/
theorem unset_succ (n : ℕ) : unset (n + 1) = false := decide_eq_false (by omega)

/-- At a tile that does not load the weights they hold something. -/
theorem unset_of_kept {t : Fin (cfgA (F := F) T).N} (h : ¬Loads (F := F) T t) : unset t.val = false :=
  decide_eq_false fun h' => h (loads_first T (by omega))

/-- The run of the body at a tile that loads the weights and computes. -/
abbrev runA (c : Dev nD) (t : Fin (cfgA (F := F) T).N) (q0 : Loads (F := F) T t) (q1 : Used (F := F) T t) :=
  kernelRun0_A c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) T.te T.tend (iblk T m ρ c (0 : Fin 4) t) (iblk T m ρ c (1 : Fin 4) t) (iblk T m ρ c (2 : Fin 4) t) q0 q1 (not_zero T q1)

/-- What it leaves in the result's buffer. -/
abbrev resA (c : Dev nD) (t : Fin (cfgA (F := F) T).N) (q0 : Loads (F := F) T t) (q1 : Used (F := F) T t) : S256x1024.Idx → Elt F .f32 :=
  out0_A_3 c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) T.te T.tend (iblk T m ρ c (0 : Fin 4) t) (iblk T m ρ c (1 : Fin 4) t) (iblk T m ρ c (2 : Fin 4) t) q0 q1 (not_zero T q1)

/-- The run of the body at a tile that loads the weights and writes zeros. -/
abbrev runC (c : Dev nD) (t : Fin (cfgA (F := F) T).N) (q0 : Loads (F := F) T t) (q1 : ¬Used (F := F) T t) :=
  kernelRun0_C c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) T.te T.tend (iblk T m ρ c (0 : Fin 4) t) (iblk T m ρ c (1 : Fin 4) t) (iblk T m ρ c (2 : Fin 4) t) q0 q1 (is_zero T q1)

/-- What it leaves in the result's buffer. -/
abbrev resC (c : Dev nD) (t : Fin (cfgA (F := F) T).N) (q0 : Loads (F := F) T t) (q1 : ¬Used (F := F) T t) : S256x1024.Idx → Elt F .f32 :=
  out0_C_3 c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) T.te T.tend (iblk T m ρ c (0 : Fin 4) t) (iblk T m ρ c (1 : Fin 4) t) (iblk T m ρ c (2 : Fin 4) t) q0 q1 (is_zero T q1)

/-- The run of the body at a tile that computes with the weights it kept. -/
abbrev runB (c : Dev nD) (t : Fin (cfgA (F := F) T).N) (xa0 : Buf (Elt F) ((c : Thread nD τ).loc cc0_scratch0)) (xa1 : Buf (Elt F) ((c : Thread nD τ).loc cc0_scratch1)) (q0 : ¬Loads (F := F) T t) (q1 : Used (F := F) T t) :=
  kernelRun0_B c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) T.te T.tend (iblk T m ρ c (0 : Fin 4) t) (iblk T m ρ c (1 : Fin 4) t) (iblk T m ρ c (2 : Fin 4) t) xa0 xa1 q0 q1 (not_zero T q1)

/-- What it leaves in the result's buffer. -/
abbrev resB (c : Dev nD) (t : Fin (cfgA (F := F) T).N) (xa0 : Buf (Elt F) ((c : Thread nD τ).loc cc0_scratch0)) (xa1 : Buf (Elt F) ((c : Thread nD τ).loc cc0_scratch1)) (q0 : ¬Loads (F := F) T t) (q1 : Used (F := F) T t) : S256x1024.Idx → Elt F .f32 :=
  out0_B_3 c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) T.te T.tend (iblk T m ρ c (0 : Fin 4) t) (iblk T m ρ c (1 : Fin 4) t) (iblk T m ρ c (2 : Fin 4) t) xa0 xa1 q0 q1 (not_zero T q1)

/-- The run of the body at a tile that keeps the weights and writes zeros. -/
abbrev runD (c : Dev nD) (t : Fin (cfgA (F := F) T).N) (xa0 : Buf (Elt F) ((c : Thread nD τ).loc cc0_scratch0)) (xa1 : Buf (Elt F) ((c : Thread nD τ).loc cc0_scratch1)) (q0 : ¬Loads (F := F) T t) (q1 : ¬Used (F := F) T t) :=
  kernelRun0_D c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) T.te T.tend (iblk T m ρ c (0 : Fin 4) t) (iblk T m ρ c (1 : Fin 4) t) (iblk T m ρ c (2 : Fin 4) t) xa0 xa1 q0 q1 (is_zero T q1)

/-- What it leaves in the result's buffer. -/
abbrev resD (c : Dev nD) (t : Fin (cfgA (F := F) T).N) (xa0 : Buf (Elt F) ((c : Thread nD τ).loc cc0_scratch0)) (xa1 : Buf (Elt F) ((c : Thread nD τ).loc cc0_scratch1)) (q0 : ¬Loads (F := F) T t) (q1 : ¬Used (F := F) T t) : S256x1024.Idx → Elt F .f32 :=
  out0_D_3 c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) T.te T.tend (iblk T m ρ c (0 : Fin 4) t) (iblk T m ρ c (1 : Fin 4) t) (iblk T m ρ c (2 : Fin 4) t) xa0 xa1 q0 q1 (is_zero T q1)

end Cert.ExpertsIdeal.Any

end
-- ==== Proof.Experts.Frame.lean ====
module

public import proofs.«01_k».proof.Proof.Experts.Tables

@[expose] public section

set_option maxRecDepth 16384
set_option Elab.async false

noncomputable section

namespace Cert.ExpertsIdeal.Any

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! The experts call with any routing tables whose experts exist: what the buffers hold tile by tile, the body's triple at a tile,
the launch, and the frame: every run ends, nothing faults, the arguments end unchanged and every counter is zero. -/

variable {F : FTy → Type} [FloatOps F]

/-- The resource algebra of the staging buffers. -/
abbrev EP : Emb (UR sig nD τ) (MM F) := emb₁

variable (T : Tables)
variable (m : (ℓ : Loc nD τ sig) → Buf (Elt F) ℓ) (ρ : Dev nD → PrngReg)

/-! ## What the buffers hold after each tile -/

/-- What the result's buffer and the two weight buffers hold. -/
abbrev State (F : FTy → Type) (c : Dev nD) : Type :=
  (S256x1024.Idx → Elt F .f32) × Buf (Elt F) ((c : Thread nD τ).loc cc0_scratch0) × Buf (Elt F) ((c : Thread nD τ).loc cc0_scratch1)

/-- Some contents, of which nothing is known. -/
def blank (c : Dev nD) : State F c :=
  (VO0_3.read (Elt F) VO0_3.junk, scM0_0.view.junk, scM0_1.view.junk)

/-- One tile's step: what the result's buffer and the two weight buffers hold after the body, from what they held before. -/
def step0 (c : Dev nD) (t : Fin (cfgA (F := F) T).N) (prev : State F c) : State F c :=
  if q0 : Loads (F := F) T t then
    if q1 : Used (F := F) T t then
      (resA T m ρ c t q0 q1, (runA T m ρ c t q0 q1).2.1, (runA T m ρ c t q0 q1).2.2.1)
    else
      (resC T m ρ c t q0 q1, (runC T m ρ c t q0 q1).2.1, (runC T m ρ c t q0 q1).2.2.1)
  else
    if q1 : Used (F := F) T t then
      (resB T m ρ c t prev.2.1 prev.2.2 q0 q1, (runB T m ρ c t prev.2.1 prev.2.2 q0 q1).2.1, (runB T m ρ c t prev.2.1 prev.2.2 q0 q1).2.2.1)
    else
      (resD T m ρ c t prev.2.1 prev.2.2 q0 q1, (runD T m ρ c t prev.2.1 prev.2.2 q0 q1).2.1, (runD T m ρ c t prev.2.1 prev.2.2 q0 q1).2.2.1)

/-- What they hold after tile `n`. -/
def traj0 (c : Dev nD) : (n : ℕ) → n < (cfgA (F := F) T).N → State F c
  | 0, h => step0 T m ρ c ⟨0, h⟩ (blank c)
  | n + 1, h => step0 T m ρ c ⟨n + 1, h⟩ (traj0 c n (Nat.lt_of_succ_lt h))

/-- What they held before a tile; anything before the first. -/
def prev0 (c : Dev nD) (t : Fin (cfgA (F := F) T).N) : State F c :=
  if h : t.val = 0 then (blank c) else traj0 T m ρ c (t.val - 1) (by omega)

/-- After a tile the buffers hold its step from what they held before. -/
theorem traj0_eq (c : Dev nD) (t : Fin (cfgA (F := F) T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- The step at a tile that loads the weights and computes. -/
theorem step0_A (c : Dev nD) (t : Fin (cfgA (F := F) T).N) (prev : State F c) (q0 : Loads (F := F) T t) (q1 : Used (F := F) T t) :
    step0 T m ρ c t prev = (resA T m ρ c t q0 q1, (runA T m ρ c t q0 q1).2.1, (runA T m ρ c t q0 q1).2.2.1) := by
  unfold step0; simp only [dif_pos q0, dif_pos q1]

/-- The step at a tile that computes with the weights it kept. -/
theorem step0_B (c : Dev nD) (t : Fin (cfgA (F := F) T).N) (prev : State F c) (q0 : ¬Loads (F := F) T t) (q1 : Used (F := F) T t) :
    step0 T m ρ c t prev = (resB T m ρ c t prev.2.1 prev.2.2 q0 q1, (runB T m ρ c t prev.2.1 prev.2.2 q0 q1).2.1, (runB T m ρ c t prev.2.1 prev.2.2 q0 q1).2.2.1) := by
  unfold step0; simp only [dif_neg q0, dif_pos q1]

/-- The step at a tile that loads the weights and writes zeros. -/
theorem step0_C (c : Dev nD) (t : Fin (cfgA (F := F) T).N) (prev : State F c) (q0 : Loads (F := F) T t) (q1 : ¬Used (F := F) T t) :
    step0 T m ρ c t prev = (resC T m ρ c t q0 q1, (runC T m ρ c t q0 q1).2.1, (runC T m ρ c t q0 q1).2.2.1) := by
  unfold step0; simp only [dif_pos q0, dif_neg q1]

/-- The step at a tile that keeps the weights and writes zeros. -/
theorem step0_D (c : Dev nD) (t : Fin (cfgA (F := F) T).N) (prev : State F c) (q0 : ¬Loads (F := F) T t) (q1 : ¬Used (F := F) T t) :
    step0 T m ρ c t prev = (resD T m ρ c t prev.2.1 prev.2.2 q0 q1, (runD T m ρ c t prev.2.1 prev.2.2 q0 q1).2.1, (runD T m ρ c t prev.2.1 prev.2.2 q0 q1).2.2.1) := by
  unfold step0; simp only [dif_neg q0, dif_neg q1]

/-! ## The pipeline's proof data -/

/-- The same, at a position of the run. -/
def prev0T (c : Dev nD) (t : Fin ((cfgA (F := F) T).N + 1)) : State F c :=
  if h : t.val = 0 then (blank c) else traj0 T m ρ c (t.val - 1) (by omega)

/-- At a tile's start it is what they held before. -/
theorem prev0T_castSucc (c : Dev nD) (t : Fin (cfgA (F := F) T).N) : prev0T T m ρ c t.castSucc = prev0 T m ρ c t := by
  unfold prev0T prev0; simp only [Fin.val_castSucc]
/-- At its end it is what they hold after. -/
theorem prev0T_succ (c : Dev nD) (t : Fin (cfgA (F := F) T).N) : prev0T T m ρ c t.succ = traj0 T m ρ c t.val t.isLt := by
  unfold prev0T; simp only [Fin.val_succ, Nat.add_one_ne_zero, ↓reduceDIte, Nat.add_one_sub_one]

/-- Between tiles: the weight buffers hold what the steps say, and the body keeps its halves of the tables. -/
def Phi (m : (ℓ : Loc nD τ sig) → Buf (Elt F) ℓ) (ρ : Dev nD → PrngReg) (c : Dev nD) (t : Fin ((cfgA (F := F) T).N + 1)) : sProp (MM F) :=
  iprop((∃ a, ⌜unset t.val = false → a = (prev0T T m ρ c t).2.1⌝ ∗ (scM0_0.view.loc (c : Thread nD τ) ↦{fullShare} a)) ∗ (∃ a, ⌜unset t.val = false → a = (prev0T T m ρ c t).2.2⌝ ∗ (scM0_1.view.loc (c : Thread nD τ) ↦{fullShare} a)) ∗ (tbM0_0.view.loc (c : Thread nD τ) ↦{fullShare.right} T.te) ∗ (tbM0_1.view.loc (c : Thread nD τ) ↦{fullShare.right} T.tend))

/-- The proof data of the pipeline. -/
def dats (_ : Fin 1) (c : Dev nD) : Dat τ (Elt F) Unit ℕ (UR sig nD τ) ℕ (cfgA (F := F) T) c where
  A w := (s₀ m ρ).mem (((cfgA (F := F) T).win w).arr.view.loc (c : Thread nD τ))
  after w t := match w with
    | ⟨0, _⟩ => iblk T m ρ c (0 : Fin 4) t
    | ⟨1, _⟩ => iblk T m ρ c (1 : Fin 4) t
    | ⟨2, _⟩ => iblk T m ρ c (2 : Fin 4) t
    | ⟨3, _⟩ => (traj0 T m ρ c t.val t.isLt).1
  Φ t := Phi T m ρ c t
  q _ := fullShare
  owed _ := 0

/-- What this window's buffer holds after a tile. -/
theorem after0_0 (c : Dev nD) (t : Fin (cfgA (F := F) T).N) : (dats T m ρ 0 c).after (0 : Fin 4) t = iblk T m ρ c (0 : Fin 4) t := rfl
/-- What this window's buffer holds after a tile. -/
theorem after0_1 (c : Dev nD) (t : Fin (cfgA (F := F) T).N) : (dats T m ρ 0 c).after (1 : Fin 4) t = iblk T m ρ c (1 : Fin 4) t := rfl
/-- What this window's buffer holds after a tile. -/
theorem after0_2 (c : Dev nD) (t : Fin (cfgA (F := F) T).N) : (dats T m ρ 0 c).after (2 : Fin 4) t = iblk T m ρ c (2 : Fin 4) t := rfl
/-- What this window's buffer holds after a tile. -/
theorem after0_3 (c : Dev nD) (t : Fin (cfgA (F := F) T).N) : (dats T m ρ 0 c).after (3 : Fin 4) t = (traj0 T m ρ c t.val t.isLt).1 := rfl

/-! ## What each window's staging buffer holds when the body runs -/

/-- The body finds this window's block in its buffer. -/
theorem before0_0 (c : Dev nD) (t : Fin (cfgA (F := F) T).N) (d) : (dats T m ρ 0 c).before (0 : Fin 4) t d = iblk T m ρ c (0 : Fin 4) t :=
  ((dats T m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- The body finds this window's block in its buffer. -/
theorem before0_1 (c : Dev nD) (t : Fin (cfgA (F := F) T).N) (d) : (dats T m ρ 0 c).before (1 : Fin 4) t d = iblk T m ρ c (1 : Fin 4) t :=
  ((dats T m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- The body finds this window's block in its buffer. -/
theorem before0_2 (c : Dev nD) (t : Fin (cfgA (F := F) T).N) (d) : (dats T m ρ 0 c).before (2 : Fin 4) t d = iblk T m ρ c (2 : Fin 4) t :=
  ((dats T m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- No tile leaves the result's buffer alone. -/
theorem hcarry0_3 (c : Dev nD) : ∀ (t : Fin (cfgA (F := F) T).N) (ht : t.val ≠ 0), (cfgA (F := F) T).idle (3 : Fin 4) ((cfgA (F := F) T).grid.coords t) = true → (cfgA (F := F) T).fresh (3 : Fin 4) t.val = false →
    (dats T m ρ 0 c).after (3 : Fin 4) t = (dats T m ρ 0 c).after (3 : Fin 4) ⟨t.val - 1, by omega⟩ := by
  intro t ht hi hf
  rw [never_idle (F := F) T t] at hi; exact absurd hi (by decide)

/-- What the result's buffer holds when the body starts. -/
theorem before0_3 (c : Dev nD) (t : Fin (cfgA (F := F) T).N) (d) :
    (dats T m ρ 0 c).before (3 : Fin 4) t d = if (cfgA (F := F) T).fresh (3 : Fin 4) t.val then d else (prev0 T m ρ c t).1 := by
  rw [(dats T m ρ 0 c).before_out_traj (3 : Fin 4) rfl (fun _ _ => rfl) (hcarry0_3 T m ρ c) t.val t rfl d]
  by_cases hf : (cfgA (F := F) T).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body at a tile -/

/-- The body at a tile, on the buffers the pipeline gives it. -/
abbrev bodyAt0 (t : Fin (cfgA (F := F) T).N) : Prog (TpuEff nD τ sig (Elt F) Λ₀ .tc) PUnit :=
  cc0_moe_experts (crd (F := F) T t) (Memref.whole main_arg0) (Memref.isWhole_whole _) (Memref.whole main_arg1) (Memref.isWhole_whole _) (ms0_0 (F := F) T t) (hs0_0 (F := F) T t) (ms0_1 (F := F) T t) (hs0_1 (F := F) T t) (ms0_2 (F := F) T t) (hs0_2 (F := F) T t) (ms0_3 (F := F) T t) (hs0_3 (F := F) T t) (Memref.whole cc0_scratch0) (Memref.isWhole_whole _) (Memref.whole cc0_scratch1) (Memref.isWhole_whole _)

/-- A run of the body at a tile: from the tile's blocks and the weight buffers at `a0`, `a1` it stores the pieces `out` and leaves
    the weight buffers at `o0`, `o1`. -/
abbrev Runs (c : Dev nD) (t : Fin (cfgA (F := F) T).N) (out : List (View.Piece (Elt F) S256x1024 .f32))
    (o0 : Buf (Elt F) ((c : Thread nD τ).loc cc0_scratch0)) (o1 : Buf (Elt F) ((c : Thread nD τ).loc cc0_scratch1))
    (a0 : Buf (Elt F) ((c : Thread nD τ).loc cc0_scratch0)) (a1 : Buf (Elt F) ((c : Thread nD τ).loc cc0_scratch1)) : Prop :=
  ∀ K : PUnit → sProp (MM F),
    iprop(((ms0_0 (F := F) T t).view.loc (c : Thread nD τ) ↦[(ms0_0 (F := F) T t).view.set]{fullShare} (ms0_0 (F := F) T t).view.rep (iblk T m ρ c (0 : Fin 4) t))
      ∗ ((ms0_1 (F := F) T t).view.loc (c : Thread nD τ) ↦[(ms0_1 (F := F) T t).view.set]{fullShare} (ms0_1 (F := F) T t).view.rep (iblk T m ρ c (1 : Fin 4) t))
      ∗ ((ms0_2 (F := F) T t).view.loc (c : Thread nD τ) ↦[(ms0_2 (F := F) T t).view.set]{fullShare} (ms0_2 (F := F) T t).view.rep (iblk T m ρ c (2 : Fin 4) t))
      ∗ (tbM0_0.view.loc (c : Thread nD τ) ↦{fullShare.right} T.te)
      ∗ (tbM0_1.view.loc (c : Thread nD τ) ↦{fullShare.right} T.tend)
      ∗ (∃ d, owns (c : Thread nD τ) (ms0_3 (F := F) T t) fullShare d)
      ∗ (scM0_0.view.loc (c : Thread nD τ) ↦{fullShare} a0)
      ∗ (scM0_1.view.loc (c : Thread nD τ) ↦{fullShare} a1)
      ∗ (iprop(((ms0_0 (F := F) T t).view.loc (c : Thread nD τ) ↦[(ms0_0 (F := F) T t).view.set]{fullShare} (ms0_0 (F := F) T t).view.rep (iblk T m ρ c (0 : Fin 4) t))
          ∗ ((ms0_1 (F := F) T t).view.loc (c : Thread nD τ) ↦[(ms0_1 (F := F) T t).view.set]{fullShare} (ms0_1 (F := F) T t).view.rep (iblk T m ρ c (1 : Fin 4) t))
          ∗ ((ms0_2 (F := F) T t).view.loc (c : Thread nD τ) ↦[(ms0_2 (F := F) T t).view.set]{fullShare} (ms0_2 (F := F) T t).view.rep (iblk T m ρ c (2 : Fin 4) t))
          ∗ (tbM0_0.view.loc (c : Thread nD τ) ↦{fullShare.right} T.te)
          ∗ (tbM0_1.view.loc (c : Thread nD τ) ↦{fullShare.right} T.tend)
          ∗ (∃ f, (ms0_3 (F := F) T t).view.loc (c : Thread nD τ) ↦[(ms0_3 (F := F) T t).view.set]{fullShare} (ms0_3 (F := F) T t).view.writes (Elt F) f out)
          ∗ (scM0_0.view.loc (c : Thread nD τ) ↦{fullShare} o0)
          ∗ (scM0_1.view.loc (c : Thread nD τ) ↦{fullShare} o1)) -∗ K ⟨⟩))
      ⊢ wp frame (wpE (defs₀ (F := F)) Variants.none c none) Set.univ (bodyAt0 (F := F) T t) K

set_option maxHeartbeats 4000000 in
/-- A run that stores the whole result block and agrees with the tile's step, from whatever the weight buffers then hold, gives
    what the pipeline asks. -/
theorem sound_of_run (c : Dev nD) (t : Fin (cfgA (F := F) T).N) (out : List (View.Piece (Elt F) S256x1024 .f32))
    (o0 : Buf (Elt F) ((c : Thread nD τ).loc cc0_scratch0)) (o1 : Buf (Elt F) ((c : Thread nD τ).loc cc0_scratch1))
    (hcover : ∀ y : S256x1024.Idx, ∃ pc ∈ out, y ∈ pc.1.set)
    (hstep : step0 T m ρ c t (prev0 T m ρ c t) = (VO0_3.read (Elt F) (VO0_3.writes (Elt F) VO0_3.junk out), o0, o1))
    (hrun : ∀ a0 a1, (unset t.val = false → a0 = (prev0 T m ρ c t).2.1) → (unset t.val = false → a1 = (prev0 T m ρ c t).2.2) →
      Runs T m ρ c t out o0 o1 a0 a1) :
    iprop((dats T m ρ 0 c).Φ t.castSucc ∗ (dats T m ρ 0 c).owesAt () t.castSucc
        ∗ (∃ d, owns (c : Thread nD τ) (ms0_0 (F := F) T t) fullShare ((dats T m ρ 0 c).before (0 : Fin 4) t d))
        ∗ (∃ d, owns (c : Thread nD τ) (ms0_1 (F := F) T t) fullShare ((dats T m ρ 0 c).before (1 : Fin 4) t d))
        ∗ (∃ d, owns (c : Thread nD τ) (ms0_2 (F := F) T t) fullShare ((dats T m ρ 0 c).before (2 : Fin 4) t d))
        ∗ (∃ d, owns (c : Thread nD τ) (ms0_3 (F := F) T t) fullShare ((dats T m ρ 0 c).before (3 : Fin 4) t d)))
      ⊢ wp frame (wpE (defs₀ (F := F)) Variants.none c none) Set.univ (bodyAt0 (F := F) T t) fun _ =>
          iprop((dats T m ρ 0 c).Φ t.succ ∗ (dats T m ρ 0 c).owesAt () t.succ
            ∗ bigSep Finset.univ fun w : Fin (cfgA (F := F) T).W =>
                match (cfgA (F := F) T).idle w ((cfgA (F := F) T).grid.coords t) with
                | true =>
                  match ((cfgA (F := F) T).win w).flush t with
                  | false => iprop(∃ d, owns (c : Thread nD τ) (((cfgA (F := F) T).win w).stage ((cfgA (F := F) T).slots t w)) fullShare ((dats T m ρ 0 c).before w t d))
                  | true => owns (c : Thread nD τ) (((cfgA (F := F) T).win w).stage ((cfgA (F := F) T).slots t w)) fullShare ((dats T m ρ 0 c).after w t)
                | false => owns (c : Thread nD τ) (((cfgA (F := F) T).win w).stage ((cfgA (F := F) T).slots t w)) fullShare ((dats T m ρ 0 c).after w t)) := by
  rw [bigSep_W0]
  have i3 := never_idle (F := F) T t; have f3 := always_flush (F := F) T t; have fr3 := always_fresh (F := F) T t; have sfn0 := unset_succ t.val
  rewrite [i3]
  simp only [before0_0, before0_1, before0_2, before0_3, after0_0, after0_1, after0_2, after0_3, f3]
  simp only [fr3, Bool.false_eq_true, ↓reduceIte]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi; simp only [prev0T_castSucc, prev0T_succ, traj0_eq, hstep, Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply (hrun a0 a1 ha0 ha1 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  iintro ⟨H0, H1, H2, HT0, HT1, ⟨%e3, H3⟩, HS0, HS1⟩
  isplitl [HS0 HS1 HT0 HT1]
  · isplitl [HS0]
    · iexists _; isplitr; swap
      · iexact HS0
      · ipureintro; intro _; rfl
    isplitl [HS1]
    · iexists _; isplitr; swap
      · iexact HS1
      · ipureintro; intro _; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  unfold owns; iexists _; isplitr; swap
  · iexact H3
  · ipureintro; exact View.read_writes_of_cover _ _ _ _ _ hcover

/-- The body does what the pipeline asks at every tile, whichever of its four ways it goes. -/
theorem sound_body (c : Dev nD) (t : Fin (cfgA (F := F) T).N) :
    iprop((dats T m ρ 0 c).Φ t.castSucc ∗ (dats T m ρ 0 c).owesAt () t.castSucc
        ∗ (∃ d, owns (c : Thread nD τ) (ms0_0 (F := F) T t) fullShare ((dats T m ρ 0 c).before (0 : Fin 4) t d))
        ∗ (∃ d, owns (c : Thread nD τ) (ms0_1 (F := F) T t) fullShare ((dats T m ρ 0 c).before (1 : Fin 4) t d))
        ∗ (∃ d, owns (c : Thread nD τ) (ms0_2 (F := F) T t) fullShare ((dats T m ρ 0 c).before (2 : Fin 4) t d))
        ∗ (∃ d, owns (c : Thread nD τ) (ms0_3 (F := F) T t) fullShare ((dats T m ρ 0 c).before (3 : Fin 4) t d)))
      ⊢ wp frame (wpE (defs₀ (F := F)) Variants.none c none) Set.univ (bodyAt0 (F := F) T t) fun _ =>
          iprop((dats T m ρ 0 c).Φ t.succ ∗ (dats T m ρ 0 c).owesAt () t.succ
            ∗ bigSep Finset.univ fun w : Fin (cfgA (F := F) T).W =>
                match (cfgA (F := F) T).idle w ((cfgA (F := F) T).grid.coords t) with
                | true =>
                  match ((cfgA (F := F) T).win w).flush t with
                  | false => iprop(∃ d, owns (c : Thread nD τ) (((cfgA (F := F) T).win w).stage ((cfgA (F := F) T).slots t w)) fullShare ((dats T m ρ 0 c).before w t d))
                  | true => owns (c : Thread nD τ) (((cfgA (F := F) T).win w).stage ((cfgA (F := F) T).slots t w)) fullShare ((dats T m ρ 0 c).after w t)
                | false => owns (c : Thread nD τ) (((cfgA (F := F) T).win w).stage ((cfgA (F := F) T).slots t w)) fullShare ((dats T m ρ 0 c).after w t)) := by
  by_cases q0 : Loads (F := F) T t
  · by_cases q1 : Used (F := F) T t
    · exact sound_of_run T m ρ c t _ _ _ (cover0_A_3 c _ _ _ _ _ _ _ _ _ _ _ _ _ _ _ _ _) (step0_A T m ρ c t _ q0 q1)
        fun a0 a1 _ _ K => (runA T m ρ c t q0 q1).2.2.2 a0 a1 K
    · exact sound_of_run T m ρ c t _ _ _ (cover0_C_3 c _ _ _ _ _ _ _ _ _ _ _ _ _ _ _ _ _) (step0_C T m ρ c t _ q0 q1)
        fun a0 a1 _ _ K => (runC T m ρ c t q0 q1).2.2.2 a0 a1 K
  · have kept := unset_of_kept (F := F) T q0
    by_cases q1 : Used (F := F) T t
    · exact sound_of_run T m ρ c t _ _ _ (cover0_B_3 c _ _ _ _ _ _ _ _ _ _ _ _ _ _ _ _ _ _ _) (step0_B T m ρ c t _ q0 q1)
        fun a0 a1 h0 h1 K => by rw [h0 kept, h1 kept]; exact (runB T m ρ c t _ _ q0 q1).2.2.2 K
    · exact sound_of_run T m ρ c t _ _ _ (cover0_D_3 c _ _ _ _ _ _ _ _ _ _ _ _ _ _ _ _ _ _ _) (step0_D T m ρ c t _ q0 q1)
        fun a0 a1 h0 h1 K => by rw [h0 kept, h1 kept]; exact (runD T m ρ c t _ _ q0 q1).2.2.2 K

/-- What the pipeline asks of the body. -/
theorem body_obligation (c : Dev nD) : BodyObligation (dats T m ρ 0 c) (defs₀ (F := F)) Variants.none () Set.univ := fun t => by
  rw [bigSep_W0]
  exact sound_body T m ρ c t

/-! ## The launch -/

/-- The resources at launch. -/
def u₀ : UR sig nD τ :=
  initOf (Pipeline.cells (pcs (F := F) T) ((launch0 (F := F)).cellOf_inj fun _ => adm (F := F) T))
    (Pipeline.launchToks (pcs (F := F) T) ((launch0 (F := F)).cellOf_inj fun _ => adm (F := F) T))

/-- The pipeline holds its arrays whole. -/
theorem share_eq (c : Dev nD) (w : Fin (cfgA (F := F) T).W) : (dats T m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MM F))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The tables and the weight buffers give what holds before the first tile. -/
theorem phi0_intro (c : Dev nD) :
    iprop(BI.emp ∗ Pipeline.prefHeld pre0 c (fun _ => fullShare.right) (adm (F := F) T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show unset 0 = true from rfl)) Bool.false_ne_true
  isplitl [HS1]
  · iexists a1; isplitr; swap
    · iexact HS1
    · ipureintro; intro h; exact absurd (h.symm.trans (show unset 0 = true from rfl)) Bool.false_ne_true
  isplitl [HT0]
  · iexact HT0
  iexact HT1

/-- After the last tile the weight buffers are given back. -/
theorem phiN_exit (c : Dev nD) : (dats T m ρ 0 c).Φ (Fin.last (cfgA (F := F) T).N) ⊢ iprop(BI.emp ∗ Pipeline.scopedRest spec0 c) := by
  rw [scopedRest0_eq, show (dats T m ρ 0 c).Φ (Fin.last (cfgA (F := F) T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- At the end every array holds what the pipeline wrote and every table what it held. -/
def QC : PUnit × MemSt nD τ sig (Elt F) → Prop := fun r =>
  ∀ c : Dev nD, (∀ w : Fin (cfgA (F := F) T).W, r.2.mem (((cfgA (F := F) T).win w).arr.view.loc (c : Thread nD τ)) = (dats T m ρ 0 c).arrAt w (cfgA (F := F) T).N)
    ∧ ∀ j, r.2.mem ((c : Thread nD τ).loc (pre0.ref j)) = (adm (F := F) T).1 j

/-- The launch memory holds the tables. -/
theorem V_pre (hp : Pinned T m) (c : Dev nD) (j : Fin 2) : m ((c : Thread nD τ).loc (pre0.ref j)) = (adm (F := F) T).1 j := by
  fin_cases j
  · exact hp.1 c
  · exact hp.2 c

set_option backward.isDefEq.respectTransparency.types false in
set_option maxHeartbeats 4000000 in
/-- Every weakly fair run from a memory that holds these tables ends, with those contents and every counter at zero. -/
theorem run_main_quiescent (hp : Pinned T m) : θ_run (defs (F := F)) (onTc (τ := τ) (main (F := F))) (s₀ m ρ) (fun r => QC T m ρ r ∧ r.2.sem = fun _ => 0) :=
  Pipeline.θ_run_region_noSem_pf_quiescent pcfgs (fun _ => adm (F := F) T) (dats T m ρ) () ((launch0 (F := F)).cellOf_inj fun _ => adm (F := F) T) (0 : Fin 1)
    (launch0 (F := F)).win.to₀ (launch0 (F := F)).pre EP defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs (F := F) T) (dats T m ρ) 0 (launch0 (F := F)).win.arr_inj c (launch0 (F := F)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main (hp : Pinned T m) : θ_run (defs (F := F)) (onTc (τ := τ) (main (F := F))) (s₀ m ρ) (QC T m ρ) :=
  (θ_run defs _ _).mono (fun _ h => h.1) (run_main_quiescent T m ρ hp)

/-- The arguments end unchanged. -/
theorem unchanged (hp : Pinned T m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp.1 c).symm, ((h c).2 1).trans (hp.2 c).symm, ((h c).1 (0 : Fin 4)).trans ((dats T m ρ 0 c).arrAt_in (0 : Fin 4) rfl _), ((h c).1 (1 : Fin 4)).trans ((dats T m ρ 0 c).arrAt_in (1 : Fin 4) rfl _), ((h c).1 (2 : Fin 4)).trans ((dats T m ρ 0 c).arrAt_in (2 : Fin 4) rfl _)⟩) (run_main T m ρ hp)

/-- The result array at the end is the last trajectory's, and the arguments end unchanged. -/
theorem run_blocks (hp : Pinned T m) :
    θ_run (defs (F := F)) (onTc (τ := τ) (main (F := F))) ⟨m, fun _ => 0, ρ⟩ (fun r => ∀ c : Dev nD,
      r.2.mem ((c.tc : Thread nD τ).loc main_v0) = (dats T m ρ 0 c).arrAt (3 : Fin 4) (cfgA (F := F) T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 (3 : Fin 4), h.2 c⟩) (θ_run_and (run_main T m ρ hp) (unchanged T m ρ hp))

/-- Every run ends, nothing faults, the arguments end unchanged and every counter is zero. -/
theorem frame (hp : Pinned T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged T m ρ hp) ((θ_run defs _ _).mono (fun _ h => h.2) (run_main_quiescent T m ρ hp))

end Cert.ExpertsIdeal.Any

end
-- ==== Proof.Experts.Pieces.lean ====
/- What the experts' kernel stores at a tile, for each of the four ways its body can go. -/
module

public import proofs.«01_k».proof.Proof.Experts.Frame
public import Idealize.ShloMosaic.Lib.Pipeline.ValueKit
public import Idealize.ShloMosaic.Lib.Pipeline.ReadBack
public import Idealize.ShloMosaic.Lib.Tactic

@[expose] public section

set_option maxRecDepth 65536

noncomputable section

namespace Cert.ExpertsIdeal.Any

open Cert.ExpertsIdeal Cert.ExpertsIdeal.Gen Idealize.ShloMosaic Idealize.ShloMosaic.TcCoe

variable {F : FTy → Type} [FloatOps F] (T : Tables) (m : (ℓ : Loc nD τ sig) → Buf (Elt F) ℓ) (ρ : Dev nD → PrngReg) (c : Dev nD)

/-- The tokens of a tile. -/
abbrev rows (t : Fin (cfgA (F := F) T).N) : S256x1024.Idx → Elt F .f32 := iblk T m ρ c (0 : Fin 4) t
/-- The gate and up weights of its expert. -/
abbrev gateUp (t : Fin (cfgA (F := F) T).N) : S1x1024x2816.Idx → Elt F .f32 := iblk T m ρ c (1 : Fin 4) t
/-- The down weights of its expert. -/
abbrev down (t : Fin (cfgA (F := F) T).N) : S1x1408x1024.Idx → Elt F .f32 := iblk T m ρ c (2 : Fin 4) t

variable (t : Fin (cfgA (F := F) T).N)
  (a0 : Buf (Elt F) ((c : Thread nD τ).loc cc0_scratch0)) (a1 : Buf (Elt F) ((c : Thread nD τ).loc cc0_scratch1))

/-- A used tile that loads the weights stores the layer at them. -/
theorem resA_eq (q0 : Loads (F := F) T t) (q1 : Used (F := F) T t) :
    resA T m ρ c t q0 q1 = k0_pay3 (rows T m ρ c t) (k0_pay1 (gateUp T m ρ c t)) (k0_pay2 (down T m ρ c t)) := by
  unfold resA out0_A_3
  rw [View.read_writes_junk_eq_canon]
  frame_out
  simp only [View.read_rep]

/-- A used tile that keeps the weights stores the layer at those it kept. -/
theorem resB_eq (q0 : ¬Loads (F := F) T t) (q1 : Used (F := F) T t) :
    resB T m ρ c t a0 a1 q0 q1 = k0_pay3 (rows T m ρ c t) (scM0_0.view.read (Elt F) a0) (scM0_1.view.read (Elt F) a1) := by
  unfold resB out0_B_3
  rw [View.read_writes_junk_eq_canon]
  frame_out
  simp only [View.read_rep]

/-- A tile that is not used stores zeros. -/
theorem resC_eq (q0 : Loads (F := F) T t) (q1 : ¬Used (F := F) T t) : resC T m ρ c t q0 q1 = k0_pay4 (F := F) := by
  unfold resC out0_C_3
  rw [View.read_writes_junk_eq_canon]
  frame_out

/-- The same where it keeps the weights. -/
theorem resD_eq (q0 : ¬Loads (F := F) T t) (q1 : ¬Used (F := F) T t) : resD T m ρ c t a0 a1 q0 q1 = k0_pay4 (F := F) := by
  unfold resD out0_D_3
  rw [View.read_writes_junk_eq_canon]
  frame_out

/-- A tile that loads the weights leaves its expert's gate and up weights. -/
theorem gateUp_A (q0 : Loads (F := F) T t) (q1 : Used (F := F) T t) :
    scM0_0.view.read (Elt F) (runA T m ρ c t q0 q1).2.1 = k0_pay1 (gateUp T m ρ c t) := by
  unfold runA
  frame_open
  rw [View.read_writes_junk_eq_canon]
  frame_out
  simp only [View.read_rep]

/-- It leaves its expert's down weights. -/
theorem down_A (q0 : Loads (F := F) T t) (q1 : Used (F := F) T t) :
    scM0_1.view.read (Elt F) (runA T m ρ c t q0 q1).2.2.1 = k0_pay2 (down T m ρ c t) := by
  unfold runA
  frame_open
  rw [View.read_writes_junk_eq_canon]
  frame_out
  simp only [View.read_rep]

/-- The same where the tile is not used. -/
theorem gateUp_C (q0 : Loads (F := F) T t) (q1 : ¬Used (F := F) T t) :
    scM0_0.view.read (Elt F) (runC T m ρ c t q0 q1).2.1 = k0_pay1 (gateUp T m ρ c t) := by
  unfold runC
  frame_open
  rw [View.read_writes_junk_eq_canon]
  frame_out
  simp only [View.read_rep]

/-- The same where the tile is not used. -/
theorem down_C (q0 : Loads (F := F) T t) (q1 : ¬Used (F := F) T t) :
    scM0_1.view.read (Elt F) (runC T m ρ c t q0 q1).2.2.1 = k0_pay2 (down T m ρ c t) := by
  unfold runC
  frame_open
  rw [View.read_writes_junk_eq_canon]
  frame_out
  simp only [View.read_rep]

/-- The weight buffers hold these weights. -/
def Holds (s : State F c) (g : S1x1024x2816.Idx → Elt F .f32) (d : S1x1408x1024.Idx → Elt F .f32) : Prop :=
  scM0_0.view.read (Elt F) s.2.1 = k0_pay1 g ∧ scM0_1.view.read (Elt F) s.2.2 = k0_pay2 d

/-- What a tile stores, given its expert's weights: the layer if the tile is used, zeros else. -/
def tileOut (x : S256x1024.Idx → Elt F .f32) (g : S1x1024x2816.Idx → Elt F .f32) (d : S1x1408x1024.Idx → Elt F .f32)
    (used : Prop) [Decidable used] : S256x1024.Idx → Elt F .f32 :=
  if used then k0_pay3 x (k0_pay1 g) (k0_pay2 d) else k0_pay4

/-- A step whose three results are the ones meant leaves what the next tile needs. -/
theorem ok_of_eq (s : State F c) {r : S256x1024.Idx → Elt F .f32} {b0 : Buf (Elt F) ((c : Thread nD τ).loc cc0_scratch0)}
    {b1 : Buf (Elt F) ((c : Thread nD τ).loc cc0_scratch1)} (e : step0 T m ρ c t s = (r, b0, b1))
    (hr : r = tileOut (rows T m ρ c t) (gateUp T m ρ c t) (down T m ρ c t) (Used (F := F) T t))
    (h0 : scM0_0.view.read (Elt F) b0 = k0_pay1 (gateUp T m ρ c t)) (h1 : scM0_1.view.read (Elt F) b1 = k0_pay2 (down T m ρ c t)) :
    (step0 T m ρ c t s).1 = tileOut (rows T m ρ c t) (gateUp T m ρ c t) (down T m ρ c t) (Used (F := F) T t)
    ∧ Holds c (step0 T m ρ c t s) (gateUp T m ρ c t) (down T m ρ c t) := by
  rw [e]; exact ⟨hr, h0, h1⟩

/-- One tile's step: if the weight buffers hold the tile's weights wherever it does not load them, then it stores what it should
    and leaves them holding its weights. -/
theorem step_ok (s : State F c) (h : ¬Loads (F := F) T t → Holds c s (gateUp T m ρ c t) (down T m ρ c t)) :
    (step0 T m ρ c t s).1 = tileOut (rows T m ρ c t) (gateUp T m ρ c t) (down T m ρ c t) (Used (F := F) T t)
    ∧ Holds c (step0 T m ρ c t s) (gateUp T m ρ c t) (down T m ρ c t) := by
  by_cases q0 : Loads (F := F) T t
  · by_cases q1 : Used (F := F) T t
    · exact ok_of_eq T m ρ c t s (step0_A T m ρ c t s q0 q1) ((resA_eq T m ρ c t q0 q1).trans (if_pos q1).symm)
        (gateUp_A T m ρ c t q0 q1) (down_A T m ρ c t q0 q1)
    · exact ok_of_eq T m ρ c t s (step0_C T m ρ c t s q0 q1) ((resC_eq T m ρ c t q0 q1).trans (if_neg q1).symm)
        (gateUp_C T m ρ c t q0 q1) (down_C T m ρ c t q0 q1)
  · obtain ⟨h0, h1⟩ := h q0
    by_cases q1 : Used (F := F) T t
    · exact ok_of_eq T m ρ c t s (step0_B T m ρ c t s q0 q1)
        ((resB_eq T m ρ c t _ _ q0 q1).trans ((congrArg₂ (k0_pay3 _) h0 h1).trans (if_pos q1).symm)) h0 h1
    · exact ok_of_eq T m ρ c t s (step0_D T m ρ c t s q0 q1) ((resD_eq T m ρ c t _ _ q0 q1).trans (if_neg q1).symm) h0 h1

end Cert.ExpertsIdeal.Any

end
-- ==== Proof.Experts.Blocks.lean ====
/- What the experts call leaves in its result array: each tile's rows at the weights of the tile's expert, zeros in the tiles
   past the last expert's. -/
module

public import proofs.«01_k».proof.Proof.Experts.Pieces
public import Idealize.ShloMosaic.Lib.Pointwise

@[expose] public section

set_option maxRecDepth 65536

noncomputable section

namespace Cert.ExpertsIdeal.Any

open Cert.ExpertsIdeal Cert.ExpertsIdeal.Gen Idealize.ShloMosaic Idealize.ShloMosaic.TcCoe

variable {F : FTy → Type} [FloatOps F] (T : Tables) (m : (ℓ : Loc nD τ sig) → Buf (Elt F) ℓ) (ρ : Dev nD → PrngReg) (c : Dev nD)

/-- The tokens, one row per slot. -/
abbrev argX : S36864x1024.Idx → Elt F .f32 := m ((c : Thread nD τ).loc main_arg2)
/-- The gate and up weights of the eight experts. -/
abbrev argG : S8x1024x2816.Idx → Elt F .f32 := m ((c : Thread nD τ).loc main_arg3)
/-- The down weights of the eight experts. -/
abbrev argD : S8x1408x1024.Idx → Elt F .f32 := m ((c : Thread nD τ).loc main_arg4)

/-- A tile's number. -/
abbrev no (t : Fin (cfgA (F := F) T).N) : Fin 144 := ⟨t.val, t.isLt⟩

/-- The number of the tile before, the first tile's own for the first. -/
abbrev before (t : Fin (cfgA (F := F) T).N) : Fin 144 := ⟨t.val - 1, Nat.lt_of_le_of_lt (Nat.sub_le _ _) (no T t).isLt⟩

/-- The expert of a tile. -/
def expert (t : Fin 144) : Fin 8 := ⟨(T.te (ix1 t)).toNat, T.range _⟩

theorem off1_at : ∀ t : Fin grid0.N, k0_off1 (grid0.coords t) 0 = t.val := by decide +kernel
theorem off2_at : ∀ t : Fin grid0.N, k0_off2 (grid0.coords t) 0 = t.val - 1 := by decide +kernel
theorem idx0_at : ∀ t : Fin grid0.N, cc0_transform_0 (grid0.coords t) = ![t.val, 0] := by decide +kernel
theorem idx3_at : ∀ t : Fin grid0.N, cc0_transform_3 (grid0.coords t) = ![t.val, 0] := by decide +kernel

/-- The word the body reads as a tile's expert. -/
theorem thisW_at (t : Fin (cfgA (F := F) T).N) : thisW (F := F) (crd (F := F) T t) T.te = T.te (ix1 (no T t)) := by
  refine congrArg T.te (funext fun a => ?_)
  match a with
  | 0 => exact Fin.ext (by show k0_off1 (grid0.coords t) 0 + 1 * 0 = t.val; rw [off1_at]; omega)

/-- The word it reads as the expert of the tile before. -/
theorem prevW_at (t : Fin (cfgA (F := F) T).N) : prevW (F := F) (crd (F := F) T t) T.te = T.te (ix1 (before T t)) := by
  refine congrArg T.te (funext fun a => ?_)
  match a with
  | 0 => exact Fin.ext (by show k0_off2 (grid0.coords t) 0 + 1 * 0 = t.val - 1; rw [off2_at]; omega)

/-- The tokens a tile reads. -/
theorem rows_at (t : Fin (cfgA (F := F) T).N) (r : Fin 256) (k : Fin 1024) :
    rows T m ρ c t (ix2 r k) = argX m c (ix2 ⟨256 * t.val + r.val, by have h : t.val < 144 := t.isLt; omega⟩ k) := by
  refine congrArg (argX m c) (funext fun a => ?_)
  have e := idx0_at t
  match a with
  | 0 => exact Fin.ext (by show cc0_transform_0 (grid0.coords t) 0 * 256 + 1 * r.val = 256 * t.val + r.val; rw [e]; show t.val * 256 + _ = _; omega)
  | 1 => exact Fin.ext (by show cc0_transform_0 (grid0.coords t) 1 * 1024 + 1 * k.val = k.val; rw [e]; show 0 * 1024 + _ = _; omega)

/-- The gate and up weights a tile reads. -/
theorem gateUp_at (t : Fin (cfgA (F := F) T).N) (z : Fin 1) (k : Fin 1024) (n : Fin 2816) :
    gateUp T m ρ c t (ix3 z k n) = argG m c (ix3 (expert T (no T t)) k n) := by
  refine congrArg (argG m c) (funext fun a => ?_)
  have e : (thisW (F := F) (crd (F := F) T t) T.te).toNat = (expert T (no T t)).val := by rw [thisW_at]; rfl
  match a with
  | 0 => exact Fin.ext (by show (thisW (F := F) (crd (F := F) T t) T.te).toNat * 1 + 1 * z.val = (expert T (no T t)).val; rw [e]; omega)
  | 1 => exact Fin.ext (by show 0 * 1024 + 1 * k.val = k.val; omega)
  | 2 => exact Fin.ext (by show 0 * 2816 + 1 * n.val = n.val; omega)

/-- The down weights a tile reads. -/
theorem down_at (t : Fin (cfgA (F := F) T).N) (z : Fin 1) (j : Fin 1408) (d : Fin 1024) :
    down T m ρ c t (ix3 z j d) = argD m c (ix3 (expert T (no T t)) j d) := by
  refine congrArg (argD m c) (funext fun a => ?_)
  have e : (thisW (F := F) (crd (F := F) T t) T.te).toNat = (expert T (no T t)).val := by rw [thisW_at]; rfl
  match a with
  | 0 => exact Fin.ext (by show (thisW (F := F) (crd (F := F) T t) T.te).toNat * 1 + 1 * z.val = (expert T (no T t)).val; rw [e]; omega)
  | 1 => exact Fin.ext (by show 0 * 1408 + 1 * j.val = j.val; omega)
  | 2 => exact Fin.ext (by show 0 * 1024 + 1 * d.val = d.val; omega)

/-- Two words of which neither the tile is first nor they differ are the same. -/
theorem eq_of_kept {a : BitVec 1} {x y : BitVec 32}
    (h : ¬Scalar.cmpi .ne (Scalar.extui (Scalar.ori a (Scalar.cmpi .ne x y)) : BitVec 32) 0#32 = 1#1) : x = y := by
  by_contra hne
  apply h
  have e : Scalar.cmpi .ne x y = 1#1 := by
    show BitVec.ofBool (x != y) = 1#1
    rw [show (x != y) = true from bne_iff_ne.2 hne]; rfl
  rw [e]
  clear h hne e
  revert a; decide

/-- A tile that keeps the weights has the expert of the tile before. -/
theorem expert_kept (n : ℕ) (h : n + 1 < (cfgA (F := F) T).N) (hk : ¬Loads (F := F) T ⟨n + 1, h⟩) :
    expert T (no (F := F) T ⟨n + 1, h⟩) = expert T (no (F := F) T ⟨n, Nat.lt_of_succ_lt h⟩) := by
  have e : thisW (F := F) (crd (F := F) T ⟨n + 1, h⟩) T.te = prevW (F := F) (crd (F := F) T ⟨n + 1, h⟩) T.te := eq_of_kept hk
  rw [thisW_at, prevW_at] at e
  refine Fin.ext ?_
  show (T.te (ix1 (no (F := F) T ⟨n + 1, h⟩))).toNat = (T.te (ix1 (before (F := F) T ⟨n + 1, h⟩))).toNat
  rw [e]

/-- After every tile the result's buffer holds what the tile should store, and the weight buffers its expert's weights. -/
theorem traj_ok : ∀ (n : ℕ) (h : n < (cfgA (F := F) T).N),
    (traj0 T m ρ c n h).1 = tileOut (rows T m ρ c ⟨n, h⟩) (gateUp T m ρ c ⟨n, h⟩) (down T m ρ c ⟨n, h⟩) (Used (F := F) T ⟨n, h⟩)
    ∧ Holds c (traj0 T m ρ c n h) (gateUp T m ρ c ⟨n, h⟩) (down T m ρ c ⟨n, h⟩)
  | 0, h => step_ok T m ρ c ⟨0, h⟩ (blank c) fun q => absurd (loads_first (F := F) T rfl) q
  | n + 1, h => step_ok T m ρ c ⟨n + 1, h⟩ (traj0 T m ρ c n (Nat.lt_of_succ_lt h)) fun q => by
    have ih := (traj_ok n (Nat.lt_of_succ_lt h)).2
    have e := expert_kept (F := F) T n h q
    have eg : gateUp T m ρ c ⟨n + 1, h⟩ = gateUp T m ρ c ⟨n, Nat.lt_of_succ_lt h⟩ := funext fun y => by
      exact (congrArg (gateUp T m ρ c ⟨n + 1, h⟩) (eq_ix3 y)).trans
        ((gateUp_at T m ρ c _ (y 0) (y 1) (y 2)).trans ((congrArg (fun x => argG m c (ix3 x (y 1) (y 2))) e).trans
          ((gateUp_at T m ρ c _ (y 0) (y 1) (y 2)).symm.trans (congrArg (gateUp T m ρ c _) (eq_ix3 y).symm))))
    have ed : down T m ρ c ⟨n + 1, h⟩ = down T m ρ c ⟨n, Nat.lt_of_succ_lt h⟩ := funext fun y => by
      exact (congrArg (down T m ρ c ⟨n + 1, h⟩) (eq_ix3 y)).trans
        ((down_at T m ρ c _ (y 0) (y 1) (y 2)).trans ((congrArg (fun x => argD m c (ix3 x (y 1) (y 2))) e).trans
          ((down_at T m ρ c _ (y 0) (y 1) (y 2)).symm.trans (congrArg (down T m ρ c _) (eq_ix3 y).symm))))
    rw [eg, ed]; exact ih

end Cert.ExpertsIdeal.Any

end
-- ==== Proof.Experts.Layer.lean ====
/- One expert's layer at the extended reals: the gated unit of a token's products with the gate and the up weights, times the
   down weights. -/
module

public import Idealize.ShloMosaic.PureOps.Ideal

@[expose] public section

noncomputable section

namespace Cert.Experts.Layer

open Idealize.ShloMosaic

/-- A token's product with a column of the gate and up weights. -/
def proj (x : Fin 1024 → EReal) (g : Fin 1024 → Fin 2816 → EReal) (n : Fin 2816) : EReal := ∑ k, x k * g k n

/-- The gated unit: the gate times its logistic, times the up product. -/
def gated (x : Fin 1024 → EReal) (g : Fin 1024 → Fin 2816 → EReal) (j : Fin 1408) : EReal :=
  proj x g ⟨j.val, by omega⟩ * Ideal.logistic (proj x g ⟨j.val, by omega⟩) * proj x g ⟨1408 + j.val, by omega⟩

/-- The layer's output at a column. -/
def layer (x : Fin 1024 → EReal) (g : Fin 1024 → Fin 2816 → EReal) (d : Fin 1408 → Fin 1024 → EReal) (n : Fin 1024) : EReal :=
  ∑ j, gated x g j * d j n

end Cert.Experts.Layer

end
-- ==== Proof.Experts.Final.lean ====
/- The experts call's result array at the extended reals. -/
module

public import proofs.«01_k».proof.Proof.Experts.Blocks
public import proofs.«01_k».proof.Proof.Experts.Layer
public import Idealize.ShloMosaic.PureOps.Ideal
public import Idealize.ShloMosaic.Lib.WordCmp

@[expose] public section

set_option maxRecDepth 65536

noncomputable section

namespace Cert.ExpertsIdeal.Any

open Cert.ExpertsIdeal Cert.ExpertsIdeal.Gen Idealize.ShloMosaic Idealize.ShloMosaic.TcCoe Cert.Experts.Layer

set_option maxHeartbeats 1000000

/-- The products with the gate and up weights. -/
def prods (x : FVec Ideal S256x1024 .f32) (g : FVec Ideal S1024x2816 .bf16) : FVec Ideal S256x2816 .f32 :=
  matmul dot_S256x1024_S1024x2816_S256x2816_1_0_0_1_n_n none (truncf .bf16 x bitsLt_bf16_f32) g (constant S256x2816 .f32 0x00000000#32)

/-- The gated units. -/
def units (p : FVec Ideal S256x2816 .f32) : FVec Ideal S256x1408 .f32 :=
  mulf (mulf (extractStridedSlice S256x1408 ![0, 0] p slices_S256x2816_o0_0_S256x1408)
      (logistic (extractStridedSlice S256x1408 ![0, 0] p slices_S256x2816_o0_0_S256x1408)))
    (extractStridedSlice S256x1408 ![0, 1408] p slices_S256x2816_o0_1408_S256x1408)

/-- The outputs. -/
def outs (u : FVec Ideal S256x1408 .f32) (d : FVec Ideal S1408x1024 .bf16) : FVec Ideal S256x1024 .f32 :=
  matmul dot_S256x1408_S1408x1024_S256x1024_1_0_0_1_n_n none (truncf .bf16 u bitsLt_bf16_f32) d (constant S256x1024 .f32 0x00000000#32)

theorem prods_at (x : FVec Ideal S256x1024 .f32) (g : FVec Ideal S1024x2816 .bf16) (r : Fin 256) (n : Fin 2816) :
    prods x g (ix2 r n) = ∑ k : Fin 1024, x (ix2 r k) * g (ix2 k n) := by
  pointwise [prods]

theorem units_at (p : FVec Ideal S256x2816 .f32) (r : Fin 256) (j : Fin 1408) :
    units p (ix2 r j) = p (ix2 r ⟨j.val, by omega⟩) * Ideal.logistic (p (ix2 r ⟨j.val, by omega⟩)) * p (ix2 r ⟨1408 + j.val, by omega⟩) := by
  pointwise [units]

theorem outs_at (u : FVec Ideal S256x1408 .f32) (d : FVec Ideal S1408x1024 .bf16) (r : Fin 256) (n : Fin 1024) :
    outs u d (ix2 r n) = ∑ j : Fin 1408, u (ix2 r j) * d (ix2 j n) := by
  pointwise [outs]

theorem pay1_at (g : FVec Ideal S1x1024x2816 .f32) (k : Fin 1024) (n : Fin 2816) : (k0_pay1 (F := Ideal) g (ix2 k n) : EReal) = g (ix3 0 k n) := by
  pointwise [k0_pay1]

theorem pay2_at (d : FVec Ideal S1x1408x1024 .f32) (j : Fin 1408) (n : Fin 1024) : (k0_pay2 (F := Ideal) d (ix2 j n) : EReal) = d (ix3 0 j n) := by
  pointwise [k0_pay2]

theorem pay4_at (r : Fin 256) (n : Fin 1024) : (k0_pay4 : FVec Ideal S256x1024 .f32) (ix2 r n) = (0 : EReal) := by
  pointwise [k0_pay4]

/-- What a used tile stores, at a row and a column. -/
theorem pay3_at (x : FVec Ideal S256x1024 .f32) (g : FVec Ideal S1x1024x2816 .f32) (d : FVec Ideal S1x1408x1024 .f32) (r : Fin 256) (n : Fin 1024) :
    (k0_pay3 (F := Ideal) x (k0_pay1 (F := Ideal) g) (k0_pay2 (F := Ideal) d) (ix2 r n) : EReal)
      = layer (fun k => x (ix2 r k)) (fun k n => g (ix3 0 k n)) (fun j n => d (ix3 0 j n)) n := by
  show outs (units (prods x (k0_pay1 g))) (k0_pay2 d) (ix2 r n) = _
  rw [outs_at]
  refine Finset.sum_congr rfl fun j _ => ?_
  rw [units_at, pay2_at, prods_at, prods_at]
  simp only [pay1_at]
  rfl

/-- The tile belongs to some expert: its number is below where the last expert's tiles end. -/
def used (tend : S8.Idx → BitVec 32) (t : Fin 144) : Prop := (BitVec.ofNat 32 t.val).slt (tend (ix1 7)) = true

instance (tend : S8.Idx → BitVec 32) (t : Fin 144) : Decidable (used tend t) := by unfold used; infer_instance

/-- The call's result at a row and a column: the layer of the row's tile's expert, or zero. -/
def result (te : Fin 144 → Fin 8) (tend : S8.Idx → BitVec 32) (x : S36864x1024.Idx → EReal) (g : S8x1024x2816.Idx → EReal)
    (d : S8x1408x1024.Idx → EReal) (R : Fin 36864) (n : Fin 1024) : EReal :=
  if used tend ⟨R.val / 256, by omega⟩ then
    layer (fun k => x (ix2 R k)) (fun k n => g (ix3 (te ⟨R.val / 256, by omega⟩) k n)) (fun j n => d (ix3 (te ⟨R.val / 256, by omega⟩) j n)) n
  else 0

variable (T : Tables) (m : (ℓ : Loc nD τ sig) → Buf (Elt Ideal) ℓ) (ρ : Dev nD → PrngReg) (c : Dev nD)

theorem used_iff (t : Fin (cfgA (F := Ideal) T).N) : Used (F := Ideal) T t ↔ used T.tend (no T t) := by
  have e : lastEnd (F := Ideal) T = T.tend (ix1 7) := by
    refine congrArg T.tend (funext fun a => ?_)
    match a with
    | 0 => rfl
  unfold Used
  rw [e]
  unfold k0_cond2 used
  simp only []
  rw [show ((crd (F := Ideal) T t) 0).val = t.val from crd_val T t]
  show Scalar.cmpi .ne (Scalar.extui (BitVec.ofBool ((BitVec.ofNat 32 t.val).slt (T.tend (ix1 7)))) : BitVec 32) 0#32 = 1#1 ↔ _
  generalize (BitVec.ofNat 32 t.val).slt (T.tend (ix1 7)) = b
  revert b; decide

/-- What a tile stores, at a row and a column. -/
theorem tile_at (t : Fin (cfgA (F := Ideal) T).N) (r : Fin 256) (n : Fin 1024) (R : Fin 36864) (hR : R.val = 256 * t.val + r.val) :
    (tileOut (rows T m ρ c t) (gateUp T m ρ c t) (down T m ρ c t) (Used (F := Ideal) T t) (ix2 r n) : EReal)
      = result (expert T) T.tend (argX m c) (argG m c) (argD m c) R n := by
  have ht : (⟨R.val / 256, by omega⟩ : Fin 144) = no T t := Fin.ext (by show R.val / 256 = t.val; omega)
  unfold tileOut result
  rw [ht]
  by_cases h : Used (F := Ideal) T t
  · rw [if_pos h, if_pos ((used_iff T t).1 h), pay3_at]
    have hR' : R = ⟨256 * t.val + r.val, by omega⟩ := Fin.ext hR
    simp only [rows_at, gateUp_at, down_at, hR']
  · rw [if_neg h, if_neg (fun h' => h ((used_iff T t).2 h')), pay4_at]

/-- The tiles' blocks cover the result. -/
theorem covers : ((cfgA (F := Ideal) T).win (3 : Fin 4)).Covers := by
  refine ⟨fun a => ?_, fun β => ?_⟩
  · match a with
    | 0 => exact (by decide : 0 < 256)
    | 1 => exact (by decide : 0 < 1024)
  · have h0 : (β 0).val < 144 := Nat.lt_of_lt_of_eq (β 0).isLt (show (36864 + 256 - 1) / 256 = 144 by decide)
    have h1 : (β 1).val < 1 := Nat.lt_of_lt_of_eq (β 1).isLt (show (1024 + 1024 - 1) / 1024 = 1 by decide)
    refine ⟨⟨(β 0).val, h0⟩, always_flush (F := Ideal) T _, fun a => ?_⟩
    have e := idx3_at ⟨(β 0).val, h0⟩
    match a with
    | 0 => exact ⟨congrFun e 0, .inl rfl⟩
    | 1 => exact ⟨(congrFun e 1).trans (by show 0 = (β 1).val; omega), .inl rfl⟩

/-- The result array after the run. -/
theorem final : (dats T m ρ 0 c).arrAt (3 : Fin 4) (cfgA (F := Ideal) T).N
    = fun i : S36864x1024.Idx => result (expert T) T.tend (argX m c) (argG m c) (argD m c) (i 0) (i 1) := by
  refine (dats T m ρ 0 c).arrAt_eq_of_covers (3 : Fin 4) _ (covers T) fun t hf y => ?_
  blk_simp
  rw [after0_3]
  revert y
  intro (y : S256x1024.Idx)
  have e := idx3_at t
  let z : S36864x1024.Idx := (((cfgA (F := Ideal) T).win 3).blk t).view.emb y
  have e0 : (z 0).val = 256 * t.val + (y 0).val := by
    show cc0_transform_3 (grid0.coords t) 0 * 256 + 1 * (y 0).val = _
    rw [e]; show t.val * 256 + _ = _; omega
  have e1 : z 1 = (y 1 : Fin 1024) := by
    refine Fin.ext ?_
    show cc0_transform_3 (grid0.coords t) 1 * 1024 + 1 * (y 1).val = _
    rw [e]; show 0 * 1024 + _ = _; omega
  refine Eq.trans ?_ (congrArg (result (expert T) T.tend (argX m c) (argG m c) (argD m c) (z 0)) e1.symm)
  rw [(traj_ok T m ρ c t.val t.isLt).1]
  exact (congrArg (tileOut (rows T m ρ c t) (gateUp T m ρ c t) (down T m ρ c t) (Used (F := Ideal) T t)) (eq_ix2 y)).trans
    (tile_at T m ρ c t (y 0) (y 1) _ e0)

end Cert.ExpertsIdeal.Any

end
-- ==== Proof.Experts.Reference.lean ====
/- The experts' reference at an index: of the eight experts' layers, each weighted by whether the row's tile is that expert's,
   the one of the row's tile remains. -/
module

public import proofs.«01_k».proof.Proof.Gen.ExpertsReferenceIdeal.Run
public import proofs.«01_k».proof.Proof.Experts.Final
public import Idealize.ShloMosaic.Lib.Pointwise
public import Idealize.ShloMosaic.Lib.WordCmp

@[expose] public section

set_option maxRecDepth 65536

noncomputable section

namespace Cert.ExpertsReferenceIdeal.Value

open Cert.ExpertsReferenceIdeal Cert.ExpertsReferenceIdeal.Gen Idealize.ShloMosaic Idealize.ShloMosaic.TcCoe Idealize.SL.Sem Cert.Experts.Layer

set_option maxHeartbeats 1000000

/-- The gate and up weights of one expert are a block of the stack. -/
theorem gateUp_fits (e : Fin 8) : S8x1024x2816.Slices ![e.val, 0, 0] S1x1024x2816 := by revert e; decide

/-- The down weights of one expert are a block of the stack. -/
theorem down_fits (e : Fin 8) : S8x1408x1024.Slices ![e.val, 0, 0] S1x1408x1024 := by revert e; decide

/-- The expert of each row: its tile's. -/
def expertOf (te : IVec S144 32) : IVec S36864 32 :=
  shapeCast _ (broadcastInDim S144x256 ![0] bcast_S144_S144x256_0 te) shapeCasts_S144x256_S36864

/-- Whether each row's tile belongs to some expert. -/
def usedRows (tend : IVec S8 32) : IVec S36864 1 :=
  cmpi .slt (shapeCast _ (broadcastInDim S144x256 ![0] bcast_S144_S144x256_0 (iotaInDim S144 32 0)) shapeCasts_S144x256_S36864)
    (broadcastInDim S36864 ![] bcast_S_S36864 (shapeCast _ (extractStridedSlice S1 ![7] tend slices_S8_S1_7) shapeCasts_S1_S_))

/-- The rows' products with the gate and up weights of an expert. -/
def products (x : FVec Ideal S36864x1024 .f32) (g : FVec Ideal S8x1024x2816 .f32) (e : Fin 8) : FVec Ideal S36864x2816 .f32 :=
  Host.dotGeneral dot_S36864x1024_S1024x2816_S36864x2816_1_0_0_1_n_n none x
    (shapeCast _ (extractStridedSlice S1x1024x2816 ![e.val, 0, 0] g (gateUp_fits e)) shapeCasts_S1x1024x2816_S1024x2816)

/-- The gates among them. -/
def gates (p : FVec Ideal S36864x2816 .f32) : FVec Ideal S36864x1408 .f32 :=
  extractStridedSlice S36864x1408 ![0, 0] p slices_S36864x2816_S36864x1408_0_0

/-- The gated units. -/
def gatedUnits (p : FVec Ideal S36864x2816 .f32) : FVec Ideal S36864x1408 .f32 :=
  mulf (mulf (gates p) (Host.divf (broadcastInDim S36864x1408 ![] bcast_S_S36864x1408 (constant S_ .f32 0x3F800000#32))
      (addf (broadcastInDim S36864x1408 ![] bcast_S_S36864x1408 (constant S_ .f32 0x3F800000#32)) (Host.exp (Host.negf (gates p))))))
    (extractStridedSlice S36864x1408 ![0, 1408] p slices_S36864x2816_S36864x1408_0_1408)

/-- The units' products with the down weights of an expert. -/
def outputs (u : FVec Ideal S36864x1408 .f32) (d : FVec Ideal S8x1408x1024 .f32) (e : Fin 8) : FVec Ideal S36864x1024 .f32 :=
  Host.dotGeneral dot_S36864x1408_S1408x1024_S36864x1024_1_0_0_1_n_n none u
    (shapeCast _ (extractStridedSlice S1x1408x1024 ![e.val, 0, 0] d (down_fits e)) shapeCasts_S1x1408x1024_S1408x1024)

/-- One where the row is an expert's, zero elsewhere. -/
def share (us : IVec S36864 1) (ex : IVec S36864 32) (e : Fin 8) : FVec Ideal S36864x1024 .f32 :=
  broadcastInDim S36864x1024 ![0, 1] bcast_S36864x1_S36864x1024_0_1 (broadcastInDim S36864x1 ![0] bcast_S36864_S36864x1_0
    (uitofp .f32 (andi us (cmpi .eq ex (broadcastInDim S36864 ![] bcast_S_S36864 (constantI S_ 32 (BitVec.ofNat 32 e.val)))))))

/-- What an expert adds to the result. -/
def adds (te : IVec S144 32) (tend : IVec S8 32) (x : FVec Ideal S36864x1024 .f32) (g : FVec Ideal S8x1024x2816 .f32)
    (d : FVec Ideal S8x1408x1024 .f32) (e : Fin 8) : FVec Ideal S36864x1024 .f32 :=
  mulf (share (usedRows tend) (expertOf te) e) (outputs (gatedUnits (products x g e)) d e)

/-- The sum over the experts, from zero. -/
def total (a : Fin 8 → FVec Ideal S36864x1024 .f32) : FVec Ideal S36864x1024 .f32 :=
  addf (addf (addf (addf (addf (addf (addf (addf (broadcastInDim S36864x1024 ![] bcast_S_S36864x1024 (constant S_ .f32 0x00000000#32))
    (a 0)) (a 1)) (a 2)) (a 3)) (a 4)) (a 5)) (a 6)) (a 7)

theorem products_at (x : FVec Ideal S36864x1024 .f32) (g : FVec Ideal S8x1024x2816 .f32) (e : Fin 8) (R : Fin 36864) (n : Fin 2816) :
    products x g e (ix2 R n) = ∑ k : Fin 1024, x (ix2 R k) * g (ix3 e k n) := by
  pointwise [products]

theorem gates_at (p : FVec Ideal S36864x2816 .f32) (R : Fin 36864) (j : Fin 1408) : gates p (ix2 R j) = p (ix2 R ⟨j.val, by omega⟩) := by
  pointwise [gates]

theorem gatedUnits_at (p : FVec Ideal S36864x2816 .f32) (R : Fin 36864) (j : Fin 1408) :
    gatedUnits p (ix2 R j) = p (ix2 R ⟨j.val, by omega⟩) * Ideal.logistic (p (ix2 R ⟨j.val, by omega⟩)) * p (ix2 R ⟨1408 + j.val, by omega⟩) := by
  pointwise [gatedUnits, gates_at]
  rfl

theorem outputs_at (u : FVec Ideal S36864x1408 .f32) (d : FVec Ideal S8x1408x1024 .f32) (e : Fin 8) (R : Fin 36864) (n : Fin 1024) :
    outputs u d e (ix2 R n) = ∑ j : Fin 1408, u (ix2 R j) * d (ix3 e j n) := by
  pointwise [outputs]

theorem expertOf_at (te : IVec S144 32) (R : Fin 36864) : expertOf te (ix1 R) = te (ix1 ⟨R.val / 256, by omega⟩) := by
  pointwise [expertOf]

theorem usedRows_at (tend : IVec S8 32) (R : Fin 36864) :
    usedRows tend (ix1 R) = BitVec.ofBool ((BitVec.ofNat 32 (R.val / 256)).slt (tend (ix1 7))) := by
  pointwise [usedRows]
  rfl

/-- The number of a decision's bit. -/
theorem uitofp_bit (a : BitVec 1) (b : Bool) :
    (FloatOps.uitofp .f32 (IntOp.andi a (BitVec.ofBool b)) : Ideal .f32) = if a = 1#1 ∧ b = true then (1 : EReal) else 0 := by
  rcases (by revert a; decide : a = 0#1 ∨ a = 1#1) with rfl | rfl <;> cases b
  all_goals
    show (((_ : ℕ) : ℝ) : EReal) = _
    simp [IntOp.andi]

theorem share_at (us : IVec S36864 1) (ex : IVec S36864 32) (e : Fin 8) (R : Fin 36864) (n : Fin 1024) :
    share us ex e (ix2 R n) = if us (ix1 R) = 1#1 ∧ ex (ix1 R) = BitVec.ofNat 32 e.val then (1 : EReal) else 0 := by
  pointwise [share]
  refine (uitofp_bit (us (ix1 R)) (ex (ix1 R) == BitVec.ofNat 32 e.val)).trans ?_
  simp only [beq_iff_eq]

theorem total_at (a : Fin 8 → FVec Ideal S36864x1024 .f32) (R : Fin 36864) (n : Fin 1024) :
    total a (ix2 R n) = ∑ e : Fin 8, (a e (ix2 R n) : EReal) := by
  rw [Fin.sum_univ_eight]
  pointwise [total]

theorem adds_at (te : IVec S144 32) (tend : IVec S8 32) (x : FVec Ideal S36864x1024 .f32) (g : FVec Ideal S8x1024x2816 .f32)
    (d : FVec Ideal S8x1408x1024 .f32) (e : Fin 8) (R : Fin 36864) (n : Fin 1024) :
    (adds te tend x g d e (ix2 R n) : EReal)
      = (if usedRows tend (ix1 R) = 1#1 ∧ expertOf te (ix1 R) = BitVec.ofNat 32 e.val then (1 : EReal) else 0)
        * layer (fun k => x (ix2 R k)) (fun k n => g (ix3 e k n)) (fun j n => d (ix3 e j n)) n := by
  have h : (outputs (gatedUnits (products x g e)) d e (ix2 R n) : EReal)
      = layer (fun k => x (ix2 R k)) (fun k n => g (ix3 e k n)) (fun j n => d (ix3 e j n)) n := by
    rw [outputs_at]
    refine Finset.sum_congr rfl fun j _ => ?_
    rw [gatedUnits_at, products_at, products_at]
    rfl
  exact congrArg₂ (fun a b : EReal => a * b) (share_at _ _ e R n) h

open Cert.ExpertsIdeal.Any in
/-- The sum of the weighted layers at an index is the layer of the row's tile's expert, or zero. -/
theorem total_spec (te : IVec S144 32) (ex : Fin 144 → Fin 8) (hte : ∀ t, (te (ix1 t)).toNat = (ex t).val) (tend : IVec S8 32)
    (x : FVec Ideal S36864x1024 .f32) (g : FVec Ideal S8x1024x2816 .f32) (d : FVec Ideal S8x1408x1024 .f32) (R : Fin 36864) (n : Fin 1024) :
    (total (adds te tend x g d) (ix2 R n) : EReal) = result ex tend x g d R n := by
  have hb : ∀ b : Bool, BitVec.ofBool b = 1#1 ↔ b = true := by decide
  have he : ∀ e : Fin 8, te (ix1 ⟨R.val / 256, by omega⟩) = BitVec.ofNat 32 e.val ↔ ex ⟨R.val / 256, by omega⟩ = e := fun e => by
    rw [← BitVec.toNat_inj, hte, BitVec.toNat_ofNat, Nat.mod_eq_of_lt (by omega), Fin.ext_iff]
  rw [total_at]
  simp only [adds_at, usedRows_at, expertOf_at, hb, he]
  unfold result used
  by_cases hu : (BitVec.ofNat 32 (R.val / 256)).slt (tend (ix1 7)) = true
  · simp only [hu, true_and, ite_mul, one_mul, zero_mul, Finset.sum_ite_eq, Finset.mem_univ, if_true]
  · simp only [hu, Bool.false_eq_true, false_and, if_false, zero_mul, Finset.sum_const_zero]

variable (m : (ℓ : Loc nD τ sig) → Buf (Elt Ideal) ℓ) (c : Dev nD)

/-- The printed result is the sum. -/
theorem run_total (ρ : Dev nD → PrngReg) :
    θ_run defs (onTc (τ := τ) (main (F := Ideal))) ⟨m, fun _ => 0, ρ⟩ fun r => ∀ c : Dev nD,
      r.2.mem ((c.tc : Thread nD τ).loc main_v153)
          = total (adds (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run (F := Ideal) m ρ)
  unfold res_main_v99 res_main_v1 res_main_v8 res_main_v13 res_main_v31 res_main_v49 res_main_v67 res_main_v85 res_main_v103 res_main_v121
    res_main_v139 res_main_v12 res_main_v30 res_main_v48 res_main_v66 res_main_v84 res_main_v102 res_main_v120 res_main_v138
  rfl

end Cert.ExpertsReferenceIdeal.Value

end
-- ==== Proof.Experts.Precondition.lean ====
/- The precondition of the experts call: every tile's expert is one of the eight. -/
module

public import proofs.«01_k».proof.Proof.Gen.Pre_experts_exist
public import proofs.«01_k».proof.Proof.Experts.Tables
public import Idealize.ShloMosaic.Lib.ReduceAll
public import Idealize.ShloMosaic.Lib.WordCmp

@[expose] public section

noncomputable section

namespace Cert.ExpertsIdeal.Any

open Cert.ExpertsIdeal Cert.ExpertsIdeal.Gen Idealize.ShloMosaic Idealize.ShloMosaic.TcCoe

/-- A word from zero up to eight, read as signed, is below eight. -/
theorem word_lt {w : BitVec 32} (h0 : (0#32).sle w = true) (h8 : w.slt 8#32 = true) : w.toNat < 8 := by
  have h0 : (0 : ℤ) ≤ w.toInt := by simpa [BitVec.sle] using h0
  have h8 : w.toInt < 8 := by simpa [BitVec.slt] using h8
  rw [BitVec.toInt_eq_toNat_cond] at h0 h8
  split at h0 <;> omega

variable {F : FTy → Type} [FloatOps F]

/-- The precondition read at one tile. -/
theorem word_of_pre {te : IVec Cert.Pre_experts_exist.S144 32} {tend : IVec Cert.Pre_experts_exist.S8 32}
    {x : FVec F Cert.Pre_experts_exist.S36864x1024 .f32} {g : FVec F Cert.Pre_experts_exist.S8x1024x2816 .f32}
    {d : FVec F Cert.Pre_experts_exist.S8x1408x1024 .f32}
    (h : Cert.Pre_experts_exist.fn te tend x g d = fun _ => 1#1) (i : Cert.Pre_experts_exist.S144.Idx) : (te i).toNat < 8 := by
  have h := congrFun h (Shape.Idx.first Cert.Pre_experts_exist.Gen.h_S_)
  dsimp only [Cert.Pre_experts_exist.fn] at h
  haveI : Subsingleton Cert.Pre_experts_exist.S_.Idx := ⟨fun a b => funext fun d => d.elim0⟩
  obtain ⟨h0, h8⟩ := IntOp.andi_eq_one.1 (Host.reduce_andi_all _ _ _ _ _ h i)
  have hb : ∀ b : Bool, BitVec.ofBool b = 1#1 → b = true := by decide
  exact word_lt (hb _ h0) (hb _ h8)

variable (m : (ℓ : Loc nD τ sig) → Buf (Elt F) ℓ)
  (h : ∀ c : Dev nD, Cert.Pre_experts_exist.fn (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1)

/-- The tables of a launch memory that meets the precondition. -/
def tablesOf : Tables :=
  ⟨m (((0 : Dev nD) : Thread nD τ).loc main_arg0), m (((0 : Dev nD) : Thread nD τ).loc main_arg1), fun i => word_of_pre (h 0) i⟩

/-- It holds them on its one device. -/
theorem pinned : Pinned (tablesOf m h) m :=
  ⟨fun c => by obtain rfl : c = 0 := Subsingleton.elim _ _; rfl, fun c => by obtain rfl : c = 0 := Subsingleton.elim _ _; rfl⟩

end Cert.ExpertsIdeal.Any

end
-- ==== Proof.Experts.SameText.lean ====
/- The experts call as compiled and as idealized have the same text, so a run of the one is a run of the other. -/
module

public import proofs.«01_k».proof.Proof.Gen.Experts
public import proofs.«01_k».proof.Proof.Gen.ExpertsIdeal
public import Idealize.ShloMosaic.PureOps.BitExact

@[expose] public section

set_option maxRecDepth 65536
set_option maxHeartbeats 1000000

namespace Cert.Experts

open Idealize.ShloMosaic

set_option backward.isDefEq.respectTransparency.types false in
/-- The bodies are the same. -/
theorem bodies_eq : Cert.Experts.defs₀ (F := Bits) = Cert.ExpertsIdeal.defs₀ (F := Bits) := by
  refine congrArg Defs.onTc (funext fun l => funext fun x => ?_)
  match l, x with
  | 0, (t, s) => rfl

set_option backward.isDefEq.respectTransparency.types false in
/-- The definitions are the same. -/
theorem defs_eq : Cert.Experts.defs (F := Bits) = Cert.ExpertsIdeal.defs (F := Bits) :=
  congrArg (Pipeline.defs (Cert.Experts.pcfgs (F := Bits))) bodies_eq

end Cert.Experts

end
-- ==== Proof.Dense.Layer.lean ====
/- One row of the output projection and the dense feed-forward layer after it, at the extended reals. -/
module

public import Idealize.ShloMosaic.PureOps.Ideal

@[expose] public section

noncomputable section

namespace Cert.Dense.Layer

open Idealize.ShloMosaic

/-- A row over its root mean square, times a gain. -/
def rms (v g : Fin 1024 → EReal) (n : Fin 1024) : EReal :=
  v n * Ideal.rsqrt (Ideal.div (∑ k, v k * v k) (Ideal.ofBits .f32 0x44800000#32) + Ideal.ofBits .f32 0x358637BD#32) * g n

/-- A row's product with a column of a matrix. -/
def prod {K N : ℕ} (v : Fin K → EReal) (w : Fin K → Fin N → EReal) (n : Fin N) : EReal := ∑ k, v k * w k n

/-- Chunk `i` of the six that a row of the modulation is made of. -/
def chunk (mod : Fin 6144 → EReal) (i : Fin 6) (n : Fin 1024) : EReal := mod ⟨1024 * i.val + n.val, by omega⟩

/-- A row and its gated update. -/
def plus (x gate v g : Fin 1024 → EReal) (n : Fin 1024) : EReal := x n + gate n * rms v g n

/-- The row that enters the feed-forward layer: normalized, scaled by one more than the modulation's scale, shifted. -/
def entering (mod : Fin 6144 → EReal) (v g : Fin 1024 → EReal) (n : Fin 1024) : EReal :=
  rms v g n * (1 + chunk mod 4 n) + chunk mod 3 n

/-- The gated units: the gate times its logistic, times the up product. -/
def units (p : Fin 5632 → EReal) (j : Fin 2816) : EReal :=
  p ⟨j.val, by omega⟩ * Ideal.logistic (p ⟨j.val, by omega⟩) * p ⟨2816 + j.val, by omega⟩

/-- The row after the output projection. -/
def projected (o x : Fin 1024 → EReal) (mod : Fin 6144 → EReal) (wo : Fin 1024 → Fin 1024 → EReal) (post : Fin 1024 → EReal) :
    Fin 1024 → EReal := plus x (chunk mod 2) (prod o wo) post

/-- The feed-forward layer of a row. -/
def fed (y : Fin 1024 → EReal) (mod : Fin 6144 → EReal) (pre : Fin 1024 → EReal) (gu : Fin 1024 → Fin 5632 → EReal)
    (dw : Fin 2816 → Fin 1024 → EReal) : Fin 1024 → EReal := prod (units (prod (entering mod y pre) gu)) dw

/-- The row that leaves. -/
def block (o x : Fin 1024 → EReal) (mod : Fin 6144 → EReal) (wo : Fin 1024 → Fin 1024 → EReal) (post pre : Fin 1024 → EReal)
    (gu : Fin 1024 → Fin 5632 → EReal) (dw : Fin 2816 → Fin 1024 → EReal) (fpost : Fin 1024 → EReal) : Fin 1024 → EReal :=
  plus (projected o x mod wo post) (chunk mod 5) (fed (projected o x mod wo post) mod pre gu dw) fpost

end Cert.Dense.Layer

end
-- ==== Proof.Dense.Tile.lean ====
/- What the dense layer's kernel stores at a tile, row by row: the layer of the tile's rows. -/
module

public import proofs.«01_k».proof.Proof.Gen.DenseIdeal.Frame
public import proofs.«01_k».proof.Proof.Dense.Layer
public import Idealize.ShloMosaic.Lib.Pointwise
public import Idealize.ShloMosaic.Lib.Pipeline.ValueKit
public import Idealize.ShloMosaic.Lib.Tactic

@[expose] public section

set_option maxRecDepth 65536

noncomputable section

namespace Cert.DenseIdeal.Tile

open Cert.DenseIdeal Cert.DenseIdeal.Gen Idealize.ShloMosaic Idealize.ShloMosaic.TcCoe Cert.Dense.Layer

set_option maxHeartbeats 1000000

/-- The rows of a tile over their root mean squares, times a gain. -/
def normed (v : FVec Ideal S512x1024 .f32) (g : FVec Ideal S1x1024 .f32) : FVec Ideal S512x1024 .f32 :=
  mulf (mulf v (broadcastTo S512x1024 (rsqrt (addf (divf (shapeCast S512x1 (multiReduction .add [1] S512 (mulf v v) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 g broadcasts_S1x1024_S512x1024)

/-- Rows and their gated update. -/
def updated (x v : FVec Ideal S512x1024 .f32) (gate g : FVec Ideal S1x1024 .f32) : FVec Ideal S512x1024 .f32 :=
  addf x (mulf (broadcastTo S512x1024 gate broadcasts_S1x1024_S512x1024) (normed v g))

/-- The rows' gate and up products, from the rows that enter the feed-forward layer. -/
def products (v : FVec Ideal S512x1024 .f32) (g sc sh : FVec Ideal S1x1024 .f32) (gu : FVec Ideal S1024x5632 .bf16) : FVec Ideal S512x5632 .f32 :=
  matmul dot_S512x1024_S1024x5632_S512x5632_1_0_0_1_n_n none
    (truncf .bf16 (addf (mulf (normed v g) (broadcastTo S512x1024 (addf (broadcast S1x1024 (Scalar.ofBits .f32 0x3F800000#32)) sc) broadcasts_S1x1024_S512x1024))
      (broadcastTo S512x1024 sh broadcasts_S1x1024_S512x1024)) bitsLt_bf16_f32 : FVec Ideal S512x1024 .bf16)
    gu (constant S512x5632 .f32 0x00000000#32)

/-- The gates among the products. -/
def gates (p : FVec Ideal S512x5632 .f32) : FVec Ideal S512x2816 .f32 :=
  extractStridedSlice S512x2816 ![0, 0] p slices_S512x5632_o0_0_S512x2816

/-- The gated units' products with the down weights. -/
def outputs (p : FVec Ideal S512x5632 .f32) (dw : FVec Ideal S2816x1024 .bf16) : FVec Ideal S512x1024 .f32 :=
  matmul dot_S512x2816_S2816x1024_S512x1024_1_0_0_1_n_n none
    (truncf .bf16 (mulf (mulf (gates p) (logistic (gates p))) (extractStridedSlice S512x2816 ![0, 2816] p slices_S512x5632_o0_2816_S512x2816)) bitsLt_bf16_f32 : FVec Ideal S512x2816 .bf16)
    dw (constant S512x1024 .f32 0x00000000#32)

theorem normed_at (v : FVec Ideal S512x1024 .f32) (g : FVec Ideal S1x1024 .f32) (r : Fin 512) (n : Fin 1024) :
    (normed v g (ix2 r n) : EReal) = rms (fun k => v (ix2 r k)) (fun k => g (ix2 0 k)) n := by
  pointwise [normed]
  rfl

theorem updated_at (x v : FVec Ideal S512x1024 .f32) (gate g : FVec Ideal S1x1024 .f32) (r : Fin 512) (n : Fin 1024) :
    (updated x v gate g (ix2 r n) : EReal)
      = plus (fun k => x (ix2 r k)) (fun k => gate (ix2 0 k)) (fun k => v (ix2 r k)) (fun k => g (ix2 0 k)) n := by
  pointwise [updated, normed_at]
  rfl

theorem products_at (v : FVec Ideal S512x1024 .f32) (g sc sh : FVec Ideal S1x1024 .f32) (gu : FVec Ideal S1024x5632 .bf16) (r : Fin 512) (n : Fin 5632) :
    (products v g sc sh gu (ix2 r n) : EReal)
      = ∑ k : Fin 1024, (rms (fun k => v (ix2 r k)) (fun k => g (ix2 0 k)) k * (1 + sc (ix2 0 k)) + sh (ix2 0 k)) * gu (ix2 k n) := by
  pointwise [products, normed_at]

theorem gates_at (p : FVec Ideal S512x5632 .f32) (r : Fin 512) (j : Fin 2816) : gates p (ix2 r j) = p (ix2 r ⟨j.val, by omega⟩) := by
  pointwise [gates]

theorem outputs_at (p : FVec Ideal S512x5632 .f32) (dw : FVec Ideal S2816x1024 .bf16) (r : Fin 512) (n : Fin 1024) :
    (outputs p dw (ix2 r n) : EReal) = prod (units (fun k => p (ix2 r k))) (fun j n => dw (ix2 j n)) n := by
  pointwise [outputs, gates_at]
  rfl

/-- The rows a tile is given: those of the first array before the tile of that number, those of the second from there. -/
def chosen {φ : FTy} (i : grid0.Coords) (a b : FVec Ideal S512x1024 φ) : FVec Ideal S512x1024 φ :=
  Scalar.select (Scalar.cmpi .slt (BitVec.ofNat 32 (i 0).val) 32#32) a b

theorem pay2_eq (i : grid0.Coords) (o oc : FVec Ideal S512x1024 .bf16) (x xc : FVec Ideal S512x1024 .f32) (wo : FVec Ideal S1024x1024 .bf16)
    (gate : FVec Ideal S1x1x1024 .f32) (g : FVec Ideal S1x1024 .f32) :
    k0_pay2 i o oc x xc wo gate g = updated (chosen i x xc) (matmul dot_S512x1024_S1024x1024_S512x1024_1_0_0_1_n_n none (chosen i o oc) wo (constant S512x1024 .f32 0x00000000#32))
      (shapeCast S1x1024 gate shapeCasts_S1x1x1024_S1x1024) g := by
  unfold k0_pay2 updated normed chosen
  simp only [shapeCast_self]

theorem pay4_eq (v : FVec Ideal S512x1024 .f32) (g : FVec Ideal S1x1024 .f32) (sc sh : FVec Ideal S1x1x1024 .f32) (gu : FVec Ideal S1024x5632 .bf16)
    (dw : FVec Ideal S2816x1024 .bf16) :
    k0_pay4 v g sc sh gu dw = outputs (products v g (shapeCast S1x1024 sc shapeCasts_S1x1x1024_S1x1024) (shapeCast S1x1024 sh shapeCasts_S1x1x1024_S1x1024) gu) dw := by
  unfold k0_pay4 outputs products gates normed
  simp only [shapeCast_self]

theorem pay1_eq (x v : FVec Ideal S512x1024 .f32) (gate g : FVec Ideal S1x1024 .f32) : k0_pay1 x v gate g = updated x v gate g := rfl

end Cert.DenseIdeal.Tile

end
-- ==== Proof.Dense.Stored.lean ====
/- The block a grid point of the dense layer's kernel leaves, row by row, from the blocks it is given. -/
module

public import proofs.«01_k».proof.Proof.Dense.Tile

@[expose] public section

set_option maxRecDepth 65536

noncomputable section

namespace Cert.DenseIdeal.Tile

open Cert.DenseIdeal Cert.DenseIdeal.Gen Idealize.ShloMosaic Idealize.ShloMosaic.TcCoe Cert.Dense.Layer

set_option maxHeartbeats 1000000

variable (i : grid0.Coords) (o oc : FVec Ideal S512x1024 .bf16) (x xc : FVec Ideal S512x1024 .f32) (wo : FVec Ideal S1024x1024 .bf16)
  (mod : FVec Ideal S1x1x6144 .f32) (post pre : FVec Ideal S1x1024 .f32) (gu : FVec Ideal S1024x5632 .bf16) (dw : FVec Ideal S2816x1024 .bf16)
  (fpost : FVec Ideal S1x1024 .f32)

/-- The rows after the output projection. -/
def mixed : FVec Ideal S512x1024 .f32 :=
  updated (chosen i x xc) (matmul dot_S512x1024_S1024x1024_S512x1024_1_0_0_1_n_n none (chosen i o oc) wo (constant S512x1024 .f32 0x00000000#32))
    (shapeCast S1x1024 (View.ld (Val := Elt Ideal) (e' := .f32) mod r0_2) shapeCasts_S1x1x1024_S1x1024) post

/-- The block that is left. -/
theorem out_eq :
    out0_11 (F := Ideal) i o oc x xc wo mod post pre gu dw fpost
      = updated (mixed i o oc x xc wo mod post)
          (outputs (products (mixed i o oc x xc wo mod post) pre (shapeCast S1x1024 (View.ld (Val := Elt Ideal) (e' := .f32) mod r0_4) shapeCasts_S1x1x1024_S1x1024)
            (shapeCast S1x1024 (View.ld (Val := Elt Ideal) (e' := .f32) mod r0_5) shapeCasts_S1x1x1024_S1x1024) gu) dw)
          (shapeCast S1x1024 (View.ld (Val := Elt Ideal) (e' := .f32) mod r0_8) shapeCasts_S1x1x1024_S1x1024) fpost := by
  have h : k0_pay7 (F := Ideal) i o oc x xc wo mod post pre gu dw fpost = mixed i o oc x xc wo mod post := by
    unfold k0_pay7 mixed
    rw [pay2_eq]
    frame_out
  unfold out0_11
  rw [h, pay4_eq, pay1_eq]
  frame_out
  unfold k0_pay3 k0_pay5 k0_pay6
  simp only [shapeCast_self]

/-- A chunk of the modulation row, as the body reads it. -/
theorem chunk_at (j : Fin 6) (off : Fin 3 → ℕ) (inb) (h : off = ![0, 0, 1024 * j.val]) (k : Fin 1024) :
    (shapeCast S1x1024 (View.ld (Val := Elt Ideal) (e' := .f32) mod (Rect.unit (s := S1x1x6144) off S1x1x1024.size inb)) shapeCasts_S1x1x1024_S1x1024 (ix2 0 k) : EReal)
      = chunk (fun k => mod (ix3 0 0 k)) j k := by
  subst h
  pointwise []
  rfl

theorem mixed_at (r : Fin 512) (n : Fin 1024) :
    (mixed i o oc x xc wo mod post (ix2 r n) : EReal)
      = projected (fun k => chosen i o oc (ix2 r k)) (fun k => chosen i x xc (ix2 r k)) (fun k => mod (ix3 0 0 k)) (fun k n => wo (ix2 k n))
          (fun k => post (ix2 0 k)) n := by
  have hp : ∀ k : Fin 1024, (matmul dot_S512x1024_S1024x1024_S512x1024_1_0_0_1_n_n none (chosen i o oc) wo (constant S512x1024 .f32 0x00000000#32) (ix2 r k) : EReal)
      = prod (fun k => chosen i o oc (ix2 r k)) (fun k n => wo (ix2 k n)) k := fun k => by
    pointwise []
    rfl
  unfold mixed projected
  rw [updated_at]
  simp only [hp]
  congr 1
  funext k
  exact chunk_at mod 2 _ _ rfl k

theorem out_at (r : Fin 512) (n : Fin 1024) :
    ((out0_11 (F := Ideal) i o oc x xc wo mod post pre gu dw fpost : FVec Ideal S512x1024 .f32) (ix2 r n) : EReal)
      = block (fun k => chosen i o oc (ix2 r k)) (fun k => chosen i x xc (ix2 r k)) (fun k => mod (ix3 0 0 k)) (fun k n => wo (ix2 k n))
          (fun k => post (ix2 0 k)) (fun k => pre (ix2 0 k)) (fun k n => gu (ix2 k n)) (fun k n => dw (ix2 k n)) (fun k => fpost (ix2 0 k)) n := by
  rw [out_eq, updated_at]
  simp only [outputs_at, products_at, mixed_at]
  have h5 := fun k => chunk_at mod 5 ![0, 0, 5120] inb_S1x1x6144_S1x1x1024_0_0_5120 rfl k
  have h4 := fun k => chunk_at mod 4 ![0, 0, 4096] inb_S1x1x6144_S1x1x1024_0_0_4096 rfl k
  have h3 := fun k => chunk_at mod 3 ![0, 0, 3072] inb_S1x1x6144_S1x1x1024_0_0_3072 rfl k
  simp only [h3, h4, h5]
  rfl

end Cert.DenseIdeal.Tile

end
-- ==== Proof.Dense.Blocks.lean ====
/- The blocks one grid point of the dense layer's kernel is given, from the arguments, and the result the kernel leaves: the
   latents' rows in the first 32 tiles, the context's in the last two. -/
module

public import proofs.«01_k».proof.Proof.Dense.Stored
public import proofs.«01_k».proof.Proof.Gen.DenseIdeal.Value
public import Idealize.ShloMosaic.Lib.StableHlo.ReadAt

@[expose] public section

set_option maxRecDepth 65536

noncomputable section

namespace Cert.DenseIdeal.Tile

open Cert.DenseIdeal Cert.DenseIdeal.Gen Idealize.ShloMosaic Idealize.ShloMosaic.TcCoe Idealize.SL.Sem Cert.Dense.Layer

set_option maxHeartbeats 1000000

variable (m : (ℓ : Loc nD τ sig) → Buf (Elt Ideal) ℓ) (c : Dev nD)

/-- The attention's rows for the latents and for the context, and the output weights. -/
def argO : S16384x1024.Idx → EReal := m ((c : Thread nD τ).loc main_arg0)
def argOc : S1024x1024.Idx → EReal := m ((c : Thread nD τ).loc main_arg1)
def argWo : S1024x1024.Idx → EReal := m ((c : Thread nD τ).loc main_arg2)
/-- The latents and the context. -/
def argX : S4x4096x1024.Idx → EReal := m ((c : Thread nD τ).loc main_arg3)
def argXc : S4x256x1024.Idx → EReal := m ((c : Thread nD τ).loc main_arg4)
/-- The modulations. -/
def argMod : S8x6144.Idx → EReal := m ((c : Thread nD τ).loc main_arg5)
/-- The gains after the projection and before the layer, the layer's weights, and the gain after it. -/
def argPost : S1024.Idx → EReal := m ((c : Thread nD τ).loc main_arg6)
def argPre : S1024.Idx → EReal := m ((c : Thread nD τ).loc main_arg7)
def argGu : S1024x5632.Idx → EReal := m ((c : Thread nD τ).loc main_arg8)
def argDw : S2816x1024.Idx → EReal := m ((c : Thread nD τ).loc main_arg9)
def argFpost : S1024.Idx → EReal := m ((c : Thread nD τ).loc main_arg10)

/-- The row `s` of batch element `b` of the latents' result. -/
def latent (o : S16384x1024.Idx → EReal) (wo : S1024x1024.Idx → EReal) (x : S4x4096x1024.Idx → EReal) (mod : S8x6144.Idx → EReal)
    (post pre : S1024.Idx → EReal) (gu : S1024x5632.Idx → EReal) (dw : S2816x1024.Idx → EReal) (fpost : S1024.Idx → EReal)
    (b : Fin 4) (s : Fin 4096) : Fin 1024 → EReal :=
  block (fun k => o (ix2 ⟨b.val * 4096 + s.val, by omega⟩ k)) (fun k => x (ix3 b s k)) (fun k => mod (ix2 ⟨b.val, by omega⟩ k)) (fun k n => wo (ix2 k n))
    (fun k => post (ix1 k)) (fun k => pre (ix1 k)) (fun k n => gu (ix2 k n)) (fun k n => dw (ix2 k n)) (fun k => fpost (ix1 k))

/-- The row `s` of batch element `b` of the context's result. -/
def context (oc wo : S1024x1024.Idx → EReal) (xc : S4x256x1024.Idx → EReal) (mod : S8x6144.Idx → EReal)
    (post pre : S1024.Idx → EReal) (gu : S1024x5632.Idx → EReal) (dw : S2816x1024.Idx → EReal) (fpost : S1024.Idx → EReal)
    (b : Fin 4) (s : Fin 256) : Fin 1024 → EReal :=
  block (fun k => oc (ix2 ⟨b.val * 256 + s.val, by omega⟩ k)) (fun k => xc (ix3 b s k)) (fun k => mod (ix2 4 k)) (fun k n => wo (ix2 k n))
    (fun k => post (ix1 k)) (fun k => pre (ix1 k)) (fun k n => gu (ix2 k n)) (fun k n => dw (ix2 k n)) (fun k => fpost (ix1 k))

/-- The result: the latents' rows, then the context's. -/
def result (o : S16384x1024.Idx → EReal) (oc wo : S1024x1024.Idx → EReal) (x : S4x4096x1024.Idx → EReal) (xc : S4x256x1024.Idx → EReal)
    (mod : S8x6144.Idx → EReal) (post pre : S1024.Idx → EReal) (gu : S1024x5632.Idx → EReal) (dw : S2816x1024.Idx → EReal)
    (fpost : S1024.Idx → EReal) (R : Fin 17408) : Fin 1024 → EReal :=
  if h : R.val < 16384 then latent o wo x mod post pre gu dw fpost ⟨R.val / 4096, by omega⟩ ⟨R.val % 4096, by omega⟩
  else context oc wo xc mod post pre gu dw fpost ⟨(R.val - 16384) / 256, by omega⟩ ⟨(R.val - 16384) % 256, by omega⟩

theorem idx0 : ∀ t : Fin cfg0.N, win0_0.index t = ![min t.val 31, 0] := by decide +kernel
theorem idx1 : ∀ t : Fin cfg0.N, win0_1.index t = ![t.val - 32, 0] := by decide +kernel
theorem idx2 : ∀ t : Fin cfg0.N, win0_2.index t = ![min t.val 31, 0] := by decide +kernel
theorem idx3 : ∀ t : Fin cfg0.N, win0_3.index t = ![t.val - 32, 0] := by decide +kernel
theorem idx4 : ∀ t : Fin cfg0.N, win0_4.index t = ![0, 0] := by decide +kernel
theorem idx5 : ∀ t : Fin cfg0.N, win0_5.index t = ![t.val / 8, 0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![t.val, 0] := by decide +kernel

theorem t_lt (t : Fin cfg0.N) : t.val < 34 := t.isLt

theorem prep0 (r : Fin 16384) (k : Fin 1024) : (V m c main_v0 : Vec Ideal S16384x1024 .bf16) (ix2 r k) = argO m c (ix2 r k) := by
  unfold V; after_reads_at; rfl
theorem prep1 (r : Fin 1024) (k : Fin 1024) : (V m c main_v1 : Vec Ideal S1024x1024 .bf16) (ix2 r k) = argOc m c (ix2 r k) := by
  unfold V; after_reads_at; rfl
theorem prep2 (r : Fin 1024) (k : Fin 1024) : (V m c main_v2 : Vec Ideal S1024x1024 .bf16) (ix2 r k) = argWo m c (ix2 r k) := by
  unfold V; after_reads_at; rfl
theorem prep3 (r : Fin 16384) (k : Fin 1024) :
    (V m c main_v3 : Vec Ideal S16384x1024 .f32) (ix2 r k) = argX m c (ix3 ⟨r.val / 4096, by omega⟩ ⟨r.val % 4096, by omega⟩ k) := by
  unfold V; after_reads_at; rfl
theorem prep10 (r : Fin 1024) (k : Fin 1024) :
    (V m c main_v10 : Vec Ideal S1024x1024 .f32) (ix2 r k) = argXc m c (ix3 ⟨r.val / 256, by omega⟩ ⟨r.val % 256, by omega⟩ k) := by
  unfold V; after_reads_at; rfl
theorem prep4 (r : Fin 8) (k : Fin 6144) : (V m c main_v4 : Vec Ideal S8x1x6144 .f32) (ix3 r 0 k) = argMod m c (ix2 r k) := by
  unfold V; after_reads_at; rfl
theorem prep5 (k : Fin 1024) : (V m c main_v5 : Vec Ideal S1x1024 .f32) (ix2 0 k) = argPost m c (ix1 k) := by
  unfold V; after_reads_at; rfl
theorem prep6 (k : Fin 1024) : (V m c main_v6 : Vec Ideal S1x1024 .f32) (ix2 0 k) = argPre m c (ix1 k) := by
  unfold V; after_reads_at; rfl
theorem prep7 (r : Fin 1024) (k : Fin 5632) : (V m c main_v7 : Vec Ideal S1024x5632 .bf16) (ix2 r k) = argGu m c (ix2 r k) := by
  unfold V; after_reads_at; rfl
theorem prep8 (r : Fin 2816) (k : Fin 1024) : (V m c main_v8 : Vec Ideal S2816x1024 .bf16) (ix2 r k) = argDw m c (ix2 r k) := by
  unfold V; after_reads_at; rfl
theorem prep9 (k : Fin 1024) : (V m c main_v9 : Vec Ideal S1x1024 .f32) (ix2 0 k) = argFpost m c (ix1 k) := by
  unfold V; after_reads_at; rfl

variable (t : Fin cfg0.N)

theorem blk0 (r : Fin 512) (k : Fin 1024) :
    (iblk m c 0 t : Vec Ideal S512x1024 .bf16) (ix2 r k) = argO m c (ix2 ⟨512 * min t.val 31 + r.val, by omega⟩ k) := by
  rw [← prep0]
  blk_ext! [iblk, idx0 t]
theorem blk1 (r : Fin 512) (k : Fin 1024) :
    (iblk m c 1 t : Vec Ideal S512x1024 .bf16) (ix2 r k) = argOc m c (ix2 ⟨512 * (t.val - 32) + r.val, by have := t_lt t; omega⟩ k) := by
  rw [← prep1]
  blk_ext! [iblk, idx1 t]
theorem blk2 (r : Fin 512) (k : Fin 1024) :
    (iblk m c 2 t : Vec Ideal S512x1024 .f32) (ix2 r k)
      = argX m c (ix3 ⟨(512 * min t.val 31 + r.val) / 4096, by omega⟩ ⟨(512 * min t.val 31 + r.val) % 4096, by omega⟩ k) := by
  rw [← prep3 m c ⟨512 * min t.val 31 + r.val, by omega⟩ k]
  blk_ext! [iblk, idx2 t]
theorem blk3 (r : Fin 512) (k : Fin 1024) :
    (iblk m c 3 t : Vec Ideal S512x1024 .f32) (ix2 r k)
      = argXc m c (ix3 ⟨(512 * (t.val - 32) + r.val) / 256, by have := t_lt t; omega⟩ ⟨(512 * (t.val - 32) + r.val) % 256, by omega⟩ k) := by
  have := t_lt t
  rw [← prep10 m c ⟨512 * (t.val - 32) + r.val, by omega⟩ k]
  blk_ext! [iblk, idx3 t]
theorem blk4 (r : Fin 1024) (k : Fin 1024) : (iblk m c 4 t : Vec Ideal S1024x1024 .bf16) (ix2 r k) = argWo m c (ix2 r k) := by
  rw [← prep2]
  blk_ext! [iblk, idx4 t]
theorem blk5 (k : Fin 6144) :
    (iblk m c 5 t : Vec Ideal S1x1x6144 .f32) (ix3 0 0 k) = argMod m c (ix2 ⟨t.val / 8, by have := t_lt t; omega⟩ k) := by
  rw [← prep4]
  blk_ext! [iblk, idx5 t]
theorem blk6 (k : Fin 1024) : (iblk m c 6 t : Vec Ideal S1x1024 .f32) (ix2 0 k) = argPost m c (ix1 k) := by
  rw [← prep5]
  blk_ext! [iblk, idx6 t]
theorem blk7 (k : Fin 1024) : (iblk m c 7 t : Vec Ideal S1x1024 .f32) (ix2 0 k) = argPre m c (ix1 k) := by
  rw [← prep6]
  blk_ext! [iblk, idx7 t]
theorem blk8 (r : Fin 1024) (k : Fin 5632) : (iblk m c 8 t : Vec Ideal S1024x5632 .bf16) (ix2 r k) = argGu m c (ix2 r k) := by
  rw [← prep7]
  blk_ext! [iblk, idx8 t]
theorem blk9 (r : Fin 2816) (k : Fin 1024) : (iblk m c 9 t : Vec Ideal S2816x1024 .bf16) (ix2 r k) = argDw m c (ix2 r k) := by
  rw [← prep8]
  blk_ext! [iblk, idx9 t]
theorem blk10 (k : Fin 1024) : (iblk m c 10 t : Vec Ideal S1x1024 .f32) (ix2 0 k) = argFpost m c (ix1 k) := by
  rw [← prep9]
  blk_ext! [iblk, idx10 t]

/-- Which rows a tile is given. -/
theorem chosen_at {φ : FTy} (a b : FVec Ideal S512x1024 φ) :
    chosen (grid0.coords t) a b = if t.val < 32 then a else b := by
  have h : ∀ t : Fin grid0.N, Scalar.cmpi .slt (BitVec.ofNat 32 (grid0.coords t 0).val) 32#32 = if t.val < 32 then 1#1 else 0#1 := by decide +kernel
  unfold chosen
  rw [h t]
  by_cases ht : t.val < 32 <;> simp [ht, Scalar.select]

end Cert.DenseIdeal.Tile

end
-- ==== Proof.Dense.Final.lean ====
/- The dense layer's whole result array after the run. -/
module

public import proofs.«01_k».proof.Proof.Dense.Blocks

@[expose] public section

set_option maxRecDepth 65536

noncomputable section

namespace Cert.DenseIdeal.Tile

open Cert.DenseIdeal Cert.DenseIdeal.Gen Idealize.ShloMosaic Idealize.ShloMosaic.TcCoe Idealize.SL.Sem Cert.Dense.Layer

set_option maxHeartbeats 1000000

variable (m : (ℓ : Loc nD τ sig) → Buf (Elt Ideal) ℓ) (c : Dev nD)

/-- What a point leaves in its output block. -/
def left (t : Fin cfg0.N) : FVec Ideal S512x1024 .f32 :=
  out0_11 (F := Ideal) (grid0.coords t) (iblk m c 0 t) (iblk m c 1 t) (iblk m c 2 t) (iblk m c 3 t) (iblk m c 4 t) (iblk m c 5 t) (iblk m c 6 t)
    (iblk m c 7 t) (iblk m c 8 t) (iblk m c 9 t) (iblk m c 10 t)

theorem left_at (t : Fin cfg0.N) (r : Fin 512) (n : Fin 1024) (R : Fin 17408) (hR : R.val = 512 * t.val + r.val) :
    (left m c t (ix2 r n) : EReal) = result (argO m c) (argOc m c) (argWo m c) (argX m c) (argXc m c) (argMod m c) (argPost m c) (argPre m c)
      (argGu m c) (argDw m c) (argFpost m c) R n := by
  have ht := t_lt t
  unfold left
  rw [out_at]
  have e4 : (fun k n => (iblk m c 4 t : Vec Ideal S1024x1024 .bf16) (ix2 k n)) = fun k n => argWo m c (ix2 k n) := by funext k n; exact blk4 m c t k n
  have e5 : (fun k => (iblk m c 5 t : Vec Ideal S1x1x6144 .f32) (ix3 0 0 k)) = fun k => argMod m c (ix2 ⟨t.val / 8, by omega⟩ k) := by funext k; exact blk5 m c t k
  have e6 : (fun k => (iblk m c 6 t : Vec Ideal S1x1024 .f32) (ix2 0 k)) = fun k => argPost m c (ix1 k) := by funext k; exact blk6 m c t k
  have e7 : (fun k => (iblk m c 7 t : Vec Ideal S1x1024 .f32) (ix2 0 k)) = fun k => argPre m c (ix1 k) := by funext k; exact blk7 m c t k
  have e8 : (fun k n => (iblk m c 8 t : Vec Ideal S1024x5632 .bf16) (ix2 k n)) = fun k n => argGu m c (ix2 k n) := by funext k n; exact blk8 m c t k n
  have e9 : (fun k n => (iblk m c 9 t : Vec Ideal S2816x1024 .bf16) (ix2 k n)) = fun k n => argDw m c (ix2 k n) := by funext k n; exact blk9 m c t k n
  have e10 : (fun k => (iblk m c 10 t : Vec Ideal S1x1024 .f32) (ix2 0 k)) = fun k => argFpost m c (ix1 k) := by funext k; exact blk10 m c t k
  unfold result
  by_cases h : t.val < 32
  · have e0 : (fun k => chosen (φ := .bf16) (grid0.coords t) (iblk m c 0 t) (iblk m c 1 t) (ix2 r k))
        = fun k => argO m c (ix2 ⟨R.val / 4096 * 4096 + R.val % 4096, by omega⟩ k) := by
      funext k
      rw [chosen_at, if_pos h]
      refine (blk0 m c t r k).trans (congrArg (argO m c) (congrArg₂ ix2 (Fin.ext ?_) rfl))
      dsimp only; omega
    have e2 : (fun k => chosen (φ := .f32) (grid0.coords t) (iblk m c 2 t) (iblk m c 3 t) (ix2 r k))
        = fun k => argX m c (ix3 ⟨R.val / 4096, by omega⟩ ⟨R.val % 4096, by omega⟩ k) := by
      funext k
      rw [chosen_at, if_pos h]
      refine (blk2 m c t r k).trans (congrArg₂ (fun y z => argX m c (ix3 y z k)) (Fin.ext ?_) (Fin.ext ?_))
      · show (512 * min t.val 31 + r.val) / 4096 = R.val / 4096; omega
      · show (512 * min t.val 31 + r.val) % 4096 = R.val % 4096; omega
    have eb : (⟨t.val / 8, by omega⟩ : Fin 8) = ⟨R.val / 4096, by omega⟩ := Fin.ext (by dsimp only; omega)
    rw [dif_pos (by omega)]
    unfold latent
    rw [← e0, ← e2, ← e4, ← eb, ← e5, ← e6, ← e7, ← e8, ← e9, ← e10]
  · have e0 : (fun k => chosen (φ := .bf16) (grid0.coords t) (iblk m c 0 t) (iblk m c 1 t) (ix2 r k))
        = fun k => argOc m c (ix2 ⟨(R.val - 16384) / 256 * 256 + (R.val - 16384) % 256, by omega⟩ k) := by
      funext k
      rw [chosen_at, if_neg h]
      refine (blk1 m c t r k).trans (congrArg (fun z => argOc m c (ix2 z k)) (Fin.ext ?_))
      show 512 * (t.val - 32) + r.val = (R.val - 16384) / 256 * 256 + (R.val - 16384) % 256
      omega
    have e2 : (fun k => chosen (φ := .f32) (grid0.coords t) (iblk m c 2 t) (iblk m c 3 t) (ix2 r k))
        = fun k => argXc m c (ix3 ⟨(R.val - 16384) / 256, by omega⟩ ⟨(R.val - 16384) % 256, by omega⟩ k) := by
      funext k
      rw [chosen_at, if_neg h]
      refine (blk3 m c t r k).trans (congrArg₂ (fun y z => argXc m c (ix3 y z k)) (Fin.ext ?_) (Fin.ext ?_))
      · show (512 * (t.val - 32) + r.val) / 256 = (R.val - 16384) / 256; omega
      · show (512 * (t.val - 32) + r.val) % 256 = (R.val - 16384) % 256; omega
    have eb : (⟨t.val / 8, by omega⟩ : Fin 8) = 4 := Fin.ext (by show t.val / 8 = 4; omega)
    rw [dif_neg (by omega)]
    unfold context
    rw [← e0, ← e2, ← e4, ← eb, ← e5, ← e6, ← e7, ← e8, ← e9, ← e10]

/-- The result array after the run. -/
theorem final :
    (dats m 0 c).arrAt 11 cfg0.N
      = fun i : S17408x1024.Idx => result (argO m c) (argOc m c) (argWo m c) (argX m c) (argXc m c) (argMod m c) (argPost m c) (argPre m c)
          (argGu m c) (argDw m c) (argFpost m c) (i 0) (i 1) := by
  refine (dats m 0 c).arrAt_eq_of_covers 11 _ (by decide +kernel) fun t hf y => ?_
  blk_simp
  rw [after0_11]
  revert y
  intro (y : S512x1024.Idx)
  have e0 : ((win0_11.blk t).view.emb y 0).val = win0_11.index t 0 * 512 + 1 * (y 0).val := rfl
  have e1 : ((win0_11.blk t).view.emb y 1).val = win0_11.index t 1 * 1024 + 1 * (y 1).val := rfl
  rw [idx11 t] at e0 e1
  refine (congrArg (left m c t) (eq_ix2 y)).trans ((left_at m c t (y 0) (y 1) ((win0_11.blk t).view.emb y 0) (e0.trans ?_)).trans ?_)
  · show t.val * 512 + 1 * (y 0).val = _; omega
  · refine congrArg _ (Fin.ext (Eq.trans ?_ e1.symm))
    show (y 1).val = 0 * 1024 + 1 * (y 1).val; omega

end Cert.DenseIdeal.Tile

end
-- ==== Proof.Dense.Reference.lean ====
/- The dense layer's reference at an index: the layer of each row of the latents, then of each row of the context. -/
module

public import proofs.«01_k».proof.Proof.Gen.DenseReferenceIdeal.Run
public import proofs.«01_k».proof.Proof.Dense.Blocks
public import Idealize.ShloMosaic.Lib.Pointwise

@[expose] public section

set_option maxRecDepth 65536

noncomputable section

namespace Cert.DenseReferenceIdeal.Value

open Cert.DenseReferenceIdeal Cert.DenseReferenceIdeal.Gen Idealize.ShloMosaic Idealize.ShloMosaic.TcCoe Idealize.SL.Sem Cert.Dense.Layer
open Cert.DenseIdeal.Tile (latent context result)

set_option maxHeartbeats 1000000

/-! ## The latents -/

/-- The modulations of the batch elements. -/
def mods (a : FVec Ideal S8x6144 .f32) : FVec Ideal S4x1x6144 .f32 :=
  broadcastInDim S4x1x6144 ![0, 2] bcast_S4x6144_S4x1x6144_0_2 (extractStridedSlice S4x6144 ![0, 0] a slices_S8x6144_S4x6144_0_0)

/-- Rows over their root mean squares, times a gain. -/
def normed (v : FVec Ideal S4x4096x1024 .f32) (g : FVec Ideal S1024 .f32) : FVec Ideal S4x4096x1024 .f32 :=
  mulf (mulf v (broadcastInDim S4x4096x1024 ![0, 1, 2] bcast_S4x4096x1_S4x4096x1024_0_1_2 (Host.rsqrt (addf (Host.divf (broadcastInDim S4x4096x1 ![0, 1] bcast_S4x4096_S4x4096x1_0_1
      (Host.reduceAdd (mulf v v) (constant S_ .f32 0x00000000#32) reducesTo_S4x4096x1024_S4x4096_d2 h_S_)) (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- A chunk of the modulations, for every row. -/
def part (a : FVec Ideal S4x1x6144 .f32) (off : Fin 3 → ℕ) (h : S4x1x6144.Slices off S4x1x1024) : FVec Ideal S4x1x1024 .f32 :=
  extractStridedSlice S4x1x1024 off a h
def every (a : FVec Ideal S4x1x1024 .f32) : FVec Ideal S4x4096x1024 .f32 :=
  broadcastInDim S4x4096x1024 ![0, 1, 2] bcast_S4x1x1024_S4x4096x1024_0_1_2 a

/-- Rows and their gated update. -/
def updated (x gate v : FVec Ideal S4x4096x1024 .f32) (g : FVec Ideal S1024 .f32) : FVec Ideal S4x4096x1024 .f32 :=
  addf x (mulf gate (normed v g))

/-- The output projection. -/
def projections (o : FVec Ideal S16384x1024 .f32) (wo : FVec Ideal S1024x1024 .f32) : FVec Ideal S4x4096x1024 .f32 :=
  Host.dotGeneral dot_S4x4096x1024_S1024x1024_S4x4096x1024_2_0_01_1_n_n none (shapeCast _ o shapeCasts_S16384x1024_S4x4096x1024) wo

/-- The gate and up products of the rows that enter the layer. -/
def products (v : FVec Ideal S4x4096x1024 .f32) (g : FVec Ideal S1024 .f32) (a : FVec Ideal S4x1x6144 .f32) (gu : FVec Ideal S1024x5632 .f32) :
    FVec Ideal S4x4096x5632 .f32 :=
  Host.dotGeneral dot_S4x4096x1024_S1024x5632_S4x4096x5632_2_0_01_1_n_n none
    (addf (mulf (normed v g) (every (addf (broadcastInDim S4x1x1024 ![] bcast_S_S4x1x1024 (constant S_ .f32 0x3F800000#32)) (part a ![0, 0, 4096] slices_S4x1x6144_S4x1x1024_0_0_4096))))
      (every (part a ![0, 0, 3072] slices_S4x1x6144_S4x1x1024_0_0_3072))) gu

/-- The gates among them. -/
def gates (p : FVec Ideal S4x4096x5632 .f32) : FVec Ideal S4x4096x2816 .f32 :=
  extractStridedSlice S4x4096x2816 ![0, 0, 0] p slices_S4x4096x5632_S4x4096x2816_0_0_0

/-- The gated units' products with the down weights. -/
def outputs (p : FVec Ideal S4x4096x5632 .f32) (dw : FVec Ideal S2816x1024 .f32) : FVec Ideal S4x4096x1024 .f32 :=
  Host.dotGeneral dot_S4x4096x2816_S2816x1024_S4x4096x1024_2_0_01_1_n_n none
    (mulf (mulf (gates p) (Host.divf (broadcastInDim S4x4096x2816 ![] bcast_S_S4x4096x2816 (constant S_ .f32 0x3F800000#32))
      (addf (broadcastInDim S4x4096x2816 ![] bcast_S_S4x4096x2816 (constant S_ .f32 0x3F800000#32)) (Host.exp (Host.negf (gates p))))))
      (extractStridedSlice S4x4096x2816 ![0, 0, 2816] p slices_S4x4096x5632_S4x4096x2816_0_0_2816)) dw

theorem normed_at (v : FVec Ideal S4x4096x1024 .f32) (g : FVec Ideal S1024 .f32) (b : Fin 4) (s : Fin 4096) (n : Fin 1024) :
    (normed v g (ix3 b s n) : EReal) = rms (fun k => v (ix3 b s k)) (fun k => g (ix1 k)) n := by
  pointwise [normed]
  rfl

theorem every_at (a : FVec Ideal S4x1x1024 .f32) (b : Fin 4) (s : Fin 4096) (n : Fin 1024) : every a (ix3 b s n) = a (ix3 b 0 n) := by
  pointwise [every]

theorem part_at (a : FVec Ideal S8x6144 .f32) (off : Fin 3 → ℕ) (h : S4x1x6144.Slices off S4x1x1024) (i : Fin 6) (e : off = ![0, 0, 1024 * i.val])
    (b : Fin 4) (n : Fin 1024) : (part (mods a) off h (ix3 b 0 n) : EReal) = chunk (fun k => a (ix2 ⟨b.val, by omega⟩ k)) i n := by
  subst e
  pointwise [part, mods]
  rfl

theorem updated_at (x gate v : FVec Ideal S4x4096x1024 .f32) (g : FVec Ideal S1024 .f32) (b : Fin 4) (s : Fin 4096) (n : Fin 1024) :
    (updated x gate v g (ix3 b s n) : EReal)
      = plus (fun k => x (ix3 b s k)) (fun k => gate (ix3 b s k)) (fun k => v (ix3 b s k)) (fun k => g (ix1 k)) n := by
  pointwise [updated, normed_at]
  rfl

theorem projections_at (o : FVec Ideal S16384x1024 .f32) (wo : FVec Ideal S1024x1024 .f32) (b : Fin 4) (s : Fin 4096) (n : Fin 1024) :
    (projections o wo (ix3 b s n) : EReal) = prod (fun k => o (ix2 ⟨b.val * 4096 + s.val, by omega⟩ k)) (fun k n => wo (ix2 k n)) n := by
  pointwise [projections]
  rfl

theorem outputs_at (p : FVec Ideal S4x4096x5632 .f32) (dw : FVec Ideal S2816x1024 .f32) (b : Fin 4) (s : Fin 4096) (n : Fin 1024) :
    (outputs p dw (ix3 b s n) : EReal) = prod (units (fun k => p (ix3 b s k))) (fun j n => dw (ix2 j n)) n := by
  pointwise [outputs, gates]
  rfl

theorem products_at (v : FVec Ideal S4x4096x1024 .f32) (g : FVec Ideal S1024 .f32) (a : FVec Ideal S8x6144 .f32) (gu : FVec Ideal S1024x5632 .f32)
    (b : Fin 4) (s : Fin 4096) (n : Fin 5632) :
    (products v g (mods a) gu (ix3 b s n) : EReal)
      = prod (entering (fun k => a (ix2 ⟨b.val, by omega⟩ k)) (fun k => v (ix3 b s k)) (fun k => g (ix1 k))) (fun k n => gu (ix2 k n)) n := by
  have h4 := fun k => part_at a ![0, 0, 4096] slices_S4x1x6144_S4x1x1024_0_0_4096 4 rfl b k
  have h3 := fun k => part_at a ![0, 0, 3072] slices_S4x1x6144_S4x1x1024_0_0_3072 3 rfl b k
  pointwise [products, normed_at, every_at]
  simp only [h4, h3]
  rfl

variable (o : FVec Ideal S16384x1024 .f32) (oc wo : FVec Ideal S1024x1024 .f32) (x : FVec Ideal S4x4096x1024 .f32) (xc : FVec Ideal S4x256x1024 .f32)
  (a : FVec Ideal S8x6144 .f32) (post pre : FVec Ideal S1024 .f32) (gu : FVec Ideal S1024x5632 .f32) (dw : FVec Ideal S2816x1024 .f32)
  (fpost : FVec Ideal S1024 .f32)

/-- The latents after the projection, and after the layer. -/
def mixed : FVec Ideal S4x4096x1024 .f32 :=
  updated x (every (part (mods a) ![0, 0, 2048] slices_S4x1x6144_S4x1x1024_0_0_2048)) (projections o wo) post
def latents : FVec Ideal S4x4096x1024 .f32 :=
  updated (mixed o wo x a post) (every (part (mods a) ![0, 0, 5120] slices_S4x1x6144_S4x1x1024_0_0_5120))
    (outputs (products (mixed o wo x a post) pre (mods a) gu) dw) fpost

theorem mixed_at (b : Fin 4) (s : Fin 4096) (n : Fin 1024) :
    (mixed o wo x a post (ix3 b s n) : EReal)
      = projected (fun k => o (ix2 ⟨b.val * 4096 + s.val, by omega⟩ k)) (fun k => x (ix3 b s k)) (fun k => a (ix2 ⟨b.val, by omega⟩ k))
          (fun k n => wo (ix2 k n)) (fun k => post (ix1 k)) n := by
  have h2 := fun k => part_at a ![0, 0, 2048] slices_S4x1x6144_S4x1x1024_0_0_2048 2 rfl b k
  unfold mixed
  rw [updated_at]
  simp only [every_at, h2, projections_at]
  rfl

theorem latents_at (b : Fin 4) (s : Fin 4096) (n : Fin 1024) :
    (latents o wo x a post pre gu dw fpost (ix3 b s n) : EReal) = latent o wo x a post pre gu dw fpost b s n := by
  have h5 := fun k => part_at a ![0, 0, 5120] slices_S4x1x6144_S4x1x1024_0_0_5120 5 rfl b k
  unfold latents
  rw [updated_at]
  simp only [every_at, h5, outputs_at, products_at, mixed_at]
  rfl

end Cert.DenseReferenceIdeal.Value

end
-- ==== Proof.Dense.ReferenceContext.lean ====
/- The context's half of the dense layer's reference at an index, and the whole reference: the latents' rows, then the
   context's. -/
module

public import proofs.«01_k».proof.Proof.Dense.Reference

@[expose] public section

set_option maxRecDepth 65536

noncomputable section

namespace Cert.DenseReferenceIdeal.Value.Context

open Cert.DenseReferenceIdeal Cert.DenseReferenceIdeal.Gen Idealize.ShloMosaic Idealize.ShloMosaic.TcCoe Idealize.SL.Sem Cert.Dense.Layer
open Cert.DenseIdeal.Tile (latent context result)

set_option maxHeartbeats 1000000

/-- A vector, for every row. -/
def every (g : FVec Ideal S1024 .f32) : FVec Ideal S4x256x1024 .f32 :=
  broadcastInDim S4x256x1024 ![0, 1, 2] bcast_S1x1x1024_S4x256x1024_0_1_2 (broadcastInDim S1x1x1024 ![2] bcast_S1024_S1x1x1024_2 g)

/-- A chunk of the context's modulation. -/
def part (a : FVec Ideal S8x6144 .f32) (off : Fin 1 → ℕ) (h : S6144.Slices off S1024) : FVec Ideal S1024 .f32 :=
  extractStridedSlice S1024 off (shapeCast S6144 (extractStridedSlice S1x6144 ![4, 0] a slices_S8x6144_S1x6144_4_0) shapeCasts_S1x6144_S6144) h

/-- Rows over their root mean squares, times a gain. -/
def normed (v : FVec Ideal S4x256x1024 .f32) (g : FVec Ideal S1024 .f32) : FVec Ideal S4x256x1024 .f32 :=
  mulf (mulf v (broadcastInDim S4x256x1024 ![0, 1, 2] bcast_S4x256x1_S4x256x1024_0_1_2 (Host.rsqrt (addf (Host.divf (broadcastInDim S4x256x1 ![0, 1] bcast_S4x256_S4x256x1_0_1
      (Host.reduceAdd (mulf v v) (constant S_ .f32 0x00000000#32) reducesTo_S4x256x1024_S4x256_d2 h_S_)) (broadcastInDim S4x256x1 ![] bcast_S_S4x256x1 (constant S_ .f32 0x44800000#32)))
      (broadcastInDim S4x256x1 ![] bcast_S_S4x256x1 (constant S_ .f32 0x358637BD#32)))))) (every g)

/-- Rows and their gated update. -/
def updated (x v : FVec Ideal S4x256x1024 .f32) (gate g : FVec Ideal S1024 .f32) : FVec Ideal S4x256x1024 .f32 :=
  addf x (mulf (every gate) (normed v g))

/-- The output projection. -/
def projections (o wo : FVec Ideal S1024x1024 .f32) : FVec Ideal S4x256x1024 .f32 :=
  Host.dotGeneral dot_S4x256x1024_S1024x1024_S4x256x1024_2_0_01_1_n_n none (shapeCast _ o shapeCasts_S1024x1024_S4x256x1024) wo

/-- The gate and up products of the rows that enter the layer. -/
def products (v : FVec Ideal S4x256x1024 .f32) (g : FVec Ideal S1024 .f32) (a : FVec Ideal S8x6144 .f32) (gu : FVec Ideal S1024x5632 .f32) :
    FVec Ideal S4x256x5632 .f32 :=
  Host.dotGeneral dot_S4x256x1024_S1024x5632_S4x256x5632_2_0_01_1_n_n none
    (addf (mulf (normed v g) (every (addf (broadcastInDim S1024 ![] bcast_S_S1024 (constant S_ .f32 0x3F800000#32)) (part a ![4096] slices_S6144_S1024_4096))))
      (every (part a ![3072] slices_S6144_S1024_3072))) gu

/-- The gates among them. -/
def gates (p : FVec Ideal S4x256x5632 .f32) : FVec Ideal S4x256x2816 .f32 :=
  extractStridedSlice S4x256x2816 ![0, 0, 0] p slices_S4x256x5632_S4x256x2816_0_0_0

/-- The gated units' products with the down weights. -/
def outputs (p : FVec Ideal S4x256x5632 .f32) (dw : FVec Ideal S2816x1024 .f32) : FVec Ideal S4x256x1024 .f32 :=
  Host.dotGeneral dot_S4x256x2816_S2816x1024_S4x256x1024_2_0_01_1_n_n none
    (mulf (mulf (gates p) (Host.divf (broadcastInDim S4x256x2816 ![] bcast_S_S4x256x2816 (constant S_ .f32 0x3F800000#32))
      (addf (broadcastInDim S4x256x2816 ![] bcast_S_S4x256x2816 (constant S_ .f32 0x3F800000#32)) (Host.exp (Host.negf (gates p))))))
      (extractStridedSlice S4x256x2816 ![0, 0, 2816] p slices_S4x256x5632_S4x256x2816_0_0_2816)) dw

theorem every_at (g : FVec Ideal S1024 .f32) (b : Fin 4) (s : Fin 256) (n : Fin 1024) : every g (ix3 b s n) = g (ix1 n) := by
  pointwise [every]

theorem part_at (a : FVec Ideal S8x6144 .f32) (off : Fin 1 → ℕ) (h : S6144.Slices off S1024) (i : Fin 6) (e : off = ![1024 * i.val]) (n : Fin 1024) :
    (part a off h (ix1 n) : EReal) = chunk (fun k => a (ix2 4 k)) i n := by
  subst e
  pointwise [part]
  rfl

theorem normed_at (v : FVec Ideal S4x256x1024 .f32) (g : FVec Ideal S1024 .f32) (b : Fin 4) (s : Fin 256) (n : Fin 1024) :
    (normed v g (ix3 b s n) : EReal) = rms (fun k => v (ix3 b s k)) (fun k => g (ix1 k)) n := by
  pointwise [normed, every_at]
  rfl

theorem updated_at (x v : FVec Ideal S4x256x1024 .f32) (gate g : FVec Ideal S1024 .f32) (b : Fin 4) (s : Fin 256) (n : Fin 1024) :
    (updated x v gate g (ix3 b s n) : EReal)
      = plus (fun k => x (ix3 b s k)) (fun k => gate (ix1 k)) (fun k => v (ix3 b s k)) (fun k => g (ix1 k)) n := by
  pointwise [updated, normed_at, every_at]
  rfl

theorem projections_at (o wo : FVec Ideal S1024x1024 .f32) (b : Fin 4) (s : Fin 256) (n : Fin 1024) :
    (projections o wo (ix3 b s n) : EReal) = prod (fun k => o (ix2 ⟨b.val * 256 + s.val, by omega⟩ k)) (fun k n => wo (ix2 k n)) n := by
  pointwise [projections]
  rfl

theorem outputs_at (p : FVec Ideal S4x256x5632 .f32) (dw : FVec Ideal S2816x1024 .f32) (b : Fin 4) (s : Fin 256) (n : Fin 1024) :
    (outputs p dw (ix3 b s n) : EReal) = prod (units (fun k => p (ix3 b s k))) (fun j n => dw (ix2 j n)) n := by
  pointwise [outputs, gates]
  rfl

theorem products_at (v : FVec Ideal S4x256x1024 .f32) (g : FVec Ideal S1024 .f32) (a : FVec Ideal S8x6144 .f32) (gu : FVec Ideal S1024x5632 .f32)
    (b : Fin 4) (s : Fin 256) (n : Fin 5632) :
    (products v g a gu (ix3 b s n) : EReal)
      = prod (entering (fun k => a (ix2 4 k)) (fun k => v (ix3 b s k)) (fun k => g (ix1 k))) (fun k n => gu (ix2 k n)) n := by
  have h4 := fun k => part_at a ![4096] slices_S6144_S1024_4096 4 rfl k
  have h3 := fun k => part_at a ![3072] slices_S6144_S1024_3072 3 rfl k
  pointwise [products, normed_at, every_at]
  simp only [h4, h3]
  rfl

variable (o : FVec Ideal S16384x1024 .f32) (oc wo : FVec Ideal S1024x1024 .f32) (x : FVec Ideal S4x4096x1024 .f32) (xc : FVec Ideal S4x256x1024 .f32)
  (a : FVec Ideal S8x6144 .f32) (post pre : FVec Ideal S1024 .f32) (gu : FVec Ideal S1024x5632 .f32) (dw : FVec Ideal S2816x1024 .f32)
  (fpost : FVec Ideal S1024 .f32)

/-- The context after the projection, and after the layer. -/
def mixed : FVec Ideal S4x256x1024 .f32 := updated xc (projections oc wo) (part a ![2048] slices_S6144_S1024_2048) post
def contexts : FVec Ideal S4x256x1024 .f32 :=
  updated (mixed oc wo xc a post) (outputs (products (mixed oc wo xc a post) pre a gu) dw) (part a ![5120] slices_S6144_S1024_5120) fpost

theorem mixed_at (b : Fin 4) (s : Fin 256) (n : Fin 1024) :
    (mixed oc wo xc a post (ix3 b s n) : EReal)
      = projected (fun k => oc (ix2 ⟨b.val * 256 + s.val, by omega⟩ k)) (fun k => xc (ix3 b s k)) (fun k => a (ix2 4 k))
          (fun k n => wo (ix2 k n)) (fun k => post (ix1 k)) n := by
  have h2 := fun k => part_at a ![2048] slices_S6144_S1024_2048 2 rfl k
  unfold mixed
  rw [updated_at]
  simp only [h2, projections_at]
  rfl

theorem contexts_at (b : Fin 4) (s : Fin 256) (n : Fin 1024) :
    (contexts oc wo xc a post pre gu dw fpost (ix3 b s n) : EReal) = context oc wo xc a post pre gu dw fpost b s n := by
  have h5 := fun k => part_at a ![5120] slices_S6144_S1024_5120 5 rfl k
  unfold contexts
  rw [updated_at]
  simp only [h5, outputs_at, products_at, mixed_at]
  rfl

/-- The rows of both, the latents' first. -/
def joined : FVec Ideal S17408x1024 .f32 :=
  concatenate S17408x1024 0 [⟨S16384x1024, shapeCast _ (latents o wo x a post pre gu dw fpost) shapeCasts_S4x4096x1024_S16384x1024⟩,
    ⟨S1024x1024, shapeCast _ (contexts oc wo xc a post pre gu dw fpost) shapeCasts_S4x256x1024_S1024x1024⟩] concatenates_S16384x1024_S1024x1024_S17408x1024_d0

theorem joined_at (R : Fin 17408) (n : Fin 1024) :
    (joined o oc wo x xc a post pre gu dw fpost (ix2 R n) : EReal) = result o oc wo x xc a post pre gu dw fpost R n := by
  unfold result
  by_cases h : R.val < 16384
  · rw [dif_pos h, ← latents_at]
    pointwise [joined]
    simp only [h, ↓reduceIte, ↓reduceDIte]
  · rw [dif_neg h, ← contexts_at]
    pointwise [joined]
    simp only [h, ↓reduceIte, ↓reduceDIte]

variable (m : (ℓ : Loc nD τ sig) → Buf (Elt Ideal) ℓ)

/-- The printed result is the joined rows. -/
theorem run_joined (ρ : Dev nD → PrngReg) :
    θ_run defs (onTc (τ := τ) (main (F := Ideal))) ⟨m, fun _ => 0, ρ⟩ fun r => ∀ c : Dev nD,
      r.2.mem ((c.tc : Thread nD τ).loc main_v140)
          = joined (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ⟨(h c).1.trans ?_, (h c).2⟩) (run (F := Ideal) m ρ)
  unfold res_main_v120 res_main_v116 res_main_v115 res_main_v93 res_main_v76 res_main_v69 res_main_v50 res_main_v46 res_main_v45 res_main_v25
    res_main_v9 res_main_v2
  rfl

end Cert.DenseReferenceIdeal.Value.Context

end
-- ==== Proof.Latent.Tile.lean ====
/- What one grid point of the latent attention computes, by the vector operations of `Attn.Tile`: a block holds 2048
   queries of two heads in four row groups of 512; head `p` of a group has its own keys and values, of lane half `p`, and
   the two heads' quotients make one output tile. Everything here is over any number format. -/
module

public import proofs.«01_k».proof.Proof.Attn.Tile
public import proofs.«01_k».proof.Proof.Gen.LatentIdeal.Frame

@[expose] public section

set_option maxRecDepth 65536

noncomputable section

namespace Cert.LatentIdeal.Tile

open Cert.LatentIdeal Cert.LatentIdeal.Gen Idealize.ShloMosaic Idealize.ShloMosaic.TcCoe
open Cert.KernelIdeal.Tile (ctxKeys ctxVals latKeys latVals sums lower upper)

variable {F : FTy → Type} [FloatOps F]

/-- The queries of row group `s` and head `p`. -/
def queries (x0 : Vec F S2048x256 .bf16) (s : Fin 4) (p : Fin 2) : FVec F S512x128 .bf16 :=
  View.ld x0 (Rect.unit (s := S2048x256) ![512 * s.val, 128 * p.val] S512x128.size
    (by intro a; fin_cases a <;> fin_cases s <;> fin_cases p <;> decide))

/-- The weighted sums of row group `s` and head `p`, from the five blocks. -/
def blockSums (x0 : Vec F S2048x256 .bf16) (x1 : Vec F S1x2x256x128 .bf16) (x2 : Vec F S1x2x128x256 .bf16)
    (x3 : Vec F S1x2x4096x128 .bf16) (x4 : Vec F S1x2x128x4096 .bf16) (s : Fin 4) (p : Fin 2) : FVec F S128x512 .f32 :=
  sums (ctxKeys x1 p) (latKeys x3 p) (ctxVals x2 p) (latVals x4 p) (queries x0 s p)

/-- The output tile: one head's quotient in the lower lanes, the other's in the upper. -/
def tile (a b : FVec F S128x512 .f32) : FVec F S512x128 .bf16 :=
  truncf .bf16 (addf (lower a) (upper b)) Cert.LatentIdeal.Gen.bitsLt_bf16_f32

set_option maxHeartbeats 1000000 in
/-- What one grid point leaves in its output block. -/
theorem out_eq (c : Dev nD) (i : grid0.Coords) (arg3 : Memref sig .tc .vmem S2048x256 .bf16) (harg3 : arg3.IsWhole)
    (arg4 : Memref sig .tc .vmem S1x2x256x128 .bf16) (harg4 : arg4.IsWhole)
    (arg5 : Memref sig .tc .vmem S1x2x128x256 .bf16) (harg5 : arg5.IsWhole)
    (arg6 : Memref sig .tc .vmem S1x2x4096x128 .bf16) (harg6 : arg6.IsWhole)
    (arg7 : Memref sig .tc .vmem S1x2x128x4096 .bf16) (harg7 : arg7.IsWhole)
    (arg8 : Memref sig .tc .vmem S2048x128 .bf16) (harg8 : arg8.IsWhole)
    (arg9 : Memref sig .tc .vmem S4352x512 .f32) (harg9 : arg9.IsWhole)
    (arg10 : Memref sig .tc .vmem S4352x512 .f32) (harg10 : arg10.IsWhole)
    (x0 : Vec F S2048x256 .bf16) (x1 : Vec F S1x2x256x128 .bf16) (x2 : Vec F S1x2x128x256 .bf16)
    (x3 : Vec F S1x2x4096x128 .bf16) (x4 : Vec F S1x2x128x4096 .bf16) :
    out0_A_5 c i arg3 harg3 arg4 harg4 arg5 harg5 arg6 harg6 arg7 harg7 arg8 harg8 arg9 harg9 arg10 harg10 x0 x1 x2 x3 x4
      = View.canon
        [⟨Rect.unit (s := S2048x128) ![1536, 0] S512x128.size inb_S2048x128_S512x128_1536_0, tile (blockSums x0 x1 x2 x3 x4 3 0) (blockSums x0 x1 x2 x3 x4 3 1)⟩,
         ⟨Rect.unit (s := S2048x128) ![1024, 0] S512x128.size inb_S2048x128_S512x128_1024_0, tile (blockSums x0 x1 x2 x3 x4 2 0) (blockSums x0 x1 x2 x3 x4 2 1)⟩,
         ⟨Rect.unit (s := S2048x128) ![512, 0] S512x128.size inb_S2048x128_S512x128_512_0, tile (blockSums x0 x1 x2 x3 x4 1 0) (blockSums x0 x1 x2 x3 x4 1 1)⟩,
         ⟨Rect.unit (s := S2048x128) ![0, 0] S512x128.size inb_S2048x128_S512x128_0_0, tile (blockSums x0 x1 x2 x3 x4 0 0) (blockSums x0 x1 x2 x3 x4 0 1)⟩] := by
  unfold out0_A_5
  rw [View.read_writes_junk_eq_canon]
  frame_open
  simp (disch := decide) only [↓ View.readCov_skip, ↓ View.readCov_cons_toLoadRect]
  simp only [View.readAt_eq_ld, Memref.IsWhole.read_unread]
  unfold_payloads
  dsimp only
  unfold tile lower upper blockSums sums
  unfold Cert.KernelIdeal.Tile.ctxPart Cert.KernelIdeal.Tile.latPart Cert.KernelIdeal.Tile.ctxWeights
    Cert.KernelIdeal.Tile.latWeights Cert.KernelIdeal.Tile.peak Cert.KernelIdeal.Tile.latScores
    Cert.KernelIdeal.Tile.ctxScores Cert.KernelIdeal.Tile.latMax8 Cert.KernelIdeal.Tile.ctxMax8 latKeys ctxKeys latVals ctxVals
    queries
  dsimp only
  simp only [shapeCast_self]
  rfl

end Cert.LatentIdeal.Tile

end
-- ==== Proof.Latent.Spec.lean ====
/- The attention with latent keys at the extended reals: a score is a dot product over a head's 64 plain columns plus one
   over its 32 rotary columns, the rotary keys shared by the heads. The kernel holds both in one vector of 128 lanes, the
   last 32 of them zero. -/
module

public import proofs.«01_k».proof.Proof.Attn.Softmax

@[expose] public section

noncomputable section

namespace Cert.Latent

open Idealize.ShloMosaic Cert.Attn

/-- The factor of the scores, the reciprocal root of 96 as a number of 32 bits. -/
def factor : EReal := Ideal.ofBits .f32 0x3DD105EC#32

theorem factor_real : IsReal factor := by
  refine ⟨(0x3DD105EC % 2 ^ 23 + 2 ^ 23 : ℕ) * (2 : ℝ) ^ (-27 : ℤ), ?_⟩
  unfold factor
  simp [Ideal.ofBits, Ideal.ieee, -EReal.coe_mul]

/-- A head's 128 lanes from its 64 plain and its 32 rotary entries. -/
def lanes (a : Fin 64 → EReal) (b : Fin 32 → EReal) (d : Fin 128) : EReal :=
  if d.val < 64 then a ⟨d.val % 64, by omega⟩ else if d.val < 96 then b ⟨d.val % 32, by omega⟩ else 0

/-- A dot product over the lanes is one over the plain and the rotary entries. -/
theorem lanes_sum (k q : Fin 64 → EReal) (k' q' : Fin 32 → EReal) (s : EReal) :
    ∑ d : Fin 128, lanes k k' d * (lanes q q' d * s) = ∑ x, Sum.elim k k' x * (Sum.elim q q' x * s) := by
  have h1 : ∀ (a : Fin 64 → EReal) (b : Fin 32 → EReal) (d : Fin 64), lanes a b ⟨d.val, by omega⟩ = a d := fun a b d => by
    unfold lanes; rw [if_pos d.isLt]; exact congrArg a (Fin.ext (by dsimp only; omega))
  have h2 : ∀ (a : Fin 64 → EReal) (b : Fin 32 → EReal) (d : Fin 32), lanes a b ⟨64 + d.val, by omega⟩ = b d := fun a b d => by
    unfold lanes; rw [if_neg (by dsimp only; omega), if_pos (by dsimp only; omega)]
    exact congrArg b (Fin.ext (by dsimp only; omega))
  have h3 : ∀ (a : Fin 64 → EReal) (b : Fin 32 → EReal) (d : Fin 32), lanes a b ⟨64 + (32 + d.val), by omega⟩ = 0 := fun a b d => by
    unfold lanes; rw [if_neg (by dsimp only; omega), if_neg (by dsimp only; omega)]
  rw [Fintype.sum_sum_type]
  refine (Fin.sum_univ_add (a := 64) (b := 64) (fun d : Fin 128 => lanes k k' d * (lanes q q' d * s))).trans
    (congrArg₂ (· + ·) (Finset.sum_congr rfl fun d _ => ?_) ?_)
  · exact congrArg₂ (· * ·) (h1 k k' d) (congrArg (· * s) (h1 q q' d))
  · refine (Fin.sum_univ_add (a := 32) (b := 32) (fun d : Fin 64 => lanes k k' (Fin.natAdd 64 d) * (lanes q q' (Fin.natAdd 64 d) * s))).trans
      ((congrArg₂ (· + ·) (Finset.sum_congr rfl fun d _ => ?_) (Finset.sum_eq_zero fun d _ => ?_)).trans (add_zero _))
    · exact congrArg₂ (· * ·) (h2 k k' d) (congrArg (· * s) (h2 q q' d))
    · exact (congrArg (· * _) (h3 k k' d)).trans (zero_mul _)

variable (qn : (⟨2, ![17408, 1024]⟩ : Shape).Idx → EReal) (qr : (⟨2, ![17408, 512]⟩ : Shape).Idx → EReal)
  (kn : (⟨2, ![17408, 1024]⟩ : Shape).Idx → EReal) (kr : (⟨2, ![17408, 32]⟩ : Shape).Idx → EReal)
  (v : (⟨2, ![17408, 1024]⟩ : Shape).Idx → EReal)

/-- The entries of head `h`'s query at row `R`, and of its key at row `R`: plain, then rotary. -/
def queryEntry (R : Fin 17408) (h : Fin 16) : Fin 64 ⊕ Fin 32 → EReal :=
  Sum.elim (fun d => qn (ix2 R ⟨64 * h.val + d.val, by omega⟩)) (fun d => qr (ix2 R ⟨32 * h.val + d.val, by omega⟩))
def keyEntry (R : Fin 17408) (h : Fin 16) : Fin 64 ⊕ Fin 32 → EReal :=
  Sum.elim (fun d => kn (ix2 R ⟨64 * h.val + d.val, by omega⟩)) (fun d => kr (ix2 R d))

/-- The dot product of the query at row `R`, head `h`, with key `r` of its batch element. -/
def dots (R : Fin 16384) (h : Fin 16) (r : Fin 4352) : EReal :=
  ∑ x, keyEntry kn kr (keyRow ⟨R.val / 4096, by omega⟩ r) h x * queryEntry qn qr ⟨R.val, by omega⟩ h x

/-- The attention's result at row `R`, column `C`, with `M` subtracted from every score. -/
def spec (M : ℝ) (R : Fin 16384) (C : Fin 1024) : EReal :=
  ∑ r : Fin 4352, v (ix2 (keyRow ⟨R.val / 4096, by omega⟩ r) C)
    * Ideal.div (Ideal.exp (dots qn qr kn kr R ⟨C.val / 64, by omega⟩ r * factor - M))
        (∑ r, Ideal.exp (dots qn qr kn kr R ⟨C.val / 64, by omega⟩ r * factor - M))

end Cert.Latent

end
-- ==== Proof.Latent.Prep.lean ====
/- The arrays the latent attention is launched on, from the five arguments: a query's two parts in one vector of 128 lanes,
   scaled, a key's likewise, and the values of one head, transposed, with one lane of ones in the other half. -/
module

public import proofs.«01_k».proof.Proof.Latent.Tile
public import proofs.«01_k».proof.Proof.Latent.Spec
public import proofs.«01_k».proof.Proof.Attn.Prep
public import Idealize.ShloMosaic.Lib.StableHlo.ReadAt
public import proofs.«01_k».proof.Proof.Gen.LatentIdeal.Value

@[expose] public section

noncomputable section

namespace Cert.LatentIdeal.Tile

open Cert.LatentIdeal Cert.LatentIdeal.Gen Idealize.ShloMosaic Idealize.ShloMosaic.TcCoe Idealize.SL.Sem Cert.Attn Cert.Latent
open Cert.KernelIdeal.Tile (select_lt select_ge select_eq)

set_option maxHeartbeats 4000000
set_option maxRecDepth 65536

variable (m : (ℓ : Loc nD τ sig) → Buf (Elt Ideal) ℓ) (c : Dev nD)

/-- The five arguments. -/
def argQn : S17408x1024.Idx → EReal := m ((c : Thread nD τ).loc main_arg0)
def argQr : S17408x512.Idx → EReal := m ((c : Thread nD τ).loc main_arg1)
def argKn : S17408x1024.Idx → EReal := m ((c : Thread nD τ).loc main_arg2)
def argKr : S17408x32.Idx → EReal := m ((c : Thread nD τ).loc main_arg3)
def argV : S17408x1024.Idx → EReal := m ((c : Thread nD τ).loc main_arg4)

/-- The packed queries, the packed keys and the packed, transposed values. -/
def arrQ : S17408x2048.Idx → EReal := V m c main_v10
def arrK : S8x2x17408x128.Idx → EReal := V m c main_v18
def arrV : S8x2x128x17408.Idx → EReal := V m c main_v43

/-- The factor the queries are scaled by: that of the scores over the logarithm of two. -/
def scale : EReal := Ideal.div factor (Ideal.log (Ideal.ofBits .f32 0x40000000#32))

theorem prepQ (r : Fin 17408) (l : Fin 2048) :
    arrQ m c (ix2 r l) = lanes (fun d => argQn m c (ix2 r ⟨64 * (l.val / 128) + d.val, by omega⟩))
      (fun d => argQr m c (ix2 r ⟨32 * (l.val / 128) + d.val, by omega⟩)) ⟨l.val % 128, by omega⟩ * scale := by
  unfold arrQ V
  after_reads_at
  refine congrArg (· * scale) ?_
  unfold lanes
  dsimp only
  by_cases h : l.val % 128 < 64
  · rw [dif_pos h, if_pos h]
    after_reads_at
    refine congrArg (m (c, Proc.tc.devRef main_arg0)) ?_
    congr 1; apply Fin.ext; dsimp only; omega
  · rw [dif_neg h, if_neg h]
    by_cases h2 : l.val % 128 < 96
    · rw [dif_pos (by omega), if_pos h2]
      after_reads_at
      refine congrArg (m (c, Proc.tc.devRef main_arg1)) ?_
      congr 1; apply Fin.ext; dsimp only; omega
    · rw [dif_neg (by omega), if_neg h2]
      after_reads_at

theorem prepK (g : Fin 8) (p : Fin 2) (r : Fin 17408) (l : Fin 128) :
    arrK m c (ix4 g p r l) = lanes (fun d => argKn m c (ix2 r ⟨64 * (2 * g.val + p.val) + d.val, by omega⟩))
      (fun d => argKr m c (ix2 r d)) l := by
  unfold arrK V
  after_reads_at
  unfold lanes
  dsimp only
  by_cases h : l.val < 64
  · rw [dif_pos h, if_pos h]
    after_reads_at
    refine congrArg (m (c, Proc.tc.devRef main_arg2)) ?_
    congr 1; apply Fin.ext; dsimp only; omega
  · rw [dif_neg h, if_neg h]
    by_cases h2 : l.val < 96
    · rw [dif_pos (by omega), if_pos h2]
      after_reads_at
      refine congrArg (m (c, Proc.tc.devRef main_arg3)) ?_
      congr 1; apply Fin.ext; dsimp only; omega
    · rw [dif_neg (by omega), if_neg h2]
      after_reads_at

/-- The values of the first head of a pair in the lower lane half, a one in the last lane. -/
theorem prepV0 (g : Fin 8) (r : Fin 17408) (l : Fin 128) :
    arrV m c (ix4 g 0 l r)
      = if l.val < 64 then argV m c (ix2 r ⟨128 * g.val + l.val % 64, by omega⟩) else (if l.val = 127 then (1 : EReal) else 0) := by
  unfold arrV V
  after_reads_at
  after_reads_at
  rw [select_lt]
  by_cases h : l.val < 64
  · simp only [h, ↓reduceIte, ↓reduceDIte, id_eq]
    after_reads_at
    refine congrArg (m (c, Proc.tc.devRef main_arg4)) ?_
    congr 1; apply Fin.ext; dsimp only; omega
  · simp only [h, ↓reduceIte, ↓reduceDIte, id_eq]
    pointwise
    exact select_eq l 127 (by decide) _ _

/-- The values of the second head of a pair in the upper lane half, a one in the first lane. -/
theorem prepV1 (g : Fin 8) (r : Fin 17408) (l : Fin 128) :
    arrV m c (ix4 g 1 l r)
      = if l.val < 64 then (if l.val = 0 then (1 : EReal) else 0) else argV m c (ix2 r ⟨128 * g.val + (64 + l.val % 64), by omega⟩) := by
  unfold arrV V
  after_reads_at
  after_reads_at
  rw [select_ge]
  by_cases h : l.val < 64
  · simp only [h, ↓reduceIte, ↓reduceDIte, id_eq]
    pointwise
    exact select_eq l 0 (by decide) _ _
  · simp only [h, ↓reduceIte, ↓reduceDIte, id_eq]
    after_reads_at
    refine congrArg (m (c, Proc.tc.devRef main_arg4)) ?_
    congr 1; apply Fin.ext; dsimp only; omega

end Cert.LatentIdeal.Tile

end
-- ==== Proof.Latent.Blocks.lean ====
/- One grid point's blocks of the latent attention at an index, from the five arguments: the values and the scores of the
   point's batch element and pair of heads. -/
module

public import proofs.«01_k».proof.Proof.Latent.Prep

@[expose] public section

noncomputable section

namespace Cert.LatentIdeal.Tile

open Cert.LatentIdeal Cert.LatentIdeal.Gen Idealize.ShloMosaic Idealize.ShloMosaic.TcCoe Idealize.SL.Sem Cert.Attn Cert.Latent
open Cert.KernelIdeal.Tile (lower upper lower_at upper_at value scoreOf scoreOf_inl scoreOf_inr)

set_option maxHeartbeats 1000000

theorem queries_at (x0 : Vec Ideal S2048x256 .bf16) (s : Fin 4) (p : Fin 2) (n : Fin 512) (d : Fin 128) :
    queries x0 s p (ix2 n d) = x0 (ix2 ⟨512 * s.val + n.val, by omega⟩ ⟨128 * p.val + d.val, by omega⟩) := by
  pointwise [queries]

/-- An output element of a row group: the quotient of its own lane half. -/
theorem tile_at (a b : FVec Ideal S128x512 .f32) (n : Fin 512) (l : Fin 128) :
    tile a b (ix2 n l) = if l.val < 64 then Ideal.div (a (ix2 l n)) (a (ix2 127 n)) else Ideal.div (b (ix2 l n)) (b (ix2 0 n)) := by
  pointwise [tile]; rw [lower_at, upper_at]; split <;> simp

theorem idx0 : ∀ t : Fin cfg0.N, win0_0.index t = ![t.val / 16 * 2 + t.val % 2, t.val / 2 % 8] := by decide +kernel
theorem idx1 : ∀ t : Fin cfg0.N, win0_1.index t = ![t.val / 2 % 8, 0, 64 + t.val / 16, 0] := by decide +kernel
theorem idx2 : ∀ t : Fin cfg0.N, win0_2.index t = ![t.val / 2 % 8, 0, 0, 64 + t.val / 16] := by decide +kernel
theorem idx3 : ∀ t : Fin cfg0.N, win0_3.index t = ![t.val / 2 % 8, 0, t.val / 16, 0] := by decide +kernel
theorem idx4 : ∀ t : Fin cfg0.N, win0_4.index t = ![t.val / 2 % 8, 0, 0, t.val / 16] := by decide +kernel
theorem idx5 : ∀ t : Fin cfg0.N, win0_5.index t = ![t.val / 16 * 2 + t.val % 2, t.val / 2 % 8] := by decide +kernel

theorem t_lt (t : Fin cfg0.N) : t.val < 64 := t.isLt

variable (m : (ℓ : Loc nD τ sig) → Buf (Elt Ideal) ℓ) (c : Dev nD) (t : Fin cfg0.N)

/-- The point's batch element and pair of heads. -/
def batch : Fin 4 := ⟨t.val / 16, by have := t_lt t; omega⟩
def pair : Fin 8 := ⟨t.val / 2 % 8, by omega⟩

theorem blk0 (r : Fin 2048) (l : Fin 256) :
    (X0_0 m c t : Vec Ideal S2048x256 .bf16) (ix2 r l)
      = arrQ m c (ix2 ⟨2048 * (t.val / 16 * 2 + t.val % 2) + r.val, by have := t_lt t; omega⟩
         ⟨256 * (t.val / 2 % 8) + l.val, by omega⟩) := by
  unfold X0_0 Pipeline.Window.fill
  rw [dif_pos (moved0_0 t _)]
  blk_ext! [iblk, idx0 t]

theorem blk1 (p : Fin 2) (r : Fin 256) (l : Fin 128) :
    (iblk m c 1 t : Vec Ideal S1x2x256x128 .bf16) (ix4 0 p r l)
      = arrK m c (ix4 (pair t) p ⟨16384 + 256 * (t.val / 16) + r.val, by have := t_lt t; omega⟩ l) := by
  unfold pair
  blk_ext! [iblk, idx1 t]

theorem blk2 (p : Fin 2) (l : Fin 128) (r : Fin 256) :
    (iblk m c 2 t : Vec Ideal S1x2x128x256 .bf16) (ix4 0 p l r)
      = arrV m c (ix4 (pair t) p l ⟨16384 + 256 * (t.val / 16) + r.val, by have := t_lt t; omega⟩) := by
  unfold pair
  blk_ext! [iblk, idx2 t]

theorem blk3 (p : Fin 2) (r : Fin 4096) (l : Fin 128) :
    (X0_3 m c t : Vec Ideal S1x2x4096x128 .bf16) (ix4 0 p r l)
      = arrK m c (ix4 (pair t) p ⟨4096 * (t.val / 16) + r.val, by have := t_lt t; omega⟩ l) := by
  unfold X0_3 Pipeline.Window.fill pair
  rw [dif_pos (moved0_3 t _)]
  blk_ext! [iblk, idx3 t]

theorem blk4 (p : Fin 2) (l : Fin 128) (r : Fin 4096) :
    (X0_4 m c t : Vec Ideal S1x2x128x4096 .bf16) (ix4 0 p l r)
      = arrV m c (ix4 (pair t) p l ⟨4096 * (t.val / 16) + r.val, by have := t_lt t; omega⟩) := by
  unfold X0_4 Pipeline.Window.fill pair
  rw [dif_pos (moved0_4 t _)]
  blk_ext! [iblk, idx4 t]

/-- The values of the point, lane by lane of half `p`. -/
theorem value_at (p : Fin 2) (l : Fin 128) (k : Fin 256 ⊕ Fin 4096) :
    value (iblk m c 2 t) (X0_4 m c t) p l k = arrV m c (ix4 (pair t) p l (keyRow (batch t) (key k))) := by
  cases k with
  | inl r => rw [keyRow_inl]; exact blk2 m c t p l r
  | inr r => rw [keyRow_inr]; exact blk4 m c t p l r

/-- The scores of the point: dot products over 128 lanes. -/
theorem score_at (s : Fin 4) (p : Fin 2) (n : Fin 512) (k : Fin 256 ⊕ Fin 4096) :
    scoreOf (iblk m c 1 t) (X0_3 m c t) p (queries (X0_0 m c t) s p) n k
      = ∑ d : Fin 128, arrK m c (ix4 (pair t) p (keyRow (batch t) (key k)) d)
          * arrQ m c (ix2 ⟨2048 * (t.val / 16 * 2 + t.val % 2) + (512 * s.val + n.val), by have := t_lt t; omega⟩
              ⟨256 * (t.val / 2 % 8) + (128 * p.val + d.val), by omega⟩) := by
  cases k with
  | inl r =>
    rw [keyRow_inl, scoreOf_inl]
    refine Finset.sum_congr rfl fun d _ => ?_
    rw [queries_at, blk0]
    exact congrArg (· * _) (blk1 m c t p r d)
  | inr r =>
    rw [keyRow_inr, scoreOf_inr]
    refine Finset.sum_congr rfl fun d _ => ?_
    rw [queries_at, blk0]
    exact congrArg (· * _) (blk3 m c t p r d)

/-- The same as a dot product over the plain and the rotary entries of head `h`. -/
theorem score_entries (s : Fin 4) (p : Fin 2) (n : Fin 512) (k : Fin 256 ⊕ Fin 4096) (R : Fin 17408) (h : Fin 16)
    (hR : R.val = 2048 * (t.val / 16 * 2 + t.val % 2) + (512 * s.val + n.val)) (hh : h.val = 2 * (t.val / 2 % 8) + p.val) :
    scoreOf (iblk m c 1 t) (X0_3 m c t) p (queries (X0_0 m c t) s p) n k
      = ∑ x, keyEntry (argKn m c) (argKr m c) (keyRow (batch t) (key k)) h x
          * (queryEntry (argQn m c) (argQr m c) R h x * scale) := by
  rw [score_at]
  unfold keyEntry queryEntry
  rw [← lanes_sum]
  refine Finset.sum_congr rfl fun d _ => ?_
  rw [prepK, prepQ]
  have e1 : (⟨(256 * (t.val / 2 % 8) + (128 * p.val + d.val)) % 128, by omega⟩ : Fin 128) = d := Fin.ext (by dsimp only; omega)
  have e2 : (256 * (t.val / 2 % 8) + (128 * p.val + d.val)) / 128 = h.val := by omega
  have e3 : (⟨2048 * (t.val / 16 * 2 + t.val % 2) + (512 * s.val + n.val), by have := t_lt t; omega⟩ : Fin 17408) = R := Fin.ext hR.symm
  have e4 : 2 * (pair t).val + p.val = h.val := hh.symm
  simp only [e1, e2, e3, e4]

end Cert.LatentIdeal.Tile

end
-- ==== Proof.Latent.Final.lean ====
/- The latent attention's whole result: at every row and column the attention of the specification, for whatever real
   numbers one subtracts from the scores, when every entry of the queries and the keys is real. -/
module

public import proofs.«01_k».proof.Defs
public import proofs.«01_k».proof.Proof.Gen.Pre_scores_finite
public import proofs.«01_k».proof.Proof.Latent.Blocks
public import proofs.«01_k».proof.Proof.Attn.Final

@[expose] public section

noncomputable section

namespace Cert.LatentIdeal.Tile

open Cert.LatentIdeal Cert.LatentIdeal.Gen Idealize.ShloMosaic Idealize.ShloMosaic.TcCoe Idealize.SL.Sem Cert.Latent
open Cert.Attn hiding dots spec
open Cert.KernelIdeal.Tile (scoreOf sums_quotient real_of_lt)

set_option maxHeartbeats 1000000

variable (m : (ℓ : Loc nD τ sig) → Buf (Elt Ideal) ℓ) (c : Dev nD)

theorem scale_eq (f : ℝ) (hf : factor = f) : scale = ((f * (1 / Real.log 2) : ℝ) : EReal) := by
  have h : Real.log 2 ≠ 0 := (Real.log_pos one_lt_two).ne'
  unfold scale
  rw [hf, two, Ideal.log_coe, if_neg (by norm_num), Ideal.div_coe h, EReal.coe_mul]

/-- The packed values of head `p` of a pair, at a lane of its half. -/
theorem arrV_half (g : Fin 8) (p : Fin 2) (r : Fin 17408) (l : Fin 128) (h : l.val / 64 = p.val) :
    arrV m c (ix4 g p l r) = argV m c (ix2 r ⟨128 * g.val + l.val, by omega⟩) := by
  match p, h with
  | 0, h =>
    have h : l.val / 64 = 0 := h
    rw [prepV0, if_pos (by omega)]
    exact congrArg (fun x => argV m c (ix2 r x)) (Fin.ext (by dsimp only; omega))
  | 1, h =>
    have h : l.val / 64 = 1 := h
    rw [prepV1, if_neg (by omega)]
    exact congrArg (fun x => argV m c (ix2 r x)) (Fin.ext (by dsimp only; omega))

theorem arrV_one0 (g : Fin 8) (r : Fin 17408) : arrV m c (ix4 g 0 127 r) = 1 := by
  rw [prepV0, if_neg (by decide), if_pos (by decide)]

theorem arrV_one1 (g : Fin 8) (r : Fin 17408) : arrV m c (ix4 g 1 0 r) = 1 := by
  rw [prepV1, if_pos (by decide), if_pos (by decide)]

/-- Every entry of the queries and of the keys is a real number. -/
structure Reals : Prop where
  qn : ∀ i, IsReal (argQn m c i)
  qr : ∀ i, IsReal (argQr m c i)
  kn : ∀ i, IsReal (argKn m c i)
  kr : ∀ i, IsReal (argKr m c i)

variable (hr : Reals m c)

include hr in
theorem query_real (R : Fin 17408) (h : Fin 16) (x) : IsReal (queryEntry (argQn m c) (argQr m c) R h x) := by
  cases x with
  | inl d => exact hr.qn _
  | inr d => exact hr.qr _

include hr in
theorem key_real (R : Fin 17408) (h : Fin 16) (x) : IsReal (keyEntry (argKn m c) (argKr m c) R h x) := by
  cases x with
  | inl d => exact hr.kn _
  | inr d => exact hr.kr _

/-- The blocks' sums at point `t`. -/
def pointSums (t : Fin cfg0.N) (s : Fin 4) (p : Fin 2) : FVec Ideal S128x512 .f32 :=
  blockSums (X0_0 m c t) (iblk m c 1 t) (iblk m c 2 t) (X0_3 m c t) (X0_4 m c t) s p

include hr in
/-- The quotient the kernel forms for row `R`, column `C` of the result is the specification's value there. -/
theorem quotient_spec (t : Fin cfg0.N) (s : Fin 4) (p : Fin 2) (n : Fin 512) (e one : Fin 128) (he : e.val / 64 = p.val)
    (hone : ∀ r, arrV m c (ix4 (pair t) p one r) = 1) (M : ℝ) (R : Fin 16384) (C : Fin 1024)
    (hR : R.val = 2048 * (t.val / 16 * 2 + t.val % 2) + (512 * s.val + n.val))
    (hC : C.val = 128 * (t.val / 2 % 8) + e.val) :
    Ideal.div (pointSums m c t s p (ix2 e n)) (pointSums m c t s p (ix2 one n))
      = spec (argQn m c) (argQr m c) (argKn m c) (argKr m c) (argV m c) M R C := by
  have ht := t_lt t
  have hb : (⟨R.val / 4096, by omega⟩ : Fin 4) = batch t := Fin.ext (by unfold batch; dsimp only; omega)
  obtain ⟨f, hf⟩ := factor_real
  have hl : Real.log 2 ≠ 0 := (Real.log_pos one_lt_two).ne'
  have hD : ∀ k, ∃ D : ℝ, dots (argQn m c) (argQr m c) (argKn m c) (argKr m c) R ⟨C.val / 64, by omega⟩ (key k) = (D : EReal)
      ∧ scoreOf (iblk m c 1 t) (X0_3 m c t) p (queries (X0_0 m c t) s p) n k = ((D * (f * (1 / Real.log 2)) : ℝ) : EReal) := fun k => by
    obtain ⟨D, h1, h2⟩ := dot_scaled _ _ (key_real m c hr (keyRow ⟨R.val / 4096, by omega⟩ (key k)) ⟨C.val / 64, by omega⟩)
      (query_real m c hr ⟨R.val, by omega⟩ ⟨C.val / 64, by omega⟩) (f * (1 / Real.log 2))
    refine ⟨D, h1, ?_⟩
    rw [score_entries m c t s p n k ⟨R.val, by omega⟩ ⟨C.val / 64, by omega⟩ hR (by dsimp only; omega), ← h2, ← scale_eq f hf, hb]
  choose D hdots hscore using hD
  refine (sums_quotient _ _ _ _ p _ n e one _ M hscore (fun k => by rw [value_at]; exact hone _)).trans ?_
  have hx : ∀ k, ((D k * (f * (1 / Real.log 2)) * Real.log 2 : ℝ) : EReal)
      = dots (argQn m c) (argQr m c) (argKn m c) (argKr m c) R ⟨C.val / 64, by omega⟩ (key k) * factor := fun k => by
    rw [hdots, hf, ← EReal.coe_mul]; congr 1; field_simp
  simp only [hx, value_at]
  unfold spec
  rw [← key.sum_comp, ← key.sum_comp (fun r => Ideal.exp
    (dots (argQn m c) (argQr m c) (argKn m c) (argKr m c) R ⟨C.val / 64, by omega⟩ r * factor - M))]
  refine Finset.sum_congr rfl fun k _ => ?_
  rw [arrV_half m c _ _ _ _ he, hb]
  refine congrArg (· * _) (congrArg (argV m c) (congrArg₂ ix2 rfl (Fin.ext ?_)))
  unfold pair; dsimp only; omega

/-- The tile of row group `s` at point `t`. -/
def pointTile (t : Fin cfg0.N) (s : Fin 4) : Vec Ideal S512x128 .bf16 := tile (pointSums m c t s 0) (pointSums m c t s 1)

include hr in
theorem tile_spec (t : Fin cfg0.N) (M : ℝ) (s : Fin 4) (n : Fin 512) (l : Fin 128) (R : Fin 16384) (C : Fin 1024)
    (hR : R.val = 2048 * (t.val / 16 * 2 + t.val % 2) + (512 * s.val + n.val)) (hC : C.val = 128 * (t.val / 2 % 8) + l.val) :
    pointTile m c t s (ix2 n l) = spec (argQn m c) (argQr m c) (argKn m c) (argKr m c) (argV m c) M R C := by
  unfold pointTile
  rw [tile_at]
  split
  · exact quotient_spec m c hr t s 0 n l 127 (by show l.val / 64 = 0; omega) (arrV_one0 m c _) M R C hR hC
  · exact quotient_spec m c hr t s 1 n l 0 (by show l.val / 64 = 1; omega) (arrV_one1 m c _) M R C hR hC

/-- Four stored tiles that agree with one function of row and lane. -/
theorem canon_four (T : Fin 4 → Vec Ideal S512x128 .bf16) (G : Fin 2048 → Fin 128 → EReal)
    (h : ∀ (s : Fin 4) (n : Fin 512) (l : Fin 128), T s (ix2 n l) = G ⟨512 * s.val + n.val, by omega⟩ l)
    (r : Fin 2048) (l : Fin 128) :
    View.canon (Val := Elt Ideal) (e := .bf16)
        [⟨Rect.unit (s := S2048x128) ![1536, 0] S512x128.size inb_S2048x128_S512x128_1536_0, T 3⟩,
         ⟨Rect.unit (s := S2048x128) ![1024, 0] S512x128.size inb_S2048x128_S512x128_1024_0, T 2⟩,
         ⟨Rect.unit (s := S2048x128) ![512, 0] S512x128.size inb_S2048x128_S512x128_512_0, T 1⟩,
         ⟨Rect.unit (s := S2048x128) ![0, 0] S512x128.size inb_S2048x128_S512x128_0_0, T 0⟩] (ix2 r l)
      = G r l := by
  have g : ∀ (s : Fin 4) (x : S512x128.Idx) (y : S2048x128.Idx) (ha : (y 0).val = 512 * s.val + (x 0).val)
      (hb : (y 1).val = (x 1).val), T s x = G (y 0) (y 1) := fun s x y ha hb => by
    exact (congrArg (T s) (eq_ix2 x)).trans ((h s (x 0) (x 1)).trans (congrArg₂ G (Fin.ext ha.symm) (Fin.ext hb.symm)))
  refine (View.canon_apply_of_pieces (Val := Elt Ideal) (e := .bf16) (fun y : S2048x128.Idx => G (y 0) (y 1)) _ ?_ _ ?_).trans rfl
  · intro q hq x
    simp only [List.mem_cons, List.not_mem_nil, or_false] at hq
    rcases hq with rfl | rfl | rfl | rfl
    · exact g 3 x _ (by show 1536 + 1 * (x 0).val = 512 * 3 + (x 0).val; omega) (by show 0 + 1 * (x 1).val = (x 1).val; omega)
    · exact g 2 x _ (by show 1024 + 1 * (x 0).val = 512 * 2 + (x 0).val; omega) (by show 0 + 1 * (x 1).val = (x 1).val; omega)
    · exact g 1 x _ (by show 512 + 1 * (x 0).val = 512 * 1 + (x 0).val; omega) (by show 0 + 1 * (x 1).val = (x 1).val; omega)
    · exact g 0 x _ (by show 0 + 1 * (x 0).val = 512 * 0 + (x 0).val; omega) (by show 0 + 1 * (x 1).val = (x 1).val; omega)
  · simp only [List.mem_cons, List.not_mem_nil, or_false, exists_eq_or_imp, exists_eq_left, Rect.mem_set_unit]
    have hr := r.isLt
    have hl := l.isLt
    simp only [Fin.forall_fin_two, ix2]
    simp
    omega

/-- What a point leaves in its output block, element by element. -/
theorem canon_cell (t : Fin cfg0.N) (r : Fin 2048) (l : Fin 128) :
    (outsAt0 m c t : Vec Ideal S2048x128 .bf16) (ix2 r l)
      = pointTile m c t ⟨r.val / 512, by omega⟩ (ix2 ⟨r.val % 512, by omega⟩ l) := by
  unfold outsAt0
  rw [out_eq]
  refine canon_four (pointTile m c t) (fun r l => pointTile m c t ⟨r.val / 512, by omega⟩ (ix2 ⟨r.val % 512, by omega⟩ l))
    (fun s n l => ?_) r l
  have e1 : (⟨(512 * s.val + n.val) / 512, by omega⟩ : Fin 4) = s := Fin.ext (by dsimp only; omega)
  have e2 : (⟨(512 * s.val + n.val) % 512, by omega⟩ : Fin 512) = n := Fin.ext (by dsimp only; omega)
  dsimp only
  rw [e1, e2]

include hr in
/-- The result array after the run. -/
theorem final (M : Fin 16384 → Fin 1024 → ℝ) :
    (dats m 0 c).arrAt 5 cfg0.N
      = fun i : S16384x1024.Idx => spec (argQn m c) (argQr m c) (argKn m c) (argKr m c) (argV m c) (M (i 0) (i 1)) (i 0) (i 1) := by
  refine (dats m 0 c).arrAt_eq_of_covers 5 _ (by decide +kernel) fun t hf y => ?_
  blk_simp
  rw [after0_5]
  revert y
  intro (y : S2048x128.Idx)
  have e0 : ((win0_5.blk t).view.emb y 0).val = win0_5.index t 0 * 2048 + 1 * (y 0).val := rfl
  have e1 : ((win0_5.blk t).view.emb y 1).val = win0_5.index t 1 * 128 + 1 * (y 1).val := rfl
  rw [idx5 t] at e0 e1
  refine (congrArg (outsAt0 m c t : Vec Ideal S2048x128 .bf16) (eq_ix2 y)).trans ((canon_cell m c t (y 0) (y 1)).trans ?_)
  refine tile_spec m c hr t _ _ _ _ _ _ (e0.trans ?_) (e1.trans ?_)
  · show (t.val / 16 * 2 + t.val % 2) * 2048 + 1 * (y 0).val = 2048 * _ + (512 * ((y 0).val / 512) + (y 0).val % 512); omega
  · show (t.val / 2 % 8) * 128 + 1 * (y 1).val = _; omega

/-- The precondition: every entry of the queries and the keys is real. -/
theorem real_of_pre (h : Cert.Pre_LatentIdeal_scores_finite m) : Reals m c := by
  have h := congrFun (h c) (Shape.Idx.first Cert.Pre_scores_finite.Gen.h_S_)
  dsimp only [Cert.Pre_scores_finite.fn, Cert.Pre_scores_finite.fn_part1] at h
  obtain ⟨h, h4⟩ := IntOp.andi_eq_one.1 h
  obtain ⟨h, h3⟩ := IntOp.andi_eq_one.1 h
  obtain ⟨h1, h2⟩ := IntOp.andi_eq_one.1 h
  haveI : Subsingleton Cert.Pre_scores_finite.S_.Idx := ⟨fun a b => funext fun d => d.elim0⟩
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i), fun i => real_of_lt _ (Host.reduce_andi_all _ _ _ _ _ h4 i)⟩

end Cert.LatentIdeal.Tile

end
-- ==== Proof.Latent.Reference.lean ====
/- The latent attention's reference at an index: the softmax of the scaled sums of the plain and the rotary dot products of
   a query with the context keys and the latent keys of its batch element, times the values. -/
module

public import proofs.«01_k».proof.Proof.Gen.LatentReferenceIdeal.Run
public import proofs.«01_k».proof.Proof.Latent.Spec
public import Idealize.ShloMosaic.Lib.Tactic.CleanTypes

@[expose] public section

noncomputable section

namespace Cert.LatentReferenceIdeal.Value

open Cert.LatentReferenceIdeal Cert.LatentReferenceIdeal.Gen Idealize.ShloMosaic Idealize.ShloMosaic.TcCoe Idealize.SL.Sem Cert.Latent
open Cert.Attn hiding dots spec

set_option maxHeartbeats 4000000
set_option maxRecDepth 65536

/-- The plain keys (or the values) of every head: the 256 context rows of a batch element, then its 4096 latent rows. -/
def joined (k : FVec Ideal S17408x1024 .f32) : FVec Ideal S4x4352x16x64 .f32 :=
  concatenate S4x4352x16x64 1
    [⟨S4x256x16x64, shapeCast S4x256x16x64 (extractStridedSlice S1024x1024 ![16384, 0] k slices_S17408x1024_S1024x1024_16384_0) shapeCasts_S1024x1024_S4x256x16x64⟩,
     ⟨S4x4096x16x64, shapeCast S4x4096x16x64 (extractStridedSlice S16384x1024 ![0, 0] k slices_S17408x1024_S16384x1024_0_0) shapeCasts_S16384x1024_S4x4096x16x64⟩]
    concatenates_S4x256x16x64_S4x4096x16x64_S4x4352x16x64_d1

/-- The rotary keys, likewise. -/
def joinedRotary (k : FVec Ideal S17408x32 .f32) : FVec Ideal S4x4352x32 .f32 :=
  concatenate S4x4352x32 1
    [⟨S4x256x32, shapeCast S4x256x32 (extractStridedSlice S1024x32 ![16384, 0] k slices_S17408x32_S1024x32_16384_0) shapeCasts_S1024x32_S4x256x32⟩,
     ⟨S4x4096x32, shapeCast S4x4096x32 (extractStridedSlice S16384x32 ![0, 0] k slices_S17408x32_S16384x32_0_0) shapeCasts_S16384x32_S4x4096x32⟩]
    concatenates_S4x256x32_S4x4096x32_S4x4352x32_d1

/-- The plain dot products. -/
def plain (q : FVec Ideal S17408x1024 .f32) (k : FVec Ideal S4x4352x16x64 .f32) : FVec Ideal S4x16x4096x4352 .f32 :=
  Host.dotGeneral dot_S4x4096x16x64_S4x4352x16x64_S4x16x4096x4352_3_3_1_1_02_02 none
    (shapeCast S4x4096x16x64 (extractStridedSlice S16384x1024 ![0, 0] q slices_S17408x1024_S16384x1024_0_0) shapeCasts_S16384x1024_S4x4096x16x64) k

/-- The rotary dot products. -/
def rotary (q : FVec Ideal S17408x512 .f32) (k : FVec Ideal S4x4352x32 .f32) : FVec Ideal S4x16x4096x4352 .f32 :=
  transpose S4x16x4096x4352 [0, 3, 2, 1]
    (Host.dotGeneral dot_S4x4352x32_S4x4096x16x32_S4x4352x4096x16_2_3_1_12_0_0 none k
      (shapeCast S4x4096x16x32 (extractStridedSlice S16384x512 ![0, 0] q slices_S17408x512_S16384x512_0_0) shapeCasts_S16384x512_S4x4096x16x32))
    transposes_S4x4352x4096x16_S4x16x4096x4352_0_3_2_1

/-- The scaled scores. -/
def scores (a b : FVec Ideal S4x16x4096x4352 .f32) : FVec Ideal S4x16x4096x4352 .f32 :=
  mulf (addf a b) (broadcastInDim S4x16x4096x4352 ![] bcast_S_S4x16x4096x4352 (constant S_ .f32 0x3DD105EC#32))

/-- The greatest score of each query. -/
def greatest (x : FVec Ideal S4x16x4096x4352 .f32) : FVec Ideal S4x16x4096 .f32 :=
  maximumf (broadcastInDim S4x16x4096 ![] bcast_S_S4x16x4096 (constant S_ .f32 0xFF800000#32))
    (Host.reduce FloatOps.maximumf x (constant S_ .f32 0xFF800000#32) reducesTo_S4x16x4096x4352_S4x16x4096_d3 h_S_)

/-- The exponentials. -/
def exps (x : FVec Ideal S4x16x4096x4352 .f32) : FVec Ideal S4x16x4096x4352 .f32 :=
  Host.exp (subf x (broadcastInDim S4x16x4096x4352 ![0, 1, 2, 3] bcast_S4x16x4096x1_S4x16x4096x4352_0_1_2_3
    (broadcastInDim S4x16x4096x1 ![0, 1, 2] bcast_S4x16x4096_S4x16x4096x1_0_1_2 (greatest x))))

/-- The exponentials over their sum. -/
def weights (e : FVec Ideal S4x16x4096x4352 .f32) : FVec Ideal S4x16x4096x4352 .f32 :=
  Host.divf e (broadcastInDim S4x16x4096x4352 ![0, 1, 2, 3] bcast_S4x16x4096x1_S4x16x4096x4352_0_1_2_3
    (broadcastInDim S4x16x4096x1 ![0, 1, 2] bcast_S4x16x4096_S4x16x4096x1_0_1_2
      (Host.reduceAdd e (constant S_ .f32 0x00000000#32) reducesTo_S4x16x4096x4352_S4x16x4096_d3 h_S_)))

/-- The values weighted, in rows of heads. -/
def output (v : FVec Ideal S4x4352x16x64 .f32) (p : FVec Ideal S4x16x4096x4352 .f32) : FVec Ideal S16384x1024 .bf16 :=
  truncf .bf16 (shapeCast S16384x1024 (transpose S4x4096x16x64 [0, 3, 1, 2]
      (Host.dotGeneral dot_S4x4352x16x64_S4x16x4096x4352_S4x16x64x4096_1_3_3_2_02_01 none v p)
      transposes_S4x16x64x4096_S4x4096x16x64_0_3_1_2) shapeCasts_S4x4096x16x64_S16384x1024) bitsLt_bf16_f32

theorem joined_at (k : FVec Ideal S17408x1024 .f32) (b : Fin 4) (r : Fin 4352) (h : Fin 16) (d : Fin 64) :
    joined k (ix4 b r h d) = k (ix2 (keyRow b r) ⟨64 * h.val + d.val, by omega⟩) := by
  pointwise [joined]
  unfold keyRow
  split <;> rename_i hr
  · congr 2 <;> apply Fin.ext <;> dsimp only <;> omega
  · congr 2 <;> apply Fin.ext <;> dsimp only <;> omega

theorem joinedRotary_at (k : FVec Ideal S17408x32 .f32) (b : Fin 4) (r : Fin 4352) (d : Fin 32) :
    joinedRotary k (ix3 b r d) = k (ix2 (keyRow b r) d) := by
  pointwise [joinedRotary]
  unfold keyRow
  split <;> rename_i hr
  · congr 2 <;> apply Fin.ext <;> dsimp only <;> omega
  · congr 2 <;> apply Fin.ext <;> dsimp only <;> omega

theorem plain_at (q : FVec Ideal S17408x1024 .f32) (k : FVec Ideal S4x4352x16x64 .f32) (b : Fin 4) (h : Fin 16) (t : Fin 4096) (r : Fin 4352) :
    plain q k (ix4 b h t r) = ∑ d : Fin 64, q (ix2 ⟨4096 * b.val + t.val, by omega⟩ ⟨64 * h.val + d.val, by omega⟩) * k (ix4 b r h d) := by
  pointwise [plain]
  refine Finset.sum_congr rfl fun d _ => congrArg (· * _) (congrArg q ?_)
  exact congrArg₂ ix2 (Fin.ext (by dsimp only; omega)) (Fin.ext (by dsimp only; omega))

theorem rotary_at (q : FVec Ideal S17408x512 .f32) (k : FVec Ideal S4x4352x32 .f32) (b : Fin 4) (h : Fin 16) (t : Fin 4096) (r : Fin 4352) :
    rotary q k (ix4 b h t r) = ∑ d : Fin 32, k (ix3 b r d) * q (ix2 ⟨4096 * b.val + t.val, by omega⟩ ⟨32 * h.val + d.val, by omega⟩) := by
  pointwise [rotary]
  refine Finset.sum_congr rfl fun d _ => congrArg (_ * ·) (congrArg q ?_)
  exact congrArg₂ ix2 (Fin.ext (by dsimp only; omega)) (Fin.ext (by dsimp only; omega))

theorem scores_at (a b : FVec Ideal S4x16x4096x4352 .f32) (i : S4x16x4096x4352.Idx) : scores a b i = (a i + b i) * factor := rfl

/-- A score of the reference is a scaled dot product of the specification. -/
theorem scores_eq (qn : FVec Ideal S17408x1024 .f32) (qr : FVec Ideal S17408x512 .f32) (kn : FVec Ideal S17408x1024 .f32)
    (kr : FVec Ideal S17408x32 .f32) (b : Fin 4) (h : Fin 16) (t : Fin 4096) (r : Fin 4352) :
    scores (plain qn (joined kn)) (rotary qr (joinedRotary kr)) (ix4 b h t r)
      = (∑ x, keyEntry kn kr (keyRow b r) h x * queryEntry qn qr ⟨4096 * b.val + t.val, by omega⟩ h x) * factor := by
  rw [scores_at, plain_at, rotary_at, Fintype.sum_sum_type]
  refine congrArg (· * factor) (congrArg₂ (· + ·) (Finset.sum_congr rfl fun d _ => ?_) (Finset.sum_congr rfl fun d _ => ?_))
  · rw [joined_at]; exact mul_comm (_ : EReal) _
  · rw [joinedRotary_at]; rfl

theorem maximumf_at {s : Shape} (a b : FVec Ideal s .f32) (j : s.Idx) : maximumf a b j = max (a j) (b j) := rfl

theorem real_fold {n : ℕ} [NeZero n] (b : Ideal .f32) (hb : b = (⊥ : EReal)) (f : Fin n → Ideal .f32) (h : ∀ k, IsReal (f k)) :
    IsReal (Finset.fold (FloatOps.maximumf (F := Ideal) (φ := .f32)) b f Finset.univ) := by
  subst hb; exact IsReal.fold h

theorem neg_inf_at (j : S4x16x4096.Idx) :
    broadcastInDim S4x16x4096 ![] bcast_S_S4x16x4096 (constant (F := Ideal) S_ .f32 0xFF800000#32) j = (⊥ : EReal) :=
  ofBits_neg_inf

/-- When the scores are real, so is the greatest. -/
theorem greatest_real (x : FVec Ideal S4x16x4096x4352 .f32) (hx : ∀ i, IsReal (x i)) (j : S4x16x4096.Idx) :
    IsReal (greatest x j) := by
  unfold greatest
  rw [maximumf_at, neg_inf_at, max_bot_left,
    Host.reduce_eq_fold_single FloatOps.maximumf x _ _ (by decide : S4x16x4096x4352.Reduces [3] S4x16x4096) h_S_]
  haveI : NeZero (S4x16x4096x4352.size 3) := ⟨by decide⟩
  exact real_fold _ ofBits_neg_inf _ fun k => hx _

theorem exps_at (x : FVec Ideal S4x16x4096x4352 .f32) (b : Fin 4) (h : Fin 16) (t : Fin 4096) (r : Fin 4352) :
    exps x (ix4 b h t r) = Ideal.exp (x (ix4 b h t r) - greatest x (ix3 b h t)) := by
  pointwise [exps]

theorem weights_at (e : FVec Ideal S4x16x4096x4352 .f32) (b : Fin 4) (h : Fin 16) (t : Fin 4096) (r : Fin 4352) :
    weights e (ix4 b h t r) = Ideal.div (e (ix4 b h t r)) (∑ r, e (ix4 b h t r)) := by
  pointwise [weights]

theorem output_at (v : FVec Ideal S4x4352x16x64 .f32) (p : FVec Ideal S4x16x4096x4352 .f32) (R : Fin 16384) (C : Fin 1024) :
    output v p (ix2 R C) = ∑ r : Fin 4352, v (ix4 ⟨R.val / 4096, by omega⟩ r ⟨C.val / 64, by omega⟩ ⟨C.val % 64, by omega⟩)
      * p (ix4 ⟨R.val / 4096, by omega⟩ ⟨C.val / 64, by omega⟩ ⟨R.val % 4096, by omega⟩ r) := by
  pointwise [output]

/-- The composed vectors at an index, when every entry of the queries and the keys is real: for some real number subtracted
    from every score. -/
theorem output_spec (qn : FVec Ideal S17408x1024 .f32) (qr : FVec Ideal S17408x512 .f32) (kn : FVec Ideal S17408x1024 .f32)
    (kr : FVec Ideal S17408x32 .f32) (v : FVec Ideal S17408x1024 .f32) (hqn : ∀ i, IsReal (qn i)) (hqr : ∀ i, IsReal (qr i))
    (hkn : ∀ i, IsReal (kn i)) (hkr : ∀ i, IsReal (kr i)) (R : Fin 16384) (C : Fin 1024) :
    ∃ M : ℝ, output (joined v) (weights (exps (scores (plain qn (joined kn)) (rotary qr (joinedRotary kr))))) (ix2 R C)
      = spec qn qr kn kr v M R C := by
  have hx : ∀ i, IsReal (scores (plain qn (joined kn)) (rotary qr (joinedRotary kr)) i) := by
    intro i
    obtain ⟨b, h, t, r, rfl⟩ : ∃ (b : Fin 4) (h : Fin 16) (t : Fin 4096) (r : Fin 4352), i = ix4 b h t r :=
      ⟨i 0, i 1, i 2, i 3, eq_ix4 i⟩
    rw [scores_eq]
    refine IsReal.mul (IsReal.sum fun x => ?_) factor_real
    cases x with
    | inl d => exact IsReal.mul (hkn _) (hqn _)
    | inr d => exact IsReal.mul (hkr _) (hqr _)
  obtain ⟨M, hM⟩ := greatest_real _ hx (ix3 ⟨R.val / 4096, by omega⟩ ⟨C.val / 64, by omega⟩ ⟨R.val % 4096, by omega⟩)
  refine ⟨M, ?_⟩
  have hs : ∀ r, scores (plain qn (joined kn)) (rotary qr (joinedRotary kr))
        (ix4 ⟨R.val / 4096, by omega⟩ ⟨C.val / 64, by omega⟩ ⟨R.val % 4096, by omega⟩ r)
      = dots qn qr kn kr R ⟨C.val / 64, by omega⟩ r * factor := fun r => by
    rw [scores_eq]
    unfold dots
    have e : (⟨4096 * (R.val / 4096) + R.val % 4096, by omega⟩ : Fin 17408) = ⟨R.val, by omega⟩ := Fin.ext (by dsimp only; omega)
    dsimp only
    rw [e]
  have hv : ∀ r, v (ix2 (keyRow ⟨R.val / 4096, by omega⟩ r) ⟨64 * (C.val / 64) + C.val % 64, by omega⟩)
      = v (ix2 (keyRow ⟨R.val / 4096, by omega⟩ r) C) := fun r =>
    congrArg (fun x => v (ix2 _ x)) (Fin.ext (by dsimp only; omega))
  rw [output_at]
  simp only [weights_at, exps_at, joined_at, hM, hs, hv]
  rfl

variable (m : (ℓ : Loc nD τ sig) → Buf (Elt Ideal) ℓ) (c : Dev nD)

theorem res_eq : (res_main_v45 m c : FVec Ideal S16384x1024 .bf16)
    = output (joined (m ((c : Thread nD τ).loc main_arg4)))
        (weights (exps (scores (plain (m ((c : Thread nD τ).loc main_arg0)) (joined (m ((c : Thread nD τ).loc main_arg2))))
          (rotary (m ((c : Thread nD τ).loc main_arg1)) (joinedRotary (m ((c : Thread nD τ).loc main_arg3))))))) := by
  unfold res_main_v45 output weights exps greatest scores plain rotary joined joinedRotary
  rfl

end Cert.LatentReferenceIdeal.Value

end
-- ==== Proof.Projections.Layer.lean ====
/- One row of the projections of a layer: a normalized, modulated row times the joint weights. -/
module

public import proofs.«01_k».proof.Proof.Dense.Layer

@[expose] public section

noncomputable section

namespace Cert.Projections.Layer

open Idealize.ShloMosaic Cert.Dense.Layer

/-- The row that enters the projections: normalized, scaled by one more than the modulation's scale, shifted. -/
def entering (mod : Fin 6144 → EReal) (x g : Fin 1024 → EReal) (k : Fin 1024) : EReal :=
  rms x g k * (1 + chunk mod 1 k) + chunk mod 0 k

/-- The row's product with the joint weights of queries, keys and values. -/
def projected (mod : Fin 6144 → EReal) (x g : Fin 1024 → EReal) (w : Fin 1024 → Fin 3072 → EReal) : Fin 3072 → EReal :=
  prod (entering mod x g) w

/-- The queries of the row: the first third, times an eighth. -/
def queries (p : Fin 3072 → EReal) (n : Fin 1024) : EReal := p ⟨n.val, by omega⟩ * Ideal.ofBits .f32 0x3E000000#32

/-- The keys of the row: the second third. -/
def keys (p : Fin 3072 → EReal) (n : Fin 1024) : EReal := p ⟨1024 + n.val, by omega⟩

/-- The values of the row: the last third. -/
def values (p : Fin 3072 → EReal) (n : Fin 1024) : EReal := p ⟨2048 + n.val, by omega⟩

end Cert.Projections.Layer

end
-- ==== Proof.Projections.Tile.lean ====
/- The product a tile of the projections' kernel computes, and the slabs of 128 columns of it that the kernel stores:
   a slab of queries scaled, a slab of keys or values with one half of its lanes kept and the other half filled. -/
module

public import proofs.«01_k».proof.Proof.Gen.ProjectionsIdeal.Frame
public import proofs.«01_k».proof.Proof.Projections.Layer
public import Idealize.ShloMosaic.Lib.Pointwise
public import Idealize.ShloMosaic.Lib.WordArith
public import Idealize.ShloMosaic.Lib.Pipeline.ValueKit
public import Idealize.ShloMosaic.Lib.Tactic

@[expose] public section

set_option maxRecDepth 65536

noncomputable section

namespace Cert.ProjectionsIdeal.Tile

open Cert.ProjectionsIdeal Cert.ProjectionsIdeal.Gen Idealize.ShloMosaic Idealize.ShloMosaic.TcCoe Cert.Projections.Layer
open Cert.Dense.Layer (rms prod chunk)

set_option maxHeartbeats 1000000

/-- The rows of a tile over their root mean squares, times a gain. -/
def normed (v : FVec Ideal S512x1024 .f32) (g : FVec Ideal S1x1024 .f32) : FVec Ideal S512x1024 .f32 :=
  mulf (mulf v (broadcastTo S512x1024 (rsqrt (addf (divf (shapeCast S512x1 (multiReduction .add [1] S512 (mulf v v) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 g broadcasts_S1x1024_S512x1024)

/-- The tile's product with the joint weights, from its rows, the gain, the modulation's scale and shift. -/
def products (v : FVec Ideal S512x1024 .f32) (g sc sh : FVec Ideal S1x1024 .f32) (w : FVec Ideal S1024x3072 .bf16) : FVec Ideal S512x3072 .f32 :=
  matmul dot_S512x1024_S1024x3072_S512x3072_1_0_0_1_n_n none
    (truncf .bf16 (addf (mulf (normed v g) (broadcastTo S512x1024 (addf (broadcast S1x1024 (Scalar.ofBits .f32 0x3F800000#32)) sc) broadcasts_S1x1024_S512x1024))
      (broadcastTo S512x1024 sh broadcasts_S1x1024_S512x1024)) bitsLt_bf16_f32 : FVec Ideal S512x1024 .bf16)
    w (constant S512x3072 .f32 0x00000000#32)

theorem normed_at (v : FVec Ideal S512x1024 .f32) (g : FVec Ideal S1x1024 .f32) (r : Fin 512) (n : Fin 1024) :
    (normed v g (ix2 r n) : EReal) = rms (fun k => v (ix2 r k)) (fun k => g (ix2 0 k)) n := by
  pointwise [normed]
  rfl

theorem products_at (v : FVec Ideal S512x1024 .f32) (g sc sh : FVec Ideal S1x1024 .f32) (w : FVec Ideal S1024x3072 .bf16) (r : Fin 512) (n : Fin 3072) :
    (products v g sc sh w (ix2 r n) : EReal)
      = ∑ k : Fin 1024, (rms (fun k => v (ix2 r k)) (fun k => g (ix2 0 k)) k * (1 + sc (ix2 0 k)) + sh (ix2 0 k)) * w (ix2 k n) := by
  pointwise [products, normed_at]

theorem pay2_eq (v : FVec Ideal S512x1024 .f32) (g : FVec Ideal S1x1024 .f32) (sc sh : FVec Ideal S1x1x1024 .f32) (w : FVec Ideal S1024x3072 .bf16) :
    k0_pay2 v g sc sh w = products v g (shapeCast S1x1024 sc shapeCasts_S1x1x1024_S1x1024) (shapeCast S1x1024 sh shapeCasts_S1x1x1024_S1x1024) w := by
  unfold k0_pay2 products normed
  simp only [shapeCast_self]

/-- The tile's product, from the blocks the point is given. -/
def block (x : FVec Ideal S512x1024 .f32) (mod : FVec Ideal S1x1x6144 .f32) (g : FVec Ideal S1x1024 .f32) (w : FVec Ideal S1024x3072 .bf16) : FVec Ideal S512x3072 .f32 :=
  products x g (shapeCast S1x1024 (View.ld (Val := Elt Ideal) (e' := .f32) mod r0_2) shapeCasts_S1x1x1024_S1x1024)
    (shapeCast S1x1024 (View.ld (Val := Elt Ideal) (e' := .f32) mod r0_3) shapeCasts_S1x1x1024_S1x1024) w

/-- A chunk of the modulation row, as the body reads it. -/
theorem chunk_at (mod : FVec Ideal S1x1x6144 .f32) (j : Fin 6) (off : Fin 3 → ℕ) (inb) (h : off = ![0, 0, 1024 * j.val]) (k : Fin 1024) :
    (shapeCast S1x1024 (View.ld (Val := Elt Ideal) (e' := .f32) mod (Rect.unit (s := S1x1x6144) off S1x1x1024.size inb)) shapeCasts_S1x1x1024_S1x1024 (ix2 0 k) : EReal)
      = chunk (fun k => mod (ix3 0 0 k)) j k := by
  subst h
  pointwise []
  rfl

theorem block_at (x : FVec Ideal S512x1024 .f32) (mod : FVec Ideal S1x1x6144 .f32) (g : FVec Ideal S1x1024 .f32) (w : FVec Ideal S1024x3072 .bf16)
    (r : Fin 512) (n : Fin 3072) :
    (block x mod g w (ix2 r n) : EReal)
      = projected (fun k => mod (ix3 0 0 k)) (fun k => x (ix2 r k)) (fun k => g (ix2 0 k)) (fun k n => w (ix2 k n)) n := by
  unfold block
  rw [products_at]
  have h1 := fun k => chunk_at mod 1 ![0, 0, 1024] inb_S1x1x6144_S1x1x1024_0_0_1024 rfl k
  have h0 := fun k => chunk_at mod 0 ![0, 0, 0] inb_S1x1x6144_S1x1x1024_0_0_0 rfl k
  simp only [h1, h0]
  rfl

theorem in_columns (j : Fin 24) : S512x3072.Slices ![0, 128 * j.val] S512x128 := by
  revert j; decide

/-- Columns 128 j to 128 j + 127 of a product. -/
def slab (a : FVec Ideal S512x3072 .f32) (j : Fin 24) : FVec Ideal S512x128 .f32 :=
  extractStridedSlice S512x128 ![0, 128 * j.val] a (in_columns j)

theorem slab_at (a : FVec Ideal S512x3072 .f32) (j : Fin 24) (r : Fin 512) (l : Fin 128) :
    slab a j (ix2 r l) = a (ix2 r ⟨128 * j.val + l.val, by omega⟩) := by
  pointwise [slab]

/-- A slab of queries, as it is stored. -/
def scaled (a : FVec Ideal S512x128 .f32) : FVec Ideal S512x128 .bf16 :=
  truncf .bf16 (mulf a (broadcast S512x128 (Scalar.ofBits .f32 0x3E000000#32))) bitsLt_bf16_f32

theorem scaled_at (a : FVec Ideal S512x128 .f32) (r : Fin 512) (l : Fin 128) :
    (scaled a (ix2 r l) : EReal) = a (ix2 r l) * Ideal.ofBits .f32 0x3E000000#32 := by
  pointwise [scaled]

/-- The lanes of a tile, numbered. -/
def lanes : IVec S512x128 32 := iota .tc S512x128 32 [1] iota_S512x128_d1_w32

/-- A slab with the lower half of its lanes kept, and the others filled; and one with the upper half kept. -/
def lower (a fill : FVec Ideal S512x128 .f32) : FVec Ideal S1x1x512x128 .bf16 :=
  shapeCast S1x1x512x128 (truncf .bf16 (select (cmpi .slt lanes (broadcast S512x128 64#32)) a fill) bitsLt_bf16_f32 : FVec Ideal S512x128 .bf16) shapeCasts_S512x128_S1x1x512x128
def upper (a fill : FVec Ideal S512x128 .f32) : FVec Ideal S1x1x512x128 .bf16 :=
  shapeCast S1x1x512x128 (truncf .bf16 (select (cmpi .sge lanes (broadcast S512x128 64#32)) a fill) bitsLt_bf16_f32 : FVec Ideal S512x128 .bf16) shapeCasts_S512x128_S1x1x512x128

theorem select_lt (l : Fin 128) (x y : EReal) :
    Scalar.select (IntOp.cmpi .slt (BitVec.ofNat 32 l.val) 64#32) x y = if l.val / 64 = 0 then x else y := by
  rw [WordCmp.cmpi_slt_ofNat (w := 32) (a := l.val) (b := 64) (by have := l.isLt; omega) (by omega)]
  by_cases h : l.val < 64
  · simp [Scalar.select, h, show l.val / 64 = 0 by omega]
  · simp [Scalar.select, h, show ¬l.val / 64 = 0 by omega]

theorem select_ge (l : Fin 128) (x y : EReal) :
    Scalar.select (IntOp.cmpi .sge (BitVec.ofNat 32 l.val) 64#32) x y = if l.val / 64 = 1 then x else y := by
  rw [WordCmp.cmpi_sge_ofNat (w := 32) (a := l.val) (b := 64) (by have := l.isLt; omega) (by omega)]
  by_cases h : l.val < 64
  · simp [Scalar.select, Nat.not_le.mpr h, show ¬l.val / 64 = 1 by omega]
  · simp [Scalar.select, Nat.le_of_not_lt h, show l.val / 64 = 1 by omega]

theorem lower_at (a fill : FVec Ideal S512x128 .f32) (r : Fin 512) (l : Fin 128) :
    (lower a fill (ix4 0 0 r l) : EReal) = if l.val / 64 = 0 then a (ix2 r l) else fill (ix2 r l) := by
  pointwise [lower, lanes]; exact select_lt l _ _

theorem upper_at (a fill : FVec Ideal S512x128 .f32) (r : Fin 512) (l : Fin 128) :
    (upper a fill (ix4 0 0 r l) : EReal) = if l.val / 64 = 1 then a (ix2 r l) else fill (ix2 r l) := by
  pointwise [upper, lanes]; exact select_ge l _ _

end Cert.ProjectionsIdeal.Tile

end
-- ==== Proof.Projections.Pieces.lean ====
/- The blocks a tile of the projections' kernel leaves, element by element: eight slabs of queries side by side, and
   for each of eight slabs of keys and of values the slab twice, once with each half of its lanes kept. -/
module

public import proofs.«01_k».proof.Proof.Projections.Tile

@[expose] public section

set_option maxRecDepth 65536

noncomputable section

namespace Cert.ProjectionsIdeal.Tile

open Cert.ProjectionsIdeal Cert.ProjectionsIdeal.Gen Idealize.ShloMosaic Idealize.ShloMosaic.TcCoe Cert.Projections.Layer
open Cert.Dense.Layer (rms prod chunk)

set_option maxHeartbeats 1000000

/-- Eight slabs stored side by side. -/
def columns (T : Fin 8 → FVec Ideal S512x128 .bf16) : List (View.Piece (Elt Ideal) S512x1024 .bf16) :=
  [⟨r0_12, T 7⟩, ⟨r0_11, T 6⟩, ⟨r0_10, T 5⟩, ⟨r0_9, T 4⟩, ⟨r0_8, T 3⟩, ⟨r0_7, T 2⟩, ⟨r0_6, T 1⟩, ⟨r0_5, T 0⟩]

/-- Eight pairs of tiles, stored each in a place of its own. -/
def pairs (L U : Fin 8 → FVec Ideal S1x1x512x128 .bf16) : List (View.Piece (Elt Ideal) S8x2x512x128 .bf16) :=
  [⟨r0_28, U 7⟩, ⟨r0_27, L 7⟩, ⟨r0_26, U 6⟩, ⟨r0_25, L 6⟩, ⟨r0_24, U 5⟩, ⟨r0_23, L 5⟩, ⟨r0_22, U 4⟩, ⟨r0_21, L 4⟩,
    ⟨r0_20, U 3⟩, ⟨r0_19, L 3⟩, ⟨r0_18, U 2⟩, ⟨r0_17, L 2⟩, ⟨r0_16, U 1⟩, ⟨r0_15, L 1⟩, ⟨r0_14, U 0⟩, ⟨r0_13, L 0⟩]

theorem columns_at (T : Fin 8 → FVec Ideal S512x128 .bf16) (r : Fin 512) (n : Fin 1024) :
    View.canon (columns T) (ix2 r n) = T ⟨n.val / 128, by omega⟩ (ix2 r ⟨n.val % 128, by omega⟩) := by
  have h : ∀ (j : Fin 8) (x : S512x128.Idx) (y : S512x1024.Idx), (y 0).val = (x 0).val → (y 1).val = 128 * j.val + (x 1).val →
      T j x = T ⟨(y 1).val / 128, by have := (y 1).isLt; change (y 1).val < 1024 at this; omega⟩ (ix2 (y 0) ⟨(y 1).val % 128, by omega⟩) := by
    intro j x y e0 e1
    have hx : (x 1).val < 128 := (x 1).isLt
    refine congrArg₂ T (Fin.ext (by dsimp only; omega)) ((eq_ix2 x).trans (congrArg₂ ix2 (Fin.ext e0.symm) (Fin.ext ?_)))
    dsimp only; omega
  refine (View.canon_apply_of_pieces (Val := Elt Ideal) (e := .bf16)
    (fun y : S512x1024.Idx => T ⟨(y 1).val / 128, by have := (y 1).isLt; change (y 1).val < 1024 at this; omega⟩ (ix2 (y 0) ⟨(y 1).val % 128, by omega⟩))
    _ ?_ _ (cover0_9 _ _ _ _ _ _ _ _ _)).trans rfl
  simp only [List.forall_mem_cons, List.not_mem_nil, false_implies, implies_true, and_true]
  refine ⟨fun x => h 7 x _ ?_ ?_, fun x => h 6 x _ ?_ ?_, fun x => h 5 x _ ?_ ?_, fun x => h 4 x _ ?_ ?_, fun x => h 3 x _ ?_ ?_,
    fun x => h 2 x _ ?_ ?_, fun x => h 1 x _ ?_ ?_, fun x => h 0 x _ ?_ ?_⟩ <;>
    exact congrArg (_ + ·) (Nat.one_mul _) |>.trans (by first | rfl | exact Nat.zero_add _)

theorem pairs_at (L U : Fin 8 → FVec Ideal S1x1x512x128 .bf16) (G : Fin 8 → Fin 2 → Fin 512 → Fin 128 → EReal)
    (hL : ∀ g r l, L g (ix4 0 0 r l) = G g 0 r l) (hU : ∀ g r l, U g (ix4 0 0 r l) = G g 1 r l) (g : Fin 8) (p : Fin 2) (r : Fin 512) (l : Fin 128) :
    View.canon (pairs L U) (ix4 g p r l) = G g p r l := by
  have h : ∀ (T : Fin 8 → FVec Ideal S1x1x512x128 .bf16) (p : Fin 2) (hT : ∀ g r l, T g (ix4 0 0 r l) = G g p r l) (g : Fin 8) (x : S1x1x512x128.Idx)
      (y : S8x2x512x128.Idx), (y 0).val = g.val + 1 * (x 0).val → (y 1).val = p.val + 1 * (x 1).val →
      (y 2).val = 0 + 1 * (x 2).val → (y 3).val = 0 + 1 * (x 3).val → T g x = G (y 0) (y 1) (y 2) (y 3) := by
    intro T p hT g x y e0 e1 e2 e3
    have h0 : (x 0).val < 1 := (x 0).isLt
    have h1 : (x 1).val < 1 := (x 1).isLt
    have f : x = ix4 0 0 (x 2) (x 3) := by
      funext a
      match a with
      | 0 => exact Fin.ext (by show (x 0).val = 0; omega)
      | 1 => exact Fin.ext (by show (x 1).val = 0; omega)
      | 2 => rfl
      | 3 => rfl
    refine (congrArg (T g) f).trans ((hT g (x 2) (x 3)).trans ?_)
    exact congr (congr (congrArg₂ G (Fin.ext (by omega)) (Fin.ext (by omega))) (Fin.ext (by omega))) (Fin.ext (by omega))
  refine (View.canon_apply_of_pieces (Val := Elt Ideal) (e := .bf16) (fun y : S8x2x512x128.Idx => G (y 0) (y 1) (y 2) (y 3))
    _ ?_ _ (cover0_10 _ _ _ _ _ _ _ _ _ _ _ _ _ _ _ _ _)).trans rfl
  have hl := h L 0 hL
  have hu := h U 1 hU
  simp only [List.forall_mem_cons, List.not_mem_nil, false_implies, implies_true, and_true]
  exact ⟨fun x => hu 7 x _ rfl rfl rfl rfl, fun x => hl 7 x _ rfl rfl rfl rfl, fun x => hu 6 x _ rfl rfl rfl rfl, fun x => hl 6 x _ rfl rfl rfl rfl,
    fun x => hu 5 x _ rfl rfl rfl rfl, fun x => hl 5 x _ rfl rfl rfl rfl, fun x => hu 4 x _ rfl rfl rfl rfl, fun x => hl 4 x _ rfl rfl rfl rfl,
    fun x => hu 3 x _ rfl rfl rfl rfl, fun x => hl 3 x _ rfl rfl rfl rfl, fun x => hu 2 x _ rfl rfl rfl rfl, fun x => hl 2 x _ rfl rfl rfl rfl,
    fun x => hu 1 x _ rfl rfl rfl rfl, fun x => hl 1 x _ rfl rfl rfl rfl, fun x => hu 0 x _ rfl rfl rfl rfl, fun x => hl 0 x _ rfl rfl rfl rfl⟩

/-- What fills the lanes that are not kept: of keys zero, of values zero but for one lane of ones, the last of the upper half or
    the first of the lower. -/
def zeros : FVec Ideal S512x128 .f32 := broadcast S512x128 (Scalar.ofBits .f32 0x00000000#32)
def ones (n : BitVec 32) : FVec Ideal S512x128 .f32 :=
  select (cmpi .eq lanes (broadcast S512x128 n)) (broadcast S512x128 (Scalar.ofBits .f32 0x3F800000#32)) zeros

/-- The fills of values, for the lower and the upper half kept. -/
def fills : Fin 2 → FVec Ideal S512x128 .f32
  | 0 => ones 127#32
  | 1 => ones 0#32

variable (x0 : FVec Ideal S512x1024 .f32) (x1 : FVec Ideal S1x1x6144 .f32) (x2 : FVec Ideal S1x1024 .f32) (x3 : FVec Ideal S1024x3072 .bf16)
  (x4 x5 : FVec Ideal S512x128 .f32) (x6 x7 : FVec Ideal S1x128 .f32) (x8 : FVec Ideal S128x128 .bf16)

theorem product_eq : k0_pay73 (F := Ideal) x0 x1 x2 x3 x4 x5 x6 x7 x8 = block x0 x1 x2 x3 := by
  unfold k0_pay73 block
  rw [pay2_eq]
  frame_out

theorem out9_eq : out0_9 (F := Ideal) x0 x1 x2 x3 x4 x5 x6 x7 x8
    = View.canon (columns fun j => scaled (slab (k0_pay73 (F := Ideal) x0 x1 x2 x3 x4 x5 x6 x7 x8) ⟨j.val, by omega⟩)) := by
  unfold out0_9 columns
  rfl

theorem out10_eq : out0_10 (F := Ideal) x0 x1 x2 x3 x4 x5 x6 x7 x8
    = View.canon (pairs (fun g => lower (slab (k0_pay73 (F := Ideal) x0 x1 x2 x3 x4 x5 x6 x7 x8) ⟨8 + g.val, by omega⟩) zeros)
        fun g => upper (slab (k0_pay73 (F := Ideal) x0 x1 x2 x3 x4 x5 x6 x7 x8) ⟨8 + g.val, by omega⟩) zeros) := by
  unfold out0_10 pairs k0_pay75
  generalize k0_pay73 (F := Ideal) x0 x1 x2 x3 x4 x5 x6 x7 x8 = a
  rfl

theorem out11_eq : out0_11 (F := Ideal) x0 x1 x2 x3 x4 x5 x6 x7 x8
    = View.canon (pairs (fun g => lower (slab (k0_pay73 (F := Ideal) x0 x1 x2 x3 x4 x5 x6 x7 x8) ⟨16 + g.val, by omega⟩) (ones 127#32))
        fun g => upper (slab (k0_pay73 (F := Ideal) x0 x1 x2 x3 x4 x5 x6 x7 x8) ⟨16 + g.val, by omega⟩) (ones 0#32)) := by
  unfold out0_11 pairs k0_pay74 k0_pay76 k0_pay77
  generalize k0_pay73 (F := Ideal) x0 x1 x2 x3 x4 x5 x6 x7 x8 = a
  rfl

/-- The row of the tile's projections. -/
def tileRow (r : Fin 512) : Fin 3072 → EReal :=
  projected (fun k => x1 (ix3 0 0 k)) (fun k => x0 (ix2 r k)) (fun k => x2 (ix2 0 k)) (fun k n => x3 (ix2 k n))

theorem out9_at (r : Fin 512) (n : Fin 1024) :
    (out0_9 (F := Ideal) x0 x1 x2 x3 x4 x5 x6 x7 x8 (ix2 r n) : EReal)
      = queries (tileRow x0 x1 x2 x3 r) n := by
  rw [out9_eq, columns_at, scaled_at, slab_at, product_eq, block_at]
  exact congrArg (fun n => tileRow x0 x1 x2 x3 r n * _) (Fin.ext (by dsimp only; omega))

/-- A lane of a stored pair: kept in the half it belongs to, otherwise the fill. -/
def lane (p : Fin 2) (l : Fin 128) (x fill : EReal) : EReal := if l.val / 64 = p.val then x else fill

theorem out10_at (g : Fin 8) (p : Fin 2) (r : Fin 512) (l : Fin 128) :
    (out0_10 (F := Ideal) x0 x1 x2 x3 x4 x5 x6 x7 x8 (ix4 g p r l) : EReal)
      = lane p l (keys (tileRow x0 x1 x2 x3 r) ⟨128 * g.val + l.val, by omega⟩) (zeros (ix2 r l)) := by
  rw [out10_eq]
  refine pairs_at _ _ (fun g p r l => lane p l (keys (tileRow x0 x1 x2 x3 r) ⟨128 * g.val + l.val, by omega⟩) (zeros (ix2 r l))) ?_ ?_ g p r l <;>
    intro g r l
  · rw [lower_at, slab_at, product_eq, block_at]
    exact congrArg (fun n => lane 0 l (tileRow x0 x1 x2 x3 r n) _) (Fin.ext (by dsimp only; omega))
  · rw [upper_at, slab_at, product_eq, block_at]
    exact congrArg (fun n => lane 1 l (tileRow x0 x1 x2 x3 r n) _) (Fin.ext (by dsimp only; omega))

theorem out11_at (g : Fin 8) (p : Fin 2) (r : Fin 512) (l : Fin 128) :
    (out0_11 (F := Ideal) x0 x1 x2 x3 x4 x5 x6 x7 x8 (ix4 g p r l) : EReal)
      = lane p l (values (tileRow x0 x1 x2 x3 r) ⟨128 * g.val + l.val, by omega⟩) (fills p (ix2 r l)) := by
  rw [out11_eq]
  refine pairs_at _ _ (fun g p r l => lane p l (values (tileRow x0 x1 x2 x3 r) ⟨128 * g.val + l.val, by omega⟩) (fills p (ix2 r l))) ?_ ?_ g p r l <;>
    intro g r l
  · rw [lower_at, slab_at, product_eq, block_at]
    exact congrArg (fun n => lane 0 l (tileRow x0 x1 x2 x3 r n) _) (Fin.ext (by dsimp only; omega))
  · rw [upper_at, slab_at, product_eq, block_at]
    exact congrArg (fun n => lane 1 l (tileRow x0 x1 x2 x3 r n) _) (Fin.ext (by dsimp only; omega))

end Cert.ProjectionsIdeal.Tile

end
-- ==== Proof.Projections.Blocks.lean ====
/- The blocks one grid point of the projections' kernel is given, from the arguments. -/
module

public import proofs.«01_k».proof.Proof.Projections.Pieces
public import Idealize.ShloMosaic.Lib.StableHlo.ReadAt

@[expose] public section

set_option maxRecDepth 65536

noncomputable section

namespace Cert.ProjectionsIdeal.Tile

open Cert.ProjectionsIdeal Cert.ProjectionsIdeal.Gen Idealize.ShloMosaic Idealize.ShloMosaic.TcCoe Idealize.SL.Sem Cert.Projections.Layer
open Cert.Dense.Layer (rms prod chunk)

set_option maxHeartbeats 4000000

variable (m : (ℓ : Loc nD τ sig) → Buf (Elt Ideal) ℓ) (c : Dev nD)

/-- The rows, the modulations, the gain and the joint weights. -/
def argX : S17408x1024.Idx → EReal := m ((c : Thread nD τ).loc main_arg0)
def argMod : S8x6144.Idx → EReal := m ((c : Thread nD τ).loc main_arg1)
def argG : S1024.Idx → EReal := m ((c : Thread nD τ).loc main_arg2)
def argW : S1024x3072.Idx → EReal := m ((c : Thread nD τ).loc main_arg3)

/-- Row `R` of the projections: the context's rows all have the fifth modulation. -/
def rows (R : Fin 17408) : Fin 3072 → EReal :=
  projected (fun k => argMod m c (ix2 ⟨R.val / 4096, by omega⟩ k)) (fun k => argX m c (ix2 R k)) (fun k => argG m c (ix1 k)) (fun k n => argW m c (ix2 k n))

theorem idx0 : ∀ t : Fin cfg0.N, win0_0.index t = ![t.val, 0] := by decide +kernel
theorem idx1 : ∀ t : Fin cfg0.N, win0_1.index t = ![t.val / 8, 0, 0] := by decide +kernel
theorem idx2 : ∀ t : Fin cfg0.N, win0_2.index t = ![0, 0] := by decide +kernel
theorem idx3 : ∀ t : Fin cfg0.N, win0_3.index t = ![0, 0] := by decide +kernel
theorem idx9 : ∀ t : Fin cfg0.N, win0_9.index t = ![t.val, 0] := by decide +kernel
theorem idx10 : ∀ t : Fin cfg0.N, win0_10.index t = ![0, 0, t.val, 0] := by decide +kernel
theorem idx11 : ∀ t : Fin cfg0.N, win0_11.index t = ![0, 0, t.val, 0] := by decide +kernel

theorem t_lt (t : Fin cfg0.N) : t.val < 34 := t.isLt

theorem prep0 (r : Fin 17408) (k : Fin 1024) : (V m c main_arg0 : Vec Ideal S17408x1024 .f32) (ix2 r k) = argX m c (ix2 r k) :=
  congrFun (V_main_arg0 m c) (ix2 r k)
theorem prep1 (r : Fin 8) (k : Fin 6144) : (V m c main_v36 : Vec Ideal S8x1x6144 .f32) (ix3 r 0 k) = argMod m c (ix2 r k) := by
  unfold V; after_reads_at; rfl
theorem prep2 (k : Fin 1024) : (V m c main_v37 : Vec Ideal S1x1024 .f32) (ix2 0 k) = argG m c (ix1 k) := by
  unfold V; after_reads_at; rfl
theorem prep3 (r : Fin 1024) (k : Fin 3072) : (V m c main_v38 : Vec Ideal S1024x3072 .bf16) (ix2 r k) = argW m c (ix2 r k) := by
  unfold V; after_reads_at; rfl

variable (t : Fin cfg0.N)

theorem blk0 (r : Fin 512) (k : Fin 1024) :
    (iblk m c 0 t : Vec Ideal S512x1024 .f32) (ix2 r k) = argX m c (ix2 ⟨512 * t.val + r.val, by have := t_lt t; omega⟩ k) := by
  rw [← prep0]
  blk_ext! [iblk, idx0 t]
theorem blk1 (k : Fin 6144) :
    (iblk m c 1 t : Vec Ideal S1x1x6144 .f32) (ix3 0 0 k) = argMod m c (ix2 ⟨t.val / 8, by have := t_lt t; omega⟩ k) := by
  rw [← prep1]
  blk_ext! [iblk, idx1 t]
theorem blk2 (k : Fin 1024) : (iblk m c 2 t : Vec Ideal S1x1024 .f32) (ix2 0 k) = argG m c (ix1 k) := by
  rw [← prep2]
  blk_ext! [iblk, idx2 t]
theorem blk3 (r : Fin 1024) (k : Fin 3072) : (iblk m c 3 t : Vec Ideal S1024x3072 .bf16) (ix2 r k) = argW m c (ix2 r k) := by
  rw [← prep3]
  blk_ext! [iblk, idx3 t]

/-- A row of the tile's projections is the row of the array at its place. -/
theorem rows_eq (r : Fin 512) (R : Fin 17408) (hR : R.val = 512 * t.val + r.val) :
    tileRow (iblk m c 0 t) (iblk m c 1 t) (iblk m c 2 t) (iblk m c 3 t) r = rows m c R := by
  have e1 : (⟨t.val / 8, by have := t_lt t; omega⟩ : Fin 8) = ⟨R.val / 4096, by omega⟩ := Fin.ext (by dsimp only; omega)
  have e0 : (⟨512 * t.val + r.val, by have := t_lt t; omega⟩ : Fin 17408) = R := Fin.ext hR.symm
  unfold tileRow rows
  refine congr (congr (congrArg₂ projected ?_ ?_) ?_) ?_
  · funext k; rw [blk1, e1]
  · funext k; rw [blk0, e0]
  · funext k; exact blk2 m c t k
  · funext k n; exact blk3 m c t k n

end Cert.ProjectionsIdeal.Tile

end
-- ==== Proof.Projections.Final.lean ====
/- The three arrays the projections' kernel leaves: the queries, and the keys and the values packed by pairs of heads. -/
module

public import proofs.«01_k».proof.Proof.Projections.Blocks

@[expose] public section

set_option maxRecDepth 65536

noncomputable section

namespace Cert.ProjectionsIdeal.Tile

open Cert.ProjectionsIdeal Cert.ProjectionsIdeal.Gen Idealize.ShloMosaic Idealize.ShloMosaic.TcCoe Idealize.SL.Sem Cert.Projections.Layer
open Cert.Dense.Layer (rms prod chunk)

set_option maxHeartbeats 1000000

variable (m : (ℓ : Loc nD τ sig) → Buf (Elt Ideal) ℓ) (c : Dev nD)

/-- A packed array: lane `l` of pair `g` is kept in the half it belongs to, and filled in the other. -/
def packed (f : (Fin 3072 → EReal) → Fin 1024 → EReal) (fill : Fin 2 → FVec Ideal S512x128 .f32) (i : S8x2x17408x128.Idx) : EReal :=
  lane (i 1) (i 3) (f (rows m c (i 2)) ⟨128 * (i 0).val + (i 3).val, by
      have h0 : (i 0).val < 8 := (i 0).isLt; have h3 : (i 3).val < 128 := (i 3).isLt; omega⟩)
    (fill (i 1) (ix2 ⟨(i 2).val % 512, by omega⟩ (i 3)))

theorem final9 : (dats m 0 c).arrAt 9 cfg0.N = fun i : S17408x1024.Idx => queries (rows m c (i 0)) (i 1) := by
  refine (dats m 0 c).arrAt_eq_of_covers 9 _ (by decide +kernel) fun t hf y => ?_
  blk_simp
  rw [after0_9]
  revert y
  intro (y : S512x1024.Idx)
  have e0 : ((win0_9.blk t).view.emb y 0).val = win0_9.index t 0 * 512 + 1 * (y 0).val := rfl
  have e1 : ((win0_9.blk t).view.emb y 1).val = win0_9.index t 1 * 1024 + 1 * (y 1).val := rfl
  rw [idx9 t] at e0 e1
  refine (congrArg (out0_9 (F := Ideal) _ _ _ _ _ _ _ _ _) (eq_ix2 y)).trans ((out9_at _ _ _ _ _ _ _ _ _ (y 0) (y 1)).trans ?_)
  rw [rows_eq m c t (y 0) ((win0_9.blk t).view.emb y 0) (e0.trans (by show t.val * 512 + 1 * (y 0).val = _; omega))]
  refine congrArg _ (Fin.ext (Eq.trans ?_ e1.symm))
  show (y 1).val = 0 * 1024 + 1 * (y 1).val; omega

/-- An element of a tile's packed block is the element of the packed array at its place. -/
theorem packed_at (f : (Fin 3072 → EReal) → Fin 1024 → EReal) (fill : Fin 2 → FVec Ideal S512x128 .f32) (t : Fin cfg0.N) (y : S8x2x512x128.Idx)
    (i : S8x2x17408x128.Idx) (e0 : (i 0).val = 0 * 8 + 1 * (y 0).val) (e1 : (i 1).val = 0 * 2 + 1 * (y 1).val)
    (e2 : (i 2).val = t.val * 512 + 1 * (y 2).val) (e3 : (i 3).val = 0 * 128 + 1 * (y 3).val) (n : Fin 1024) (hn : n.val = 128 * (y 0).val + (y 3).val) :
    lane (y 1) (y 3) (f (tileRow (iblk m c 0 t) (iblk m c 1 t) (iblk m c 2 t) (iblk m c 3 t) (y 2)) n)
      (fill (y 1) (ix2 (y 2) (y 3))) = packed m c f fill i := by
  have h2 : (y 2).val < 512 := (y 2).isLt
  rw [rows_eq m c t (y 2) (i 2) (by omega)]
  have f1 : y 1 = i 1 := Fin.ext (by omega)
  have f3 : y 3 = i 3 := Fin.ext (by omega)
  have f2 : y 2 = (⟨(i 2).val % 512, by omega⟩ : Fin 512) := Fin.ext (by dsimp only; omega)
  have h0 : (i 0).val < 8 := (i 0).isLt
  have h3 : (i 3).val < 128 := (i 3).isLt
  have fn : n = ⟨128 * (i 0).val + (i 3).val, by omega⟩ := Fin.ext (by dsimp only; omega)
  rw [fn, f1, f2, f3]
  rfl

theorem final10 : (dats m 0 c).arrAt 10 cfg0.N = packed m c keys (fun _ => zeros) := by
  refine (dats m 0 c).arrAt_eq_of_covers 10 _ (by decide +kernel) fun t hf y => ?_
  blk_simp
  rw [after0_10]
  revert y
  intro (y : S8x2x512x128.Idx)
  have e0 : ((win0_10.blk t).view.emb y 0).val = win0_10.index t 0 * 8 + 1 * (y 0).val := rfl
  have e1 : ((win0_10.blk t).view.emb y 1).val = win0_10.index t 1 * 2 + 1 * (y 1).val := rfl
  have e2 : ((win0_10.blk t).view.emb y 2).val = win0_10.index t 2 * 512 + 1 * (y 2).val := rfl
  have e3 : ((win0_10.blk t).view.emb y 3).val = win0_10.index t 3 * 128 + 1 * (y 3).val := rfl
  rw [idx10 t] at e0 e1 e2 e3
  refine (congrArg (out0_10 (F := Ideal) _ _ _ _ _ _ _ _ _) (eq_ix4 y)).trans ((out10_at _ _ _ _ _ _ _ _ _ (y 0) (y 1) (y 2) (y 3)).trans ?_)
  exact packed_at m c keys (fun _ => zeros) t y _ e0 e1 e2 e3 _ rfl

theorem final11 : (dats m 0 c).arrAt 11 cfg0.N = packed m c values fills := by
  refine (dats m 0 c).arrAt_eq_of_covers 11 _ (by decide +kernel) fun t hf y => ?_
  blk_simp
  rw [after0_11]
  revert y
  intro (y : S8x2x512x128.Idx)
  have e0 : ((win0_11.blk t).view.emb y 0).val = win0_11.index t 0 * 8 + 1 * (y 0).val := rfl
  have e1 : ((win0_11.blk t).view.emb y 1).val = win0_11.index t 1 * 2 + 1 * (y 1).val := rfl
  have e2 : ((win0_11.blk t).view.emb y 2).val = win0_11.index t 2 * 512 + 1 * (y 2).val := rfl
  have e3 : ((win0_11.blk t).view.emb y 3).val = win0_11.index t 3 * 128 + 1 * (y 3).val := rfl
  rw [idx11 t] at e0 e1 e2 e3
  refine (congrArg (out0_11 (F := Ideal) _ _ _ _ _ _ _ _ _) (eq_ix4 y)).trans ((out11_at _ _ _ _ _ _ _ _ _ (y 0) (y 1) (y 2) (y 3)).trans ?_)
  exact packed_at m c values fills t y _ e0 e1 e2 e3 _ rfl

end Cert.ProjectionsIdeal.Tile

end
-- ==== Proof.Projections.Run.lean ====
/- The results of the projections after the run: the queries as the kernel leaves them, the keys and the values put back in
   rows by the host lines after it. -/
module

public import proofs.«01_k».proof.Proof.Projections.Final

@[expose] public section

set_option maxRecDepth 65536

noncomputable section

namespace Cert.ProjectionsIdeal.Tile

open Cert.ProjectionsIdeal Cert.ProjectionsIdeal.Gen Idealize.ShloMosaic Idealize.ShloMosaic.TcCoe Idealize.SL.Sem Cert.Projections.Layer
open Cert.Dense.Layer (rms prod chunk)

set_option maxHeartbeats 4000000

/-- The element of a packed array that the host lines put in row `R`, column `n`. -/
def place (R : Fin 17408) (n : Fin 1024) : S8x2x17408x128.Idx :=
  ix4 ⟨n.val / 128, by omega⟩ ⟨n.val % 128 / 64, by omega⟩ R ⟨n.val % 128, by omega⟩

theorem place_lower (R : Fin 17408) (n : Fin 1024) (h : n.val % 128 < 64) :
    ix4 ⟨n.val / 128, by omega⟩ 0 R ⟨n.val % 128, by omega⟩ = place R n := by
  unfold place
  rw [show (⟨n.val % 128 / 64, by omega⟩ : Fin 2) = 0 from Fin.ext (by show n.val % 128 / 64 = 0; omega)]

theorem place_upper (R : Fin 17408) (n : Fin 1024) (h : ¬n.val % 128 < 64) :
    ix4 ⟨n.val / 128, by omega⟩ 1 R ⟨64 + (n.val % 128 - 64), by omega⟩ = place R n := by
  unfold place
  rw [show (⟨n.val % 128 / 64, by omega⟩ : Fin 2) = 1 from Fin.ext (by show n.val % 128 / 64 = 1; omega),
    show (⟨64 + (n.val % 128 - 64), by omega⟩ : Fin 128) = ⟨n.val % 128, by omega⟩ from Fin.ext (by dsimp only; omega)]

/-- The host lines after the kernel, on the keys. -/
theorem tail_keys (W : Valuation τ sig (Elt Ideal)) (R : Fin 17408) (n : Fin 1024) :
    (StableHlo.after hostOps1 W (Proc.devRef .tc main_v46) : Vec Ideal S17408x1024 .bf16) (ix2 R n)
      = (W (Proc.devRef .tc main_v39_1) : Vec Ideal S8x2x17408x128 .bf16) (place R n) := by
  after_reads_at
  by_cases h : n.val % 128 < 64
  · simp only [h, ↓reduceIte, ↓reduceDIte]
    after_reads_at
    exact congrArg _ (place_lower R n h)
  · simp only [h, ↓reduceIte, ↓reduceDIte]
    after_reads_at
    exact congrArg _ (place_upper R n h)

/-- The same lines, on the values. -/
theorem tail_values (W : Valuation τ sig (Elt Ideal)) (R : Fin 17408) (n : Fin 1024) :
    (StableHlo.after hostOps1 W (Proc.devRef .tc main_v53) : Vec Ideal S17408x1024 .bf16) (ix2 R n)
      = (W (Proc.devRef .tc main_v39_2) : Vec Ideal S8x2x17408x128 .bf16) (place R n) := by
  after_reads_at
  by_cases h : n.val % 128 < 64
  · simp only [h, ↓reduceIte, ↓reduceDIte]
    after_reads_at
    exact congrArg _ (place_lower R n h)
  · simp only [h, ↓reduceIte, ↓reduceDIte]
    after_reads_at
    exact congrArg _ (place_upper R n h)

variable (m : (ℓ : Loc nD τ sig) → Buf (Elt Ideal) ℓ)

/-- An element of a packed array at the place the host lines read it from is kept. -/
theorem packed_place (c : Dev nD) (f : (Fin 3072 → EReal) → Fin 1024 → EReal) (fill : Fin 2 → FVec Ideal S512x128 .f32) (R : Fin 17408) (n : Fin 1024) :
    packed m c f fill (place R n) = f (rows m c R) n := by
  refine (if_pos ?_ : packed m c f fill (place R n) = f (rows m c R) ⟨128 * (n.val / 128) + n.val % 128, by have := n.isLt; omega⟩).trans ?_
  · show n.val % 128 / 64 = n.val % 128 / 64; rfl
  · exact congrArg (f (rows m c R)) (Fin.ext (Nat.div_add_mod n.val 128))

/-- What the host lines after the kernel read: its arrays, as it leaves them. -/
theorem left_eq (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  (dats m 0 c).withArrays_arrAt sharedIn0 (V0 m c) (A_eq m c) w

/-- The run: the three results of each row, and the arguments unchanged. -/
theorem run_rows (ρ : Dev nD → PrngReg) :
    θ_run defs (onTc (τ := τ) (main (F := Ideal))) ⟨m, fun _ => 0, ρ⟩ fun r => ∀ c : Dev nD,
      r.2.mem ((c.tc : Thread nD τ).loc main_v39_0) = (fun i : S17408x1024.Idx => queries (rows m c (i 0)) (i 1))
      ∧ r.2.mem ((c.tc : Thread nD τ).loc main_v46) = (fun i : S17408x1024.Idx => keys (rows m c (i 0)) (i 1))
      ∧ r.2.mem ((c.tc : Thread nD τ).loc main_v53) = (fun i : S17408x1024.Idx => values (rows m c (i 0)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, ?_, ?_, h.2 c⟩) (θ_run_and (run_main (F := Ideal) m ρ) (unchanged (F := Ideal) m ρ))
  · exact ((h.1 c).1 9).trans (final9 m c)
  · refine ((h.1 c).2 main_v46 (Pipeline.mem_restRefs_of main_v46 (by decide) (by decide))).trans ?_
    funext (i : S17408x1024.Idx)
    refine (congrArg _ (eq_ix2 i)).trans ((tail_keys _ (i 0) (i 1)).trans ?_)
    exact (congrFun ((left_eq m c 10).trans (final10 m c)) (place (i 0) (i 1))).trans (packed_place m c _ _ (i 0) (i 1))
  · refine ((h.1 c).2 main_v53 (Pipeline.mem_restRefs_of main_v53 (by decide) (by decide))).trans ?_
    funext (i : S17408x1024.Idx)
    refine (congrArg _ (eq_ix2 i)).trans ((tail_values _ (i 0) (i 1)).trans ?_)
    exact (congrFun ((left_eq m c 11).trans (final11 m c)) (place (i 0) (i 1))).trans (packed_place m c _ _ (i 0) (i 1))

end Cert.ProjectionsIdeal.Tile

end
-- ==== Proof.Projections.Reference.lean ====
/- The reference of the projections at an index: the projections of each row, the latents' with the modulation of their
   batch element, the context's with the fifth. -/
module

public import proofs.«01_k».proof.Proof.Gen.ProjectionsReferenceIdeal.Run
public import proofs.«01_k».proof.Proof.Projections.Layer
public import Idealize.ShloMosaic.Lib.Pointwise

@[expose] public section

set_option maxRecDepth 65536

noncomputable section

namespace Cert.ProjectionsReferenceIdeal.Value

open Cert.ProjectionsReferenceIdeal Cert.ProjectionsReferenceIdeal.Gen Idealize.ShloMosaic Idealize.ShloMosaic.TcCoe Idealize.SL.Sem Cert.Projections.Layer
open Cert.Dense.Layer (rms prod chunk)

set_option maxHeartbeats 1000000

variable (x : FVec Ideal S17408x1024 .f32) (a : FVec Ideal S8x6144 .f32) (g : FVec Ideal S1024 .f32) (w : FVec Ideal S1024x3072 .f32)

/-- Row `R` of the projections. -/
def row (R : Fin 17408) : Fin 3072 → EReal :=
  projected (fun k => a (ix2 ⟨R.val / 4096, by omega⟩ k)) (fun k => x (ix2 R k)) (fun k => g (ix1 k)) (fun k n => w (ix2 k n))

/-! ## The latents -/

/-- The modulations of the batch elements, a chunk of them, and that chunk for every row. -/
def mods : FVec Ideal S4x1x6144 .f32 :=
  broadcastInDim S4x1x6144 ![0, 2] bcast_S4x6144_S4x1x6144_0_2 (extractStridedSlice S4x6144 ![0, 0] a slices_S8x6144_S4x6144_0_0)
def part (off : Fin 3 → ℕ) (h : S4x1x6144.Slices off S4x1x1024) : FVec Ideal S4x1x1024 .f32 := extractStridedSlice S4x1x1024 off (mods a) h
def every (b : FVec Ideal S4x1x1024 .f32) : FVec Ideal S4x4096x1024 .f32 :=
  broadcastInDim S4x4096x1024 ![0, 1, 2] bcast_S4x1x1024_S4x4096x1024_0_1_2 b

/-- Rows over their root mean squares, times the gain. -/
def normed (v : FVec Ideal S4x4096x1024 .f32) : FVec Ideal S4x4096x1024 .f32 :=
  mulf (mulf v (broadcastInDim S4x4096x1024 ![0, 1, 2] bcast_S4x4096x1_S4x4096x1024_0_1_2 (Host.rsqrt (addf (Host.divf (broadcastInDim S4x4096x1 ![0, 1] bcast_S4x4096_S4x4096x1_0_1
      (Host.reduceAdd (mulf v v) (constant S_ .f32 0x00000000#32) reducesTo_S4x4096x1024_S4x4096_d2 h_S_)) (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The latents' rows. -/
def latent : FVec Ideal S4x4096x1024 .f32 := shapeCast _ (extractStridedSlice S16384x1024 ![0, 0] x slices_S17408x1024_S16384x1024_0_0) shapeCasts_S16384x1024_S4x4096x1024

/-- Their product with the weights. -/
def latents : FVec Ideal S4x4096x3072 .f32 :=
  Host.dotGeneral dot_S4x4096x1024_S1024x3072_S4x4096x3072_2_0_01_1_n_n none
    (addf (mulf (normed g (latent x)) (every (addf (broadcastInDim S4x1x1024 ![] bcast_S_S4x1x1024 (constant S_ .f32 0x3F800000#32)) (part a ![0, 0, 1024] slices_S4x1x6144_S4x1x1024_0_0_1024))))
      (every (part a ![0, 0, 0] slices_S4x1x6144_S4x1x1024_0_0_0))) w

theorem normed_at (v : FVec Ideal S4x4096x1024 .f32) (b : Fin 4) (s : Fin 4096) (n : Fin 1024) :
    (normed g v (ix3 b s n) : EReal) = rms (fun k => v (ix3 b s k)) (fun k => g (ix1 k)) n := by
  pointwise [normed]
  rfl

theorem every_at (c : FVec Ideal S4x1x1024 .f32) (b : Fin 4) (s : Fin 4096) (n : Fin 1024) : every c (ix3 b s n) = c (ix3 b 0 n) := by
  pointwise [every]

theorem part_at (off : Fin 3 → ℕ) (h : S4x1x6144.Slices off S4x1x1024) (i : Fin 6) (e : off = ![0, 0, 1024 * i.val])
    (b : Fin 4) (n : Fin 1024) : (part a off h (ix3 b 0 n) : EReal) = chunk (fun k => a (ix2 ⟨b.val, by omega⟩ k)) i n := by
  subst e
  pointwise [part, mods]
  rfl

theorem latent_at (b : Fin 4) (s : Fin 4096) (n : Fin 1024) : latent x (ix3 b s n) = x (ix2 ⟨b.val * 4096 + s.val, by omega⟩ n) := by
  pointwise [latent]

theorem latents_at (b : Fin 4) (s : Fin 4096) (n : Fin 3072) :
    (latents x a g w (ix3 b s n) : EReal)
      = projected (fun k => a (ix2 ⟨b.val, by omega⟩ k)) (fun k => x (ix2 ⟨b.val * 4096 + s.val, by omega⟩ k)) (fun k => g (ix1 k)) (fun k n => w (ix2 k n)) n := by
  have h1 := fun k => part_at a ![0, 0, 1024] slices_S4x1x6144_S4x1x1024_0_0_1024 1 rfl b k
  have h0 := fun k => part_at a ![0, 0, 0] slices_S4x1x6144_S4x1x1024_0_0_0 0 rfl b k
  pointwise [latents, normed_at, every_at]
  simp only [h1, h0, latent_at]
  rfl

end Cert.ProjectionsReferenceIdeal.Value

namespace Cert.ProjectionsReferenceIdeal.Value.Context

open Cert.ProjectionsReferenceIdeal Cert.ProjectionsReferenceIdeal.Gen Idealize.ShloMosaic Idealize.ShloMosaic.TcCoe Idealize.SL.Sem Cert.Projections.Layer
open Cert.Dense.Layer (rms prod chunk)

set_option maxHeartbeats 1000000

variable (x : FVec Ideal S17408x1024 .f32) (a : FVec Ideal S8x6144 .f32) (g : FVec Ideal S1024 .f32) (w : FVec Ideal S1024x3072 .f32)

/-! ## The context -/

/-- A vector, for every row. -/
def every (b : FVec Ideal S1024 .f32) : FVec Ideal S4x256x1024 .f32 :=
  broadcastInDim S4x256x1024 ![0, 1, 2] bcast_S1x1x1024_S4x256x1024_0_1_2 (broadcastInDim S1x1x1024 ![2] bcast_S1024_S1x1x1024_2 b)

/-- A chunk of the context's modulation. -/
def part (off : Fin 1 → ℕ) (h : S6144.Slices off S1024) : FVec Ideal S1024 .f32 :=
  extractStridedSlice S1024 off (shapeCast S6144 (extractStridedSlice S1x6144 ![4, 0] a slices_S8x6144_S1x6144_4_0) shapeCasts_S1x6144_S6144) h

/-- Rows over their root mean squares, times the gain. -/
def normed (v : FVec Ideal S4x256x1024 .f32) : FVec Ideal S4x256x1024 .f32 :=
  mulf (mulf v (broadcastInDim S4x256x1024 ![0, 1, 2] bcast_S4x256x1_S4x256x1024_0_1_2 (Host.rsqrt (addf (Host.divf (broadcastInDim S4x256x1 ![0, 1] bcast_S4x256_S4x256x1_0_1
      (Host.reduceAdd (mulf v v) (constant S_ .f32 0x00000000#32) reducesTo_S4x256x1024_S4x256_d2 h_S_)) (broadcastInDim S4x256x1 ![] bcast_S_S4x256x1 (constant S_ .f32 0x44800000#32)))
      (broadcastInDim S4x256x1 ![] bcast_S_S4x256x1 (constant S_ .f32 0x358637BD#32)))))) (every g)

/-- The context's rows. -/
def context : FVec Ideal S4x256x1024 .f32 := shapeCast _ (extractStridedSlice S1024x1024 ![16384, 0] x slices_S17408x1024_S1024x1024_16384_0) shapeCasts_S1024x1024_S4x256x1024

/-- Their product with the weights. -/
def contexts : FVec Ideal S4x256x3072 .f32 :=
  Host.dotGeneral dot_S4x256x1024_S1024x3072_S4x256x3072_2_0_01_1_n_n none
    (addf (mulf (normed g (context x)) (every (addf (broadcastInDim S1024 ![] bcast_S_S1024 (constant S_ .f32 0x3F800000#32)) (part a ![1024] slices_S6144_S1024_1024))))
      (every (part a ![0] slices_S6144_S1024_0))) w

theorem every_at (c : FVec Ideal S1024 .f32) (b : Fin 4) (s : Fin 256) (n : Fin 1024) : every c (ix3 b s n) = c (ix1 n) := by
  pointwise [every]

theorem part_at (off : Fin 1 → ℕ) (h : S6144.Slices off S1024) (i : Fin 6) (e : off = ![1024 * i.val]) (n : Fin 1024) :
    (part a off h (ix1 n) : EReal) = chunk (fun k => a (ix2 4 k)) i n := by
  subst e
  pointwise [part]
  rfl

theorem normed_at (v : FVec Ideal S4x256x1024 .f32) (b : Fin 4) (s : Fin 256) (n : Fin 1024) :
    (normed g v (ix3 b s n) : EReal) = rms (fun k => v (ix3 b s k)) (fun k => g (ix1 k)) n := by
  pointwise [normed, every_at]
  rfl

theorem context_at (b : Fin 4) (s : Fin 256) (n : Fin 1024) : context x (ix3 b s n) = x (ix2 ⟨16384 + (b.val * 256 + s.val), by omega⟩ n) := by
  pointwise [context]

theorem contexts_at (b : Fin 4) (s : Fin 256) (n : Fin 3072) :
    (contexts x a g w (ix3 b s n) : EReal)
      = projected (fun k => a (ix2 4 k)) (fun k => x (ix2 ⟨16384 + (b.val * 256 + s.val), by omega⟩ k)) (fun k => g (ix1 k)) (fun k n => w (ix2 k n)) n := by
  have h1 := fun k => part_at a ![1024] slices_S6144_S1024_1024 1 rfl k
  have h0 := fun k => part_at a ![0] slices_S6144_S1024_0 0 rfl k
  pointwise [contexts, normed_at, every_at]
  simp only [h1, h0, context_at]
  rfl

/-- The rows of both, the latents' first. -/
def joined : FVec Ideal S17408x3072 .f32 :=
  concatenate S17408x3072 0 [⟨S16384x3072, shapeCast _ (latents x a g w) shapeCasts_S4x4096x3072_S16384x3072⟩,
    ⟨S1024x3072, shapeCast _ (contexts x a g w) shapeCasts_S4x256x3072_S1024x3072⟩] concatenates_S16384x3072_S1024x3072_S17408x3072_d0

theorem joined_at (R : Fin 17408) (n : Fin 3072) : (joined x a g w (ix2 R n) : EReal) = row x a g w R n := by
  unfold row
  by_cases h : R.val < 16384
  · have e : R = ⟨(⟨R.val / 4096, by omega⟩ : Fin 4).val * 4096 + (⟨R.val % 4096, by omega⟩ : Fin 4096).val, by dsimp only; omega⟩ :=
      Fin.ext (by dsimp only; omega)
    refine Eq.trans ?_ ((latents_at x a g w ⟨R.val / 4096, by omega⟩ ⟨R.val % 4096, by omega⟩ n).trans ?_)
    · pointwise [joined]
      simp only [h, ↓reduceIte, ↓reduceDIte]
    · exact congrArg (fun Q : Fin 17408 => projected (fun k => a (ix2 ⟨R.val / 4096, by omega⟩ k)) (fun k => x (ix2 Q k)) (fun k => g (ix1 k)) (fun k n => w (ix2 k n)) n) e.symm
  · have e : R = ⟨16384 + ((⟨(R.val - 16384) / 256, by omega⟩ : Fin 4).val * 256 + (⟨(R.val - 16384) % 256, by omega⟩ : Fin 256).val), by dsimp only; omega⟩ :=
      Fin.ext (by dsimp only; omega)
    have eb : (⟨R.val / 4096, by omega⟩ : Fin 8) = 4 := Fin.ext (by show R.val / 4096 = 4; omega)
    rw [eb]
    refine Eq.trans ?_ ((contexts_at x a g w ⟨(R.val - 16384) / 256, by omega⟩ ⟨(R.val - 16384) % 256, by omega⟩ n).trans ?_)
    · pointwise [joined]
      simp only [h, ↓reduceIte, ↓reduceDIte]
    · exact congrArg (fun Q : Fin 17408 => projected (fun k => a (ix2 4 k)) (fun k => x (ix2 Q k)) (fun k => g (ix1 k)) (fun k n => w (ix2 k n)) n) e.symm

variable (m : (ℓ : Loc nD τ sig) → Buf (Elt Ideal) ℓ) (c : Dev nD)

/-- The joined rows of the arguments. -/
def all : FVec Ideal S17408x3072 .f32 :=
  joined (m ((c.tc : Thread nD τ).loc main_arg0)) (m ((c.tc : Thread nD τ).loc main_arg1)) (m ((c.tc : Thread nD τ).loc main_arg2)) (m ((c.tc : Thread nD τ).loc main_arg3))

/-- Row `R` of the projections of the arguments. -/
def rows (R : Fin 17408) : Fin 3072 → EReal :=
  row (m ((c.tc : Thread nD τ).loc main_arg0)) (m ((c.tc : Thread nD τ).loc main_arg1)) (m ((c.tc : Thread nD τ).loc main_arg2)) (m ((c.tc : Thread nD τ).loc main_arg3)) R

theorem all_at (R : Fin 17408) (n : Fin 3072) : (all m c (ix2 R n) : EReal) = rows m c R n := joined_at _ _ _ _ R n

theorem queries_eq : res_main_v70 (F := Ideal) m c = fun i : S17408x1024.Idx => queries (rows m c (i 0)) (i 1) := by
  have h : res_main_v70 (F := Ideal) m c = truncf .bf16 (mulf (extractStridedSlice S17408x1024 ![0, 0] (all m c) slices_S17408x3072_S17408x1024_0_0)
      (broadcastInDim S17408x1024 ![] bcast_S_S17408x1024 (constant S_ .f32 0x3E000000#32))) bitsLt_bf16_f32 := rfl
  rw [h]
  funext (i : S17408x1024.Idx)
  rw [eq_ix2 i]
  pointwise [all_at]
  rfl

theorem keys_eq : res_main_v71 (F := Ideal) m c = fun i : S17408x1024.Idx => keys (rows m c (i 0)) (i 1) := by
  have h : res_main_v71 (F := Ideal) m c = truncf .bf16 (extractStridedSlice S17408x1024 ![0, 1024] (all m c) slices_S17408x3072_S17408x1024_0_1024) bitsLt_bf16_f32 := rfl
  rw [h]
  funext (i : S17408x1024.Idx)
  rw [eq_ix2 i]
  pointwise [all_at]
  rfl

theorem values_eq : res_main_v72 (F := Ideal) m c = fun i : S17408x1024.Idx => values (rows m c (i 0)) (i 1) := by
  have h : res_main_v72 (F := Ideal) m c = truncf .bf16 (extractStridedSlice S17408x1024 ![0, 2048] (all m c) slices_S17408x3072_S17408x1024_0_2048) bitsLt_bf16_f32 := rfl
  rw [h]
  funext (i : S17408x1024.Idx)
  rw [eq_ix2 i]
  pointwise [all_at]
  rfl

end Cert.ProjectionsReferenceIdeal.Value.Context

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_experts_exist
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseIdeal.Value
public import proofs.«01_k».proof.Proof.Gen.DenseReferenceIdeal
public import proofs.«01_k».proof.Proof.Gen.DenseReferenceIdeal.Run
public import proofs.«01_k».proof.Proof.Gen.Latent
public import proofs.«01_k».proof.Proof.Gen.Latent.Skeleton
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentIdeal.Value
public import proofs.«01_k».proof.Proof.Gen.LatentReferenceIdeal
public import proofs.«01_k».proof.Proof.Gen.LatentReferenceIdeal.Run
public import proofs.«01_k».proof.Proof.Gen.Projections
public import proofs.«01_k».proof.Proof.Gen.Projections.Skeleton
public import proofs.«01_k».proof.Proof.Gen.Projections.Launch
public import proofs.«01_k».proof.Proof.Gen.Projections.Points
public import proofs.«01_k».proof.Proof.Gen.Projections.Frame
public import proofs.«01_k».proof.Proof.Gen.ProjectionsIdeal
public import proofs.«01_k».proof.Proof.Gen.ProjectionsIdeal.Skeleton
public import proofs.«01_k».proof.Proof.Gen.ProjectionsIdeal.Launch
public import proofs.«01_k».proof.Proof.Gen.ProjectionsIdeal.Points
public import proofs.«01_k».proof.Proof.Gen.ProjectionsIdeal.Frame
public import proofs.«01_k».proof.Proof.Gen.ProjectionsReferenceIdeal
public import proofs.«01_k».proof.Proof.Gen.ProjectionsReferenceIdeal.Run
public import proofs.«01_k».proof.Proof.Gen.Pre_scores_finite
public import proofs.«01_k».proof.Proof.Attn.Final
public import proofs.«01_k».proof.Proof.Attn.Reference
public import proofs.«01_k».proof.Proof.Experts.Reference
public import proofs.«01_k».proof.Proof.Experts.Precondition
public import proofs.«01_k».proof.Proof.Experts.SameText
public import proofs.«01_k».proof.Proof.Dense.Final
public import proofs.«01_k».proof.Proof.Dense.ReferenceContext
public import proofs.«01_k».proof.Proof.Latent.Final
public import proofs.«01_k».proof.Proof.Latent.Reference
public import Idealize.ShloMosaic.Adequacy
public import Idealize.ShloMosaic.Init
public import proofs.«01_k».proof.Proof.Projections.Run
public import proofs.«01_k».proof.Proof.Projections.Reference

@[expose] public section

noncomputable section

namespace Cert.Proof

open Idealize.ShloMosaic Idealize.SL.Sem Cert.Kernel

/-- The reference runs, leaves its arguments alone, and has no semaphore. -/
theorem frame_reference : Cert.quiescent_ReferenceIdeal := fun m ρ _ => (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- On finite queries and keys the idealized kernel and the reference end with the same result. -/
theorem algebraic : Cert.algebraic_KernelIdeal_ReferenceIdeal_pre_finite := by
  intro m g m' g' hpre hargs
  refine ⟨fun c => (Cert.KernelIdeal.Gen.dats m 0 c).arrAt 5 Cert.KernelIdeal.cfg0.N, ?_, ?_⟩
  · run_from Cert.KernelIdeal.Value.run_blocks m g
  · run_from Cert.ReferenceIdeal.Value.run m' g'
    obtain ⟨hq, hk⟩ := Cert.KernelIdeal.Tile.real_of_pre m c hpre
    obtain ⟨e0, e1, e2⟩ := hargs c
    choose M hM using fun R C => Cert.ReferenceIdeal.Value.output_spec (Cert.KernelIdeal.Tile.argQ m c)
      (Cert.KernelIdeal.Tile.argK m c) (Cert.KernelIdeal.Tile.argV m c) hq hk R C
    rw [Cert.KernelIdeal.Tile.final m c hq hk M]
    refine (Cert.ReferenceIdeal.Value.res_eq m' c).trans ?_
    rw [e0, e1, e2]
    funext i
    exact (congrArg _ (eq_ix2 i)).trans (hM (i 0) (i 1))

/-- The experts call as compiled: its text is the idealized one's. -/
theorem frame_experts : Cert.quiescent_Experts := fun m ρ h => by
  rw [Cert.Experts.defs_eq]
  exact Cert.ExpertsIdeal.Any.frame (F := Bits) (Cert.ExpertsIdeal.Any.tablesOf m h) m ρ (Cert.ExpertsIdeal.Any.pinned m h)

/-- The experts call as idealized. -/
theorem frame_expertsIdeal : Cert.quiescent_ExpertsIdeal := fun m ρ h =>
  Cert.ExpertsIdeal.Any.frame (F := Ideal) (Cert.ExpertsIdeal.Any.tablesOf m h) m ρ (Cert.ExpertsIdeal.Any.pinned m h)

/-- The experts' reference. -/
theorem frame_expertsReference : Cert.quiescent_ExpertsReferenceIdeal := fun m ρ _ =>
  (θ_run Cert.ExpertsReferenceIdeal.defs _ _).mono (fun r h => ⟨fun c => (h c).2, Idealize.ShloMosaic.sem_eq_zero_of_no_sems (by decide) r.2⟩)
    (Cert.ExpertsReferenceIdeal.Value.run (F := Ideal) m ρ)

/-- With every tile's expert one of the eight, the idealized experts call and its reference end with the same result. -/
theorem algebraic_experts : Cert.algebraic_ExpertsIdeal_ExpertsReferenceIdeal := by
  intro m g m' g' hpre hargs
  refine ⟨fun c => (Cert.ExpertsIdeal.Any.dats (Cert.ExpertsIdeal.Any.tablesOf m hpre) m g 0 c).arrAt (3 : Fin 4)
    (Cert.ExpertsIdeal.Any.cfgA (F := Ideal) (Cert.ExpertsIdeal.Any.tablesOf m hpre)).N, ?_, ?_⟩
  · exact Cert.ExpertsIdeal.Any.run_blocks _ m g (Cert.ExpertsIdeal.Any.pinned m hpre)
  · refine (θ_run Cert.ExpertsReferenceIdeal.defs _ _).mono (fun r h c => ⟨(h c).1.trans ?_, (h c).2⟩)
      (Cert.ExpertsReferenceIdeal.Value.run_total m' g')
    obtain ⟨e0, e1, e2, e3, e4⟩ := hargs c
    refine Eq.trans ?_ (Cert.ExpertsIdeal.Any.final _ m g c).symm
    rw [e0, e1, e2, e3, e4]
    obtain rfl : c = 0 := Subsingleton.elim _ _
    funext i
    refine (congrArg _ (eq_ix2 i)).trans (Cert.ExpertsReferenceIdeal.Value.total_spec _ _ (fun t => rfl) _ _ _ _ (i 0) (i 1))

/-- The dense layer's reference. -/
theorem frame_denseReference : Cert.quiescent_DenseReferenceIdeal := fun m ρ _ =>
  (θ_run Cert.DenseReferenceIdeal.defs _ _).mono (fun r h => ⟨fun c => (h c).2, Idealize.ShloMosaic.sem_eq_zero_of_no_sems (by decide) r.2⟩)
    (Cert.DenseReferenceIdeal.Value.run (F := Ideal) m ρ)

/-- The idealized dense layer and its reference end with the same result. -/
theorem algebraic_dense : Cert.algebraic_DenseIdeal_DenseReferenceIdeal := by
  intro m g m' g' _ hargs
  refine ⟨fun c => (Cert.DenseIdeal.Gen.dats m 0 c).arrAt 11 Cert.DenseIdeal.cfg0.N, ?_, ?_⟩
  · run_from Cert.DenseIdeal.Value.run_blocks m g
  · refine (θ_run Cert.DenseReferenceIdeal.defs _ _).mono (fun r h c => ⟨(h c).1.trans ?_, (h c).2⟩)
      (Cert.DenseReferenceIdeal.Value.Context.run_joined m' g')
    obtain ⟨e0, e1, e2, e3, e4, e5, e6, e7, e8, e9, e10⟩ := hargs c
    refine Eq.trans ?_ (Cert.DenseIdeal.Tile.final m c).symm
    rw [e0, e1, e2, e3, e4, e5, e6, e7, e8, e9, e10]
    funext i
    exact (congrArg _ (eq_ix2 i)).trans (Cert.DenseReferenceIdeal.Value.Context.joined_at _ _ _ _ _ _ _ _ _ _ _ (i 0) (i 1))

/-- The latent attention's reference. -/
theorem frame_latentReference : Cert.quiescent_LatentReferenceIdeal := fun m ρ _ =>
  (θ_run Cert.LatentReferenceIdeal.defs _ _).mono (fun r h => ⟨fun c => (h c).2, Idealize.ShloMosaic.sem_eq_zero_of_no_sems (by decide) r.2⟩)
    (Cert.LatentReferenceIdeal.Value.run (F := Ideal) m ρ)

/-- On finite queries and keys the idealized latent attention and its reference end with the same result. -/
theorem algebraic_latent : Cert.algebraic_LatentIdeal_LatentReferenceIdeal_pre_scores_finite := by
  intro m g m' g' hpre hargs
  refine ⟨fun c => (Cert.LatentIdeal.Gen.dats m 0 c).arrAt 5 Cert.LatentIdeal.cfg0.N, ?_, ?_⟩
  · run_from Cert.LatentIdeal.Value.run_blocks m g
  · run_from Cert.LatentReferenceIdeal.Value.run m' g'
    have hr := Cert.LatentIdeal.Tile.real_of_pre m c hpre
    obtain ⟨e0, e1, e2, e3, e4⟩ := hargs c
    choose M hM using fun R C => Cert.LatentReferenceIdeal.Value.output_spec (Cert.LatentIdeal.Tile.argQn m c)
      (Cert.LatentIdeal.Tile.argQr m c) (Cert.LatentIdeal.Tile.argKn m c) (Cert.LatentIdeal.Tile.argKr m c)
      (Cert.LatentIdeal.Tile.argV m c) hr.qn hr.qr hr.kn hr.kr R C
    rw [Cert.LatentIdeal.Tile.final m c hr M]
    refine (Cert.LatentReferenceIdeal.Value.res_eq m' c).trans ?_
    rw [e0, e1, e2, e3, e4]
    funext i
    exact (congrArg _ (eq_ix2 i)).trans (hM (i 0) (i 1))

/-- The projections' reference. -/
theorem frame_projectionsReference : Cert.quiescent_ProjectionsReferenceIdeal := fun m ρ _ =>
  (θ_run Cert.ProjectionsReferenceIdeal.defs _ _).mono (fun r h => ⟨fun c => (h c).2.2.2, Idealize.ShloMosaic.sem_eq_zero_of_no_sems (by decide) r.2⟩)
    (Cert.ProjectionsReferenceIdeal.Value.run (F := Ideal) m ρ)

/-- The rows that the two sides' results are read off are the same where the arguments are. -/
theorem projected_rows_eq (m : (ℓ : Loc Cert.ProjectionsIdeal.nD Cert.ProjectionsIdeal.τ Cert.ProjectionsIdeal.sig) → Buf (Elt Ideal) ℓ)
    (m' : (ℓ : Loc Cert.ProjectionsReferenceIdeal.nD Cert.ProjectionsReferenceIdeal.τ Cert.ProjectionsReferenceIdeal.sig) → Buf (Elt Ideal) ℓ)
    (c : Dev Cert.ProjectionsIdeal.nD)
    (e : m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)) :
    Cert.ProjectionsReferenceIdeal.Value.Context.rows m' c = Cert.ProjectionsIdeal.Tile.rows m c := by
  obtain ⟨e0, e1, e2, e3⟩ := e
  unfold Cert.ProjectionsReferenceIdeal.Value.Context.rows
  rw [e0, e1, e2, e3]
  rfl

/-- The idealized projections and their reference end with the same queries, keys and values. -/
theorem algebraic_projections : Cert.algebraic_ProjectionsIdeal_ProjectionsReferenceIdeal := by
  intro m g m' g' _ hargs
  refine ⟨_, _, _, Cert.ProjectionsIdeal.Tile.run_rows m g, ?_⟩
  refine (θ_run Cert.ProjectionsReferenceIdeal.defs _ _).mono (fun r h c => ?_) (Cert.ProjectionsReferenceIdeal.Value.run (F := Ideal) m' g')
  obtain ⟨h0, h1, h2, ha⟩ := h c
  rw [← projected_rows_eq m m' c (hargs c)]
  exact ⟨h0.trans (Cert.ProjectionsReferenceIdeal.Value.Context.queries_eq m' c),
    h1.trans (Cert.ProjectionsReferenceIdeal.Value.Context.keys_eq m' c),
    h2.trans (Cert.ProjectionsReferenceIdeal.Value.Context.values_eq m' c), ha⟩

theorem claim : Cert.Claim := ⟨Cert.Kernel.Gen.facts, Cert.KernelIdeal.Gen.facts, Cert.ReferenceIdeal.Gen.facts, Cert.Experts.Gen.facts,
  Cert.ExpertsIdeal.Gen.facts, Cert.ExpertsReferenceIdeal.Gen.facts,
  Cert.Dense.Gen.facts, Cert.DenseIdeal.Gen.facts, Cert.DenseReferenceIdeal.Gen.facts,
  Cert.Latent.Gen.facts, Cert.LatentIdeal.Gen.facts, Cert.LatentReferenceIdeal.Gen.facts,
  Cert.Projections.Gen.facts, Cert.ProjectionsIdeal.Gen.facts, Cert.ProjectionsReferenceIdeal.Gen.facts,
  Cert.Pre_finite.Gen.facts, Cert.Pre_experts_exist.Gen.facts, Cert.Pre_scores_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  frame_experts,
  frame_expertsIdeal,
  frame_expertsReference,
  fun m ρ _ => frame_expertsReference m ρ trivial,
  fun m ρ _ => Cert.Dense.Gen.frame m ρ,
  fun m ρ _ => Cert.DenseIdeal.Gen.frame m ρ,
  frame_denseReference,
  fun m ρ _ => Cert.Latent.Gen.frame m ρ,
  fun m ρ _ => Cert.LatentIdeal.Gen.frame m ρ,
  fun m ρ _ => Cert.LatentIdeal.Gen.frame m ρ,
  frame_latentReference,
  fun m ρ _ => frame_latentReference m ρ trivial,
  fun m ρ _ => Cert.Projections.Gen.frame m ρ,
  fun m ρ _ => Cert.ProjectionsIdeal.Gen.frame m ρ,
  frame_projectionsReference,
  trivial,
  algebraic,
  trivial,
  algebraic_experts,
  trivial,
  algebraic_dense,
  trivial,
  algebraic_latent,
  trivial,
  algebraic_projections⟩

end Cert.Proof

end
